-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S256x4096 : Shape := ⟨2, ![256, 4096]⟩
abbrev S2x256x4096 : Shape := ⟨3, ![2, 256, 4096]⟩
abbrev S16x128 : Shape := ⟨2, ![16, 128]⟩
abbrev S2 : Shape := ⟨1, ![2]⟩
abbrev S_ : Shape := ⟨0, ![]⟩
abbrev S15 : Shape := ⟨1, ![15]⟩
abbrev S16 : Shape := ⟨1, ![16]⟩
abbrev S256x256 : Shape := ⟨2, ![256, 256]⟩
abbrev S1 : Shape := ⟨1, ![1]⟩
abbrev S1x256x4096 : Shape := ⟨3, ![1, 256, 4096]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 3
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S4096x8192, .f32⟩
  | .local _ .vmem, ⟨0, _⟩ => ⟨S4096x256, .f32⟩
  | .local _ .vmem, ⟨1, _⟩ => ⟨S256x8192, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S2x256x4096, .fp8e4m3⟩
  | .local _ .vmem, ⟨9, _⟩ => ⟨S2x256x4096, .fp8e4m3⟩
  | .local _ .vmem, ⟨10, _⟩ => ⟨S16x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 4 47 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v13 : BitVec 32 := Scalar.muli v2 c256_i32
  let v14 : Index := Scalar.indexCast v13
  let c0 : Index := 0#32
  ![v14.toNat, 0]
@[reducible] def k0_t1_loop : Scf.Loop 32 :=
  let c0_i32_20 : BitVec 32 := 0#32
  let c15_i32 : BitVec 32 := 15#32
  let v33 : BitVec 32 := Scalar.addi c0_i32_20 c15_i32
  let c1_i32_21 : BitVec 32 := 1#32
  ⟨c0_i32_20, v33, c1_i32_21⟩
def k0_dev3 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_103 : BitVec 32 := 1#32
  let v133 : BitVec 32 := Scalar.muli v7 c1_i32_103
  let v134 : BitVec 32 := Scalar.addi c0_i32_104 v133
  v134.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_107 : BitVec 32 := 1#32
  let v139 : BitVec 32 := Scalar.muli v5 c1_i32_107
  let v140 : BitVec 32 := Scalar.addi c0_i32_108 v139
  v140.toNat
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_20 : BitVec 32 := 0#32
  let c1_i32_21 : BitVec 32 := 1#32
  let arg24 : BitVec 32 := Scf.iv c0_i32_20 c1_i32_21 k0_t1
  let v145 : BitVec 32 := Scalar.subi v2 arg24
  let c1_i32_109 : BitVec 32 := 1#32
  let v146 : BitVec 32 := Scalar.subi v145 c1_i32_109
  let c16_i32_110 : BitVec 32 := 16#32
  let v147 : BitVec 32 := Scalar.addi v146 c16_i32_110
  let c16_i32_111 : BitVec 32 := 16#32
  let v148 : BitVec 32 := Scalar.remsi v147 c16_i32_111
  let c256_i32_114 : BitVec 32 := 256#32
  let v152 : BitVec 32 := Scalar.muli v148 c256_i32_114
  let v153 : Index := Scalar.indexCast v152
  let c0_115 : Index := 0#32
  ![v153.toNat, 0]
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_20 : BitVec 32 := 0#32
  let c1_i32_21 : BitVec 32 := 1#32
  let arg24 : BitVec 32 := Scf.iv c0_i32_20 c1_i32_21 k0_t1
  let v149 : BitVec 32 := Scalar.addi v2 arg24
  let c1_i32_112 : BitVec 32 := 1#32
  let v150 : BitVec 32 := Scalar.addi v149 c1_i32_112
  let c16_i32_113 : BitVec 32 := 16#32
  let v151 : BitVec 32 := Scalar.remsi v150 c16_i32_113
  let c256_i32_121 : BitVec 32 := 256#32
  let v162 : BitVec 32 := Scalar.muli v151 c256_i32_121
  let v163 : Index := Scalar.indexCast v162
  let c0_122 : Index := 0#32
  ![v163.toNat, 0]
def k0_cond2 (k0_t1 : Fin k0_t1_loop.trips) : BitVec 1 :=
  let c0_i32_20 : BitVec 32 := 0#32
  let c1_i32_21 : BitVec 32 := 1#32
  let arg24 : BitVec 32 := Scf.iv c0_i32_20 c1_i32_21 k0_t1
  let c13_i32 : BitVec 32 := 13#32
  let v196 : BitVec 1 := Scalar.cmpi .sle arg24 c13_i32
  let v197 : BitVec 32 := Scalar.extui v196
  let c0_i32_154 : BitVec 32 := 0#32
  let v198 : BitVec 1 := Scalar.cmpi .ne v197 c0_i32_154
  v198

def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_156 : BitVec 32 := 1#32
  let v199 : BitVec 32 := Scalar.muli v5 c1_i32_156
  let v200 : BitVec 32 := Scalar.addi c0_i32_157 v199
  v200.toNat
def k0_dev6 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_159 : BitVec 32 := 1#32
  let v201 : BitVec 32 := Scalar.muli v7 c1_i32_159
  let v202 : BitVec 32 := Scalar.addi c0_i32_160 v201
  v202.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v46 : Index := Scalar.indexCast v2
  let c0_29 : Index := 0#32
  ![v46.toNat, 0]
@[reducible] def k0_t2_loop : Scf.Loop 32 :=
  let c1_i32_30 : BitVec 32 := 1#32
  let c15_i32_31 : BitVec 32 := 15#32
  let v50 : BitVec 32 := Scalar.addi c1_i32_30 c15_i32_31
  let c1_i32_32 : BitVec 32 := 1#32
  ⟨c1_i32_30, v50, c1_i32_32⟩
def k0_off5 (k0_t2 : Fin k0_t2_loop.trips) : Fin 1 → Nat :=
  let c1_i32_30 : BitVec 32 := 1#32
  let c1_i32_32 : BitVec 32 := 1#32
  let arg24 : BitVec 32 := Scf.iv c1_i32_30 c1_i32_32 k0_t2
  let c1_i32_99 : BitVec 32 := 1#32
  let v130 : BitVec 32 := Scalar.subi arg24 c1_i32_99
  ![v130.toNat]
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  ![v2.toNat, 0]
def k0_dev7 (d0 : Dev nD) (k0_t2 : Fin k0_t2_loop.trips) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let c1_i32_32 : BitVec 32 := 1#32
  let arg24 : BitVec 32 := Scf.iv c1_i32_30 c1_i32_32 k0_t2
  let v131 : BitVec 32 := Scalar.addi v2 arg24
  let c16_i32_100 : BitVec 32 := 16#32
  let v132 : BitVec 32 := Scalar.remsi v131 c16_i32_100
  let c1_i32_101 : BitVec 32 := 1#32
  let v133 : BitVec 32 := Scalar.muli v132 c1_i32_101
  let v134 : BitVec 32 := Scalar.addi c0_i32_102 v133
  v134.toNat
@[reducible] def k0_t3_loop : Scf.Loop 32 :=
  let c1_i32_34 : BitVec 32 := 1#32
  let c15_i32_35 : BitVec 32 := 15#32
  let v51 : BitVec 32 := Scalar.addi c1_i32_34 c15_i32_35
  let c1_i32_36 : BitVec 32 := 1#32
  ⟨c1_i32_34, v51, c1_i32_36⟩
def k0_off8 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let c1_i32_36 : BitVec 32 := 1#32
  let arg24 : BitVec 32 := Scf.iv c1_i32_34 c1_i32_36 k0_t3
  let v130 : BitVec 32 := Scalar.addi v2 arg24
  let c16_i32_99 : BitVec 32 := 16#32
  let v131 : BitVec 32 := Scalar.remsi v130 c16_i32_99
  ![v131.toNat]
def k0_off9 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let c1_i32_36 : BitVec 32 := 1#32
  let arg24 : BitVec 32 := Scf.iv c1_i32_34 c1_i32_36 k0_t3
  let v130 : BitVec 32 := Scalar.addi v2 arg24
  let c16_i32_99 : BitVec 32 := 16#32
  let v131 : BitVec 32 := Scalar.remsi v130 c16_i32_99
  let c0_i32_104 : BitVec 32 := 0#32
  ![v131.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_105 : BitVec 32 := 0#32
  ![v2.toNat, 0]
def k0_off11 (k0_t3 : Fin k0_t3_loop.trips) : Fin 1 → Nat :=
  let c1_i32_34 : BitVec 32 := 1#32
  let c1_i32_36 : BitVec 32 := 1#32
  let arg24 : BitVec 32 := Scf.iv c1_i32_34 c1_i32_36 k0_t3
  let c1_i32_106 : BitVec 32 := 1#32
  let v141 : BitVec 32 := Scalar.subi arg24 c1_i32_106
  ![v141.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v85 : BitVec 32 := Scalar.addi v2 c1_i32_61
  let c16_i32_62 : BitVec 32 := 16#32
  let v86 : BitVec 32 := Scalar.remsi v85 c16_i32_62
  let c256_i32_63 : BitVec 32 := 256#32
  let v87 : BitVec 32 := Scalar.muli v86 c256_i32_63
  let c0_i32_64 : BitVec 32 := 0#32
  ![v87.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_80 : BitVec 32 := 1#32
  let v112 : BitVec 32 := Scalar.subi v2 c1_i32_80
  let c16_i32_81 : BitVec 32 := 16#32
  let v113 : BitVec 32 := Scalar.addi v112 c16_i32_81
  let c16_i32_82 : BitVec 32 := 16#32
  let v114 : BitVec 32 := Scalar.remsi v113 c16_i32_82
  let c256_i32_83 : BitVec 32 := 256#32
  let v115 : BitVec 32 := Scalar.muli v114 c256_i32_83
  let c4096_i32 : BitVec 32 := 4096#32
  ![v115.toNat, 4096]
@[reducible] def k0_t4_loop : Scf.Loop 32 :=
  let c0_i32_86 : BitVec 32 := 0#32
  let c15_i32_87 : BitVec 32 := 15#32
  let v119 : BitVec 32 := Scalar.addi c0_i32_86 c15_i32_87
  let c1_i32_88 : BitVec 32 := 1#32
  ⟨c0_i32_86, v119, c1_i32_88⟩
def k0_off14 (k0_t4 : Fin k0_t4_loop.trips) : Fin 1 → Nat :=
  let c0_i32_86 : BitVec 32 := 0#32
  let c1_i32_88 : BitVec 32 := 1#32
  let arg24 : BitVec 32 := Scf.iv c0_i32_86 c1_i32_88 k0_t4
  let c1_i32_99 : BitVec 32 := 1#32
  let v130 : BitVec 32 := Scalar.addi arg24 c1_i32_99
  let c2_i32_100 : BitVec 32 := 2#32
  let v131 : BitVec 32 := Scalar.remsi v130 c2_i32_100
  ![v131.toNat]
def k0_off15 (k0_t4 : Fin k0_t4_loop.trips) : Fin 3 → Nat :=
  let c0_i32_86 : BitVec 32 := 0#32
  let c1_i32_88 : BitVec 32 := 1#32
  let arg24 : BitVec 32 := Scf.iv c0_i32_86 c1_i32_88 k0_t4
  let c1_i32_99 : BitVec 32 := 1#32
  let v130 : BitVec 32 := Scalar.addi arg24 c1_i32_99
  let c2_i32_100 : BitVec 32 := 2#32
  let v131 : BitVec 32 := Scalar.remsi v130 c2_i32_100
  let c0_i32_106 : BitVec 32 := 0#32
  let c0_i32_107 : BitVec 32 := 0#32
  ![v131.toNat, 0, 0]
def k0_off16 (k0_t4 : Fin k0_t4_loop.trips) : Fin 3 → Nat :=
  let c1_i32_101 : BitVec 32 := 1#32
  let c0_i32_86 : BitVec 32 := 0#32
  let c1_i32_88 : BitVec 32 := 1#32
  let arg24 : BitVec 32 := Scf.iv c0_i32_86 c1_i32_88 k0_t4
  let c1_i32_99 : BitVec 32 := 1#32
  let v130 : BitVec 32 := Scalar.addi arg24 c1_i32_99
  let c2_i32_100 : BitVec 32 := 2#32
  let v131 : BitVec 32 := Scalar.remsi v130 c2_i32_100
  let v132 : BitVec 32 := Scalar.subi c1_i32_101 v131
  let c0_i32_108 : BitVec 32 := 0#32
  let c0_i32_109 : BitVec 32 := 0#32
  ![v132.toNat, 0, 0]
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_104 : BitVec 32 := 1#32
  let v136 : BitVec 32 := Scalar.muli v7 c1_i32_104
  let v137 : BitVec 32 := Scalar.addi c0_i32_105 v136
  v137.toNat
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_110 : BitVec 32 := 1#32
  let v146 : BitVec 32 := Scalar.muli v5 c1_i32_110
  let v147 : BitVec 32 := Scalar.addi c0_i32_111 v146
  v147.toNat
def k0_cond4 (k0_t4 : Fin k0_t4_loop.trips) : BitVec 1 :=
  let c0_i32_86 : BitVec 32 := 0#32
  let c1_i32_88 : BitVec 32 := 1#32
  let arg24 : BitVec 32 := Scf.iv c0_i32_86 c1_i32_88 k0_t4
  let c1_i32_138 : BitVec 32 := 1#32
  let v184 : BitVec 1 := Scalar.cmpi .sge arg24 c1_i32_138
  let v185 : BitVec 32 := Scalar.extui v184
  let c0_i32_139 : BitVec 32 := 0#32
  let v186 : BitVec 1 := Scalar.cmpi .ne v185 c0_i32_139
  v186

def k0_off17 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_86 : BitVec 32 := 0#32
  let c1_i32_88 : BitVec 32 := 1#32
  let arg24 : BitVec 32 := Scf.iv c0_i32_86 c1_i32_88 k0_t4
  let v217 : BitVec 32 := Scalar.subi v2 arg24
  let c1_i32_156 : BitVec 32 := 1#32
  let v218 : BitVec 32 := Scalar.addi v217 c1_i32_156
  let c16_i32_157 : BitVec 32 := 16#32
  let v219 : BitVec 32 := Scalar.addi v218 c16_i32_157
  let c16_i32_158 : BitVec 32 := 16#32
  let v220 : BitVec 32 := Scalar.remsi v219 c16_i32_158
  let c256_i32_159 : BitVec 32 := 256#32
  let v221 : BitVec 32 := Scalar.muli v220 c256_i32_159
  let c0_i32_160 : BitVec 32 := 0#32
  ![v221.toNat, 0]
def k0_off18 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_86 : BitVec 32 := 0#32
  let c1_i32_88 : BitVec 32 := 1#32
  let arg24 : BitVec 32 := Scf.iv c0_i32_86 c1_i32_88 k0_t4
  let v223 : BitVec 32 := Scalar.addi v2 arg24
  let c1_i32_161 : BitVec 32 := 1#32
  let v224 : BitVec 32 := Scalar.subi v223 c1_i32_161
  let c16_i32_162 : BitVec 32 := 16#32
  let v225 : BitVec 32 := Scalar.remsi v224 c16_i32_162
  let c256_i32_163 : BitVec 32 := 256#32
  let v226 : BitVec 32 := Scalar.muli v225 c256_i32_163
  let c4096_i32_164 : BitVec 32 := 4096#32
  ![v226.toNat, 4096]
def k0_cond5 (k0_t4 : Fin k0_t4_loop.trips) : BitVec 1 :=
  let c0_i32_86 : BitVec 32 := 0#32
  let c1_i32_88 : BitVec 32 := 1#32
  let arg24 : BitVec 32 := Scf.iv c0_i32_86 c1_i32_88 k0_t4
  let c13_i32 : BitVec 32 := 13#32
  let v187 : BitVec 1 := Scalar.cmpi .sle arg24 c13_i32
  let v188 : BitVec 32 := Scalar.extui v187
  let c0_i32_140 : BitVec 32 := 0#32
  let v189 : BitVec 1 := Scalar.cmpi .ne v188 c0_i32_140
  v189

def k0_dev10 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_157 : BitVec 32 := 1#32
  let v217 : BitVec 32 := Scalar.muli v5 c1_i32_157
  let v218 : BitVec 32 := Scalar.addi c0_i32_158 v217
  v218.toNat
def k0_dev11 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_160 : BitVec 32 := 1#32
  let v219 : BitVec 32 := Scalar.muli v7 c1_i32_160
  let v220 : BitVec 32 := Scalar.addi c0_i32_161 v219
  v220.toNat
def k0_off19 (k0_t4 : Fin k0_t4_loop.trips) : Fin 3 → Nat :=
  let c0_i32_86 : BitVec 32 := 0#32
  let c1_i32_88 : BitVec 32 := 1#32
  let arg24 : BitVec 32 := Scf.iv c0_i32_86 c1_i32_88 k0_t4
  let c1_i32_99 : BitVec 32 := 1#32
  let v130 : BitVec 32 := Scalar.addi arg24 c1_i32_99
  let c2_i32_100 : BitVec 32 := 2#32
  let v131 : BitVec 32 := Scalar.remsi v130 c2_i32_100
  let v193 : Index := Scalar.indexCast v131
  let c0_143 : Index := 0#32
  let c0_144 : Index := 0#32
  ![v193.toNat, 0, 0]
def k0_off20 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_86 : BitVec 32 := 0#32
  let c1_i32_88 : BitVec 32 := 1#32
  let arg24 : BitVec 32 := Scf.iv c0_i32_86 c1_i32_88 k0_t4
  let v190 : BitVec 32 := Scalar.subi v2 arg24
  let c16_i32_141 : BitVec 32 := 16#32
  let v191 : BitVec 32 := Scalar.addi v190 c16_i32_141
  let c16_i32_142 : BitVec 32 := 16#32
  let v192 : BitVec 32 := Scalar.remsi v191 c16_i32_142
  let c256_i32_147 : BitVec 32 := 256#32
  let v202 : BitVec 32 := Scalar.muli v192 c256_i32_147
  let c0_i32_148 : BitVec 32 := 0#32
  ![v202.toNat, 0]
def k0_off21 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_86 : BitVec 32 := 0#32
  let c1_i32_88 : BitVec 32 := 1#32
  let arg24 : BitVec 32 := Scf.iv c0_i32_86 c1_i32_88 k0_t4
  let v204 : BitVec 32 := Scalar.addi v2 arg24
  let c16_i32_149 : BitVec 32 := 16#32
  let v205 : BitVec 32 := Scalar.remsi v204 c16_i32_149
  let c256_i32_154 : BitVec 32 := 256#32
  let v215 : BitVec 32 := Scalar.muli v205 c256_i32_154
  let c4096_i32_155 : BitVec 32 := 4096#32
  ![v215.toNat, 4096]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v120 : BitVec 32 := Scalar.subi v2 c14_i32
  let c16_i32_90 : BitVec 32 := 16#32
  let v121 : BitVec 32 := Scalar.addi v120 c16_i32_90
  let c16_i32_91 : BitVec 32 := 16#32
  let v122 : BitVec 32 := Scalar.remsi v121 c16_i32_91
  let c256_i32_92 : BitVec 32 := 256#32
  let v123 : BitVec 32 := Scalar.muli v122 c256_i32_92
  let c0_i32_93 : BitVec 32 := 0#32
  ![v123.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_94 : BitVec 32 := 16#32
  let v125 : BitVec 32 := Scalar.addi v2 c16_i32_94
  let c2_i32_95 : BitVec 32 := 2#32
  let v126 : BitVec 32 := Scalar.subi v125 c2_i32_95
  let c16_i32_96 : BitVec 32 := 16#32
  let v127 : BitVec 32 := Scalar.remsi v126 c16_i32_96
  let c256_i32_97 : BitVec 32 := 256#32
  let v128 : BitVec 32 := Scalar.muli v127 c256_i32_97
  let c4096_i32_98 : BitVec 32 := 4096#32
  ![v128.toNat, 4096]
def k0_dev12 (d0 : Dev nD) : Nat :=
  let c0_i32_101_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_100_r0 : BitVec 32 := 1#32
  let v131_r0 : BitVec 32 := Scalar.muli v5 c1_i32_100_r0
  let v132_r0 : BitVec 32 := Scalar.addi c0_i32_101_r0 v131_r0
  v132_r0.toNat
def k0_dev13 (d0 : Dev nD) : Nat :=
  let c0_i32_104_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_103_r0 : BitVec 32 := 1#32
  let v133_r0 : BitVec 32 := Scalar.muli v7 c1_i32_103_r0
  let v134_r0 : BitVec 32 := Scalar.addi c0_i32_104_r0 v133_r0
  v134_r0.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 16
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S4096x8192, .f32⟩
  | .hbm, ⟨14, _⟩ => ⟨S4096x8192, .f32⟩
  | .hbm, ⟨15, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Proto.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-!
# The protocol of the sixteen devices

Two rings run in opposite directions: the left half of the columns travels to the right neighbour, the right half to the
left one. Fifteen hops add up the row chunks, every device then sends its maximum to all others, and fifteen more hops
pass the quantised chunks around. This file names the devices, the contents every buffer has at every stage, and the
schedule of every semaphore: who raises it in which round, and what ownership that hands over.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds algebra of the kernel's own semaphores: two duties per round where two devices pay. -/
abbrev UB : Type := URounds (GSem nD τ sig) Bool
/-- The pipeline's rounds beside the kernel's. -/
abbrev UU : Type := UR sig nD τ × UB

local notation "𝕄" => MT nD τ sig ℕ (Elt F) ℕ UU ℕ

/-- The pipeline's half of the algebra. -/
abbrev EP : Emb (UR sig nD τ) (MT nD τ sig ℕ (Elt F) ℕ UU ℕ) := embL
/-- The kernel's half of the algebra. -/
abbrev ER : Emb UB (MT nD τ sig ℕ (Elt F) ℕ UU ℕ) := embR

variable (m : (ℓ : Loc nD τ sig) → Buf (Elt F) ℓ) (ρ : Dev nD → PrngReg)

/-- The memory at launch: arbitrary contents, counters zero, arbitrary generator registers. -/
def s₀ : MemSt nD τ sig (Elt F) := ⟨m, fun _ => 0, ρ⟩

/-- No loop variants are tracked. -/
abbrev 𝒱₀ : Variants := Variants.none

/-! ## The devices -/

/-- The device `n` places to the right of `c` on the ring. -/
def dv (c : Dev nD) (n : ℕ) : Dev nD := ⟨(c.val + n) % 16, Nat.mod_lt _ (by decide)⟩

/-- The number of the device `n` to the right. -/
theorem dv_val (c : Dev nD) (n : ℕ) : (dv c n).val = (c.val + n) % 16 := rfl

/-- Going right twice. -/
theorem dv_dv (c : Dev nD) (a b : ℕ) : dv (dv c a) b = dv c (a + b) := by
  apply Fin.ext; simp only [dv_val]; omega

/-- Going right by numbers equal modulo sixteen. -/
theorem dv_congr (c : Dev nD) {a b : ℕ} (h : a % 16 = b % 16) : dv c a = dv c b := by
  apply Fin.ext; simp only [dv_val]; omega

/-- Going right by a multiple of sixteen. -/
theorem dv_zero (c : Dev nD) {a : ℕ} (h : a % 16 = 0) : dv c a = c := by
  apply Fin.ext; simp only [dv_val]; have := c.isLt; simp only [nD] at this; omega

/-- Shifting by `n` is a permutation of the devices. -/
def dvEquiv (n : ℕ) : Dev nD ≃ Dev nD :=
  ⟨fun c => dv c n, fun c => dv c (15 * n), fun c => (dv_dv c n (15 * n)).trans (dv_zero c (by omega)),
    fun c => (dv_dv c (15 * n) n).trans (dv_zero c (by omega))⟩

/-! ## The contents -/

/-- The staged left operand of device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The staged right operand of device `c`. -/
def wstg (c : Dev nD) : (cc0_stg1_0 : Ref sig .tc).ty.Contents (Elt F) :=
  (win0_1.blk (0 : Fin 1)).view.read (Elt F) ((s₀ m ρ).mem ((c : Thread nD τ).loc main_arg1))

/-- The rows of a staged left operand that start at `off`. -/
def xat (X : (cc0_stg0_0 : Ref sig .tc).ty.Contents (Elt F)) (off : Fin 2 → ℕ) (h : ∀ a, off a + S256x256.size a ≤ S4096x256.size a) : Vec F S256x256 .f32 :=
  (Memref.whole cc0_stg0_0).view.readAt (Elt F) (Rect.unit (s := S4096x256) off S256x256.size h).toLoadRect X
/-- The columns of a staged right operand that start at `off`. -/
def wat (X : (cc0_stg1_0 : Ref sig .tc).ty.Contents (Elt F)) (off : Fin 2 → ℕ) (h : ∀ a, off a + S256x4096.size a ≤ S256x8192.size a) : Vec F S256x4096 .f32 :=
  (Memref.whole cc0_stg1_0).view.readAt (Elt F) (Rect.unit (s := S256x8192) off S256x4096.size h).toLoadRect X

omit [FloatOps F] in
/-- Reading rows only depends on the offsets. -/
theorem xat_congr (X : (cc0_stg0_0 : Ref sig .tc).ty.Contents (Elt F)) {o o' : Fin 2 → ℕ} (e : o = o') (h h') : xat X o h = xat X o' h' := by subst e; rfl

/-- Row chunk `r` lies inside the left operand. -/
theorem xat_inb (r : Dev nD) : ∀ a, (![256 * r.val, 0] : Fin 2 → ℕ) a + S256x256.size a ≤ S4096x256.size a := by
  intro a; have := r.isLt; simp only [nD] at this
  fin_cases a
  · show 256 * r.val + 256 ≤ 4096; omega
  · show 0 + 256 ≤ 256; omega
/-- Either half of the columns lies inside the right operand. -/
theorem wat_inbP : ∀ a, (![0, 0] : Fin 2 → ℕ) a + S256x4096.size a ≤ S256x8192.size a := by decide
/-- The right half of the columns lies within `w`. -/
theorem wat_inbN : ∀ a, (![0, 4096] : Fin 2 → ℕ) a + S256x4096.size a ≤ S256x8192.size a := by decide

/-- Device `c`'s product of row chunk `r` with the left half of the columns. -/
def gP (c r : Dev nD) : FVec F S256x4096 .f32 := k0_pay3 (xat (xstg m ρ c) ![256 * r.val, 0] (xat_inb r)) (wat (wstg m ρ c) ![0, 0] wat_inbP)
/-- Device `c`'s product of row chunk `r` with the right half of the columns. -/
def gN (c r : Dev nD) : FVec F S256x4096 .f32 := k0_pay4 (xat (xstg m ρ c) ![256 * r.val, 0] (xat_inb r)) (wat (wstg m ρ c) ![0, 4096] wat_inbN)

/-- What device `c` has accumulated on the left half before hop `k`. -/
def accP : ℕ → Dev nD → FVec F S256x4096 .f32
  | 0, c => gP m ρ c c
  | k + 1, c => k0_pay5 (accP k (dv c 15)) (gP m ρ c (dv c (15 * (k + 1))))
/-- What device `c` has accumulated on the right half before hop `k`. -/
def accN : ℕ → Dev nD → FVec F S256x4096 .f32
  | 0, c => gN m ρ c c
  | k + 1, c => k0_pay10 (accN k (dv c 1)) (gN m ρ c (dv c (k + 1)))

/-- The row of maxima device `c` publishes. -/
def mrow (c : Dev nD) : FVec F S1x128 .f32 := k0_pay11 (accP m ρ 15 c) (accN m ρ 15 c)

/-- The column index inside one published row. -/
def inRow (i : S16x128.Idx) : S1x128.Idx := fun a => match a with | ⟨0, _⟩ => (0 : Fin 1) | ⟨1, _⟩ => i 1

/-- All published rows. -/
def MB : (cc0_scratch8 : Ref sig .tc).ty.Contents (Elt F) := fun (i : S16x128.Idx) => mrow m ρ (i 0) (inRow i)

/-- The maximum over all devices, cut off below at zero. -/
def amx : F .f32 := k0_pay12 (MB m ρ)

/-- Device `c`'s own chunk on the left half, scaled, clipped and rounded. -/
def qsP (c : Dev nD) : FVec F S256x4096 .f32 := k0_pay15 (amx m ρ) (accP m ρ 15 c)
/-- The same on the right half. -/
def qsN (c : Dev nD) : FVec F S256x4096 .f32 := k0_pay18 (k0_pay14 (amx m ρ)) (accN m ρ 15 c)
/-- What travels on the left half's ring from device `c`. -/
def qP (c : Dev nD) : FVec F S1x256x4096 .fp8e4m3 := k0_pay16 (qsP m ρ c)
/-- What travels on the right half's ring from device `c`. -/
def qN (c : Dev nD) : FVec F S1x256x4096 .fp8e4m3 := k0_pay19 (qsN m ρ c)

/-- An index of a slot pair, with the slot forgotten. -/
def inSlot (i : S2x256x4096.Idx) : S1x256x4096.Idx := fun a => match a with | ⟨0, _⟩ => (0 : Fin 1) | ⟨1, _⟩ => i 1 | ⟨2, _⟩ => i 2

/-- A slot pair with `q` in both slots: left half. -/
def SBP (q : FVec F S1x256x4096 .fp8e4m3) : (cc0_scratch6 : Ref sig .tc).ty.Contents (Elt F) := fun (i : S2x256x4096.Idx) => q (inSlot i)
/-- A slot pair with `q` in both slots: right half. -/
def SBN (q : FVec F S1x256x4096 .fp8e4m3) : (cc0_scratch7 : Ref sig .tc).ty.Contents (Elt F) := fun (i : S2x256x4096.Idx) => q (inSlot i)

/-- Device `c`'s result, left half, row chunk `r`: its own chunk or the one that came around. -/
def blkP (c r : Dev nD) : FVec F S256x4096 .f32 :=
  if r = dv c 1 then k0_pay17 (amx m ρ) (qsP m ρ c) else k0_pay1 (k0_pay13 (amx m ρ)) (SBslice (qP m ρ (dv r 15)))
where SBslice (q : FVec F S1x256x4096 .fp8e4m3) : Vec F S1x256x4096 .fp8e4m3 := q
/-- Device `c`'s result, right half, row chunk `r`. -/
def blkN (c r : Dev nD) : FVec F S256x4096 .f32 :=
  if r = dv c 15 then k0_pay20 (k0_pay13 (amx m ρ)) (qsN m ρ c) else k0_pay2 (k0_pay13 (amx m ρ)) (blkP.SBslice (qN m ρ (dv r 1)))

/-- The row chunk an index of the result lies in. -/
def chunkOf (i : S4096x8192.Idx) : Dev nD := ⟨(i 0).val / 256, by have : (i 0).val < 4096 := (i 0).isLt; show _ < 16; omega⟩
/-- The index inside its chunk and half. -/
def inBlk (i : S4096x8192.Idx) : S256x4096.Idx := fun a => match a with
  | ⟨0, _⟩ => (⟨(i 0).val % 256, Nat.mod_lt _ (by decide)⟩ : Fin 256)
  | ⟨1, _⟩ => (⟨(i 1).val % 4096, Nat.mod_lt _ (by decide)⟩ : Fin 4096)

/-- Device `c`'s whole result. -/
def outF (c : Dev nD) : (main_v1 : Ref sig .tc).ty.Contents (Elt F) := fun (i : S4096x8192.Idx) =>
  if (i 1).val < 4096 then blkP m ρ c (chunkOf i) (inBlk i) else blkN m ρ c (chunkOf i) (inBlk i)

/-! ## The regions of the buffers -/

/-- The elements of slot `s`. -/
def slotSet (s : ℕ) : Finset S2x256x4096.Idx := Finset.univ.filter fun i => (i 0).val = s
/-- The elements of row `j` of the published maxima. -/
def rowSet (j : Dev nD) : Finset S16x128.Idx := Finset.univ.filter fun i => (i 0).val = j.val
/-- The elements of row chunk `r` of the result, left half. -/
def setP (r : Dev nD) : Finset S4096x8192.Idx := Finset.univ.filter fun i => chunkOf i = r ∧ (i 1).val < 4096
/-- The elements of row chunk `r` of the result, right half. -/
def setN (r : Dev nD) : Finset S4096x8192.Idx := Finset.univ.filter fun i => chunkOf i = r ∧ ¬ (i 1).val < 4096

/-! ## Ownership -/

/-- Share `q` of the elements `S` of device `c`'s buffer `b`, at contents `f`. -/
def pt (c : Dev nD) (b : Ref sig .tc) (S : Finset (b.ty.shape.Idx)) (q : PosShare TreeShare) (f : b.ty.Contents (Elt F)) : sProp 𝕄 :=
  ((c : Thread nD τ).loc b) ↦[S]{q} f
/-- The elements `S` of device `c`'s buffer `b`, whatever they hold. -/
def ptAny (c : Dev nD) (b : Ref sig .tc) (S : Finset (b.ty.shape.Idx)) : sProp 𝕄 := iprop(∃ f, pt c b S fullShare f)

omit [FloatOps F] in
/-- Such an ownership can be kept in an invariant. -/
instance pt_storable (c : Dev nD) (b : Ref sig .tc) (S) (q) (f) : BI.Storable (upEmb : UEmb _ 𝕄) (pt (F := F) c b S q f) := by unfold pt; infer_instance
omit [FloatOps F] in
/-- Such an ownership can be kept in an invariant. -/
instance ptAny_storable (c : Dev nD) (b : Ref sig .tc) (S) : BI.Storable (upEmb : UEmb _ 𝕄) (ptAny (F := F) c b S) := by unfold ptAny; infer_instance

/-! ## The semaphores -/

/-- Device `c`'s semaphore `sm`. -/
abbrev cell (c : Dev nD) (sm : SemLoc sig) : GSem nD τ sig := ((c : Thread nD τ), sm)
/-- The transfer semaphore number `s`. -/
abbrev dm (s : ℕ) (h : s < 47 := by decide) : SemLoc sig := .dma (⟨s, h⟩ : Fin 47)
/-- The regular semaphore number `s`. -/
abbrev rg (s : ℕ) (h : s < 4 := by decide) : SemLoc sig := .reg (⟨s, h⟩ : Fin 4)

/-- How many rounds transfer semaphore `s` of device `c` runs. -/
def nrD (c s : ℕ) : ℕ :=
  if s < 2 then 0 else if s < 6 then 15 else if s < 14 then (if s % 2 = 0 then 7 else 8) else if s < 16 then 16 else if s < 31 then 1
  else if s = 31 + c then 0 else 1
/-- How many rounds regular semaphore `s` runs. -/
def nrR (s : ℕ) : ℕ := if s < 2 then 28 else 1
/-- How many rounds a semaphore of device `c` runs. -/
def nr (c : ℕ) : SemLoc sig → ℕ
  | .reg s => nrR s.val
  | .dma s => nrD c s.val

/-- The units one transfer adds to semaphore `s`. -/
def amD (s : ℕ) : ℕ :=
  if s < 4 then cc0_scratch4.dmaCredit S256x4096 .f32 else if s < 6 then cc0_scratch5.dmaCredit S256x4096 .f32
  else if s < 10 then cc0_scratch6.dmaCredit S256x4096 .fp8e4m3 else if s < 14 then cc0_scratch7.dmaCredit S256x4096 .fp8e4m3
  else if s < 16 then main_v1.dmaCredit S256x4096 .f32 else cc0_scratch8.dmaCredit S1x128 .f32
/-- The units one payment adds to a semaphore. -/
def am : SemLoc sig → ℕ
  | .reg _ => 1
  | .dma s => amD s.val

/-- Every semaphore is raised by more than nothing. -/
theorem amD_pos (s : ℕ) : 0 < amD s := by
  unfold amD; (repeat' split) <;> exact sig.dmaCredit_pos _ _ _ _ _ (Shape.numel_pos (by decide))
/-- Every semaphore is raised by more than nothing. -/
theorem am_pos (sm : SemLoc sig) : 0 < am sm := by
  cases sm with
  | reg s => exact Nat.one_pos
  | dma s => exact amD_pos _

/-- Whether both neighbours pay the semaphore in one round. -/
def twoPay : SemLoc sig → Bool
  | .reg s => decide (2 ≤ s.val)
  | .dma _ => false

/-- The row chunk of the left half written in round `r` of the store semaphore. -/
def chP (c : Dev nD) (r : ℕ) : Dev nD := dv c (1 + 15 * r)
/-- The row chunk of the right half written in round `r` of the store semaphore. -/
def chN (c : Dev nD) (r : ℕ) : Dev nD := dv c (15 + r)

/-- The share of its own row that device `c` lends its `j`-th transfer: successive halvings. -/
def restSh : ℕ → PosShare TreeShare
  | 0 => fullShare
  | j + 1 => (restSh j).right
/-- The part of the row's share that transfer `j` takes along. -/
def partSh (j : ℕ) : PosShare TreeShare := (restSh j).left

/-- Row `j` of device `c`'s maxima, whatever it holds. -/
def rowAny (c j : Dev nD) : sProp 𝕄 := ptAny c cc0_scratch8 (rowSet j)

/-- What a payment on transfer semaphore `s` hands its owner `c` in round `r`. -/
def payD (c : Dev nD) (s r : ℕ) : sProp 𝕄 :=
  if s = 2 then ptAny c cc0_scratch0 Finset.univ
  else if s = 3 then iprop(pt c cc0_scratch4 Finset.univ fullShare (accP m ρ r (dv c 15)) ∗ reached ER (cell (dv c 15) (rg 0)) r)
  else if s = 4 then ptAny c cc0_scratch1 Finset.univ
  else if s = 5 then iprop(pt c cc0_scratch5 Finset.univ fullShare (accN m ρ r (dv c 1)) ∗ reached ER (cell (dv c 1) (rg 1)) r)
  else if s = 6 then ptAny c cc0_scratch6 (slotSet 1)
  else if s = 7 then ptAny c cc0_scratch6 (slotSet 0)
  else if s = 8 then iprop(pt c cc0_scratch6 (slotSet 0) fullShare (SBP (qP m ρ (dv c (15 * (2 * r + 2))))) ∗ reached ER (cell (dv c 15) (rg 0)) (14 + (2 * r + 1)))
  else if s = 9 then iprop(pt c cc0_scratch6 (slotSet 1) fullShare (SBP (qP m ρ (dv c (15 * (2 * r + 1))))) ∗ reached ER (cell (dv c 15) (rg 0)) (14 + 2 * r))
  else if s = 10 then ptAny c cc0_scratch7 (slotSet 1)
  else if s = 11 then ptAny c cc0_scratch7 (slotSet 0)
  else if s = 12 then iprop(pt c cc0_scratch7 (slotSet 0) fullShare (SBN (qN m ρ (dv c (2 * r + 2)))) ∗ reached ER (cell (dv c 1) (rg 1)) (14 + (2 * r + 1)))
  else if s = 13 then iprop(pt c cc0_scratch7 (slotSet 1) fullShare (SBN (qN m ρ (dv c (2 * r + 1)))) ∗ reached ER (cell (dv c 1) (rg 1)) (14 + 2 * r))
  else if s = 14 then iprop(pt c main_v1 (setP (chP c r)) fullShare (outF m ρ c) ∗ ptAny c cc0_scratch2 Finset.univ)
  else if s = 15 then iprop(pt c main_v1 (setN (chN c r)) fullShare (outF m ρ c) ∗ ptAny c cc0_scratch3 Finset.univ)
  else if s < 31 then pt c cc0_scratch8 (rowSet c) (partSh (s - 16)) (MB m ρ)
  else pt c cc0_scratch8 (rowSet (dv c (s - 31 + 15 * c.val))) fullShare (MB m ρ)

/-- What a payment on the left ring's credit semaphore hands its owner `c` in round `r`: the right neighbour's landing place, and
    while the sums still travel, the rows of maxima of later devices passed on. -/
def payCP (c : Dev nD) (r : ℕ) : sProp 𝕄 :=
  if r < 14 then iprop(ptAny (dv c 1) cc0_scratch4 Finset.univ ∗ reached ER (cell (dv c 1) (dm 3)) (r + 1)
      ∗ bigSep (Finset.range (14 - r)) fun i => rowAny (dv c (2 + r)) (dv c (15 * i)))
  else if r % 2 = 0 then iprop(ptAny (dv c 1) cc0_scratch6 (slotSet 0) ∗ reached ER (cell (dv c 1) (dm 8)) ((r - 13) / 2))
  else iprop(ptAny (dv c 1) cc0_scratch6 (slotSet 1) ∗ reached ER (cell (dv c 1) (dm 9)) ((r - 13) / 2))
/-- The same on the right half's ring: the left neighbour's landing place. -/
def payCN (c : Dev nD) (r : ℕ) : sProp 𝕄 :=
  if r < 14 then iprop(ptAny (dv c 15) cc0_scratch5 Finset.univ ∗ reached ER (cell (dv c 15) (dm 5)) (r + 1))
  else if r % 2 = 0 then iprop(ptAny (dv c 15) cc0_scratch7 (slotSet 0) ∗ reached ER (cell (dv c 15) (dm 12)) ((r - 13) / 2))
  else iprop(ptAny (dv c 15) cc0_scratch7 (slotSet 1) ∗ reached ER (cell (dv c 15) (dm 13)) ((r - 13) / 2))
/-- What the right neighbour's first signal hands `c`. -/
def payBR (c : Dev nD) : sProp 𝕄 :=
  iprop(ptAny (dv c 1) cc0_scratch4 Finset.univ ∗ ptAny (dv c 1) cc0_scratch6 (slotSet 1)
    ∗ bigSep (Finset.range 15) fun i => rowAny (dv c 1) (dv c (15 * i)))
/-- What the left neighbour's first signal hands `c`. -/
def payBL (c : Dev nD) : sProp 𝕄 :=
  iprop(ptAny (dv c 15) cc0_scratch5 Finset.univ ∗ ptAny (dv c 15) cc0_scratch7 (slotSet 1))

/-- What a payment on regular semaphore `s` hands its owner. -/
def payR (c : Dev nD) (s r : ℕ) (d : Bool) : sProp 𝕄 :=
  if s = 0 then payCP c r else if s = 1 then payCN c r else if s = 2 then (if d then payBL c else payBR c) else iprop(emp)

/-- What a payment on semaphore `sm` of device `c` hands over. -/
def paySm (c : Dev nD) (sm : SemLoc sig) (r : ℕ) (d : Bool) : sProp 𝕄 :=
  match sm with
  | .reg s => payR c s.val r d
  | .dma s => payD m ρ c s.val r

/-- The schedule of all semaphores. -/
def Rd : Rounds.Schedule (GSem nD τ sig) Bool 𝕄 where
  duties g r := if g.1.2 = .tc ∧ r < nr g.1.1.val g.2 then (if twoPay g.2 then Finset.univ else {false}) else ∅
  unitless _ := False
  amount g _ _ := am g.2
  payload g r d := paySm m ρ g.1.1 g.2 r d
  amount_pos g _ _ _ := am_pos g.2

omit [FloatOps F] in
/-- Such an ownership can be kept in an invariant. -/
instance rowAny_storable (c j : Dev nD) : BI.Storable (upEmb : UEmb _ 𝕄) (rowAny (F := F) c j) := by unfold rowAny; infer_instance

/-- A choice between two storable propositions is storable. -/
instance ite_storable (p : Prop) [Decidable p] (P Q : sProp 𝕄) [BI.Storable (upEmb : UEmb _ 𝕄) P] [BI.Storable (upEmb : UEmb _ 𝕄) Q] :
    BI.Storable (upEmb : UEmb _ 𝕄) (if p then P else Q) := by split <;> infer_instance

/-- Every payload can be kept in an invariant. -/
instance Rd_payload_storable (g : GSem nD τ sig) (r : ℕ) (d : Bool) :
    BI.Storable (upEmb : UEmb _ 𝕄) ((Rd (F := F) m ρ).payload g r d) := by
  show BI.Storable upEmb (paySm m ρ g.1.1 g.2 r d)
  unfold paySm
  split
  · unfold payR payCP payCN payBL payBR
    infer_instance
  · unfold payD
    infer_instance

/-! ### Tables -/

/-- A round of a semaphore that one device raises has one duty. -/
theorem duties_one (c : Dev nD) (sm : SemLoc sig) (r : ℕ) (h : r < nr c.val sm) (h2 : twoPay sm = false) :
    (Rd (F := F) m ρ).duties (cell c sm) r = {false} := by
  show (if (c : Thread nD τ).2 = .tc ∧ r < nr c.val sm then (if twoPay sm then Finset.univ else {false}) else ∅) = _
  rw [if_pos ⟨rfl, h⟩, if_neg (by rw [h2]; decide)]
/-- A round of a semaphore that two neighbours raise has two duties. -/
theorem duties_two (c : Dev nD) (sm : SemLoc sig) (r : ℕ) (h : r < nr c.val sm) (h2 : twoPay sm = true) :
    (Rd (F := F) m ρ).duties (cell c sm) r = Finset.univ := by
  show (if (c : Thread nD τ).2 = .tc ∧ r < nr c.val sm then (if twoPay sm then Finset.univ else {false}) else ∅) = _
  rw [if_pos ⟨rfl, h⟩, if_pos h2]
/-- After the last round there are no duties. -/
theorem duties_done (c : Dev nD) (sm : SemLoc sig) (r : ℕ) (h : nr c.val sm ≤ r) :
    (Rd (F := F) m ρ).duties (cell c sm) r = ∅ := if_neg fun h' => absurd h'.2 (by show ¬ r < nr c.val sm; omega)
/-- How much a round of a semaphore with one payer brings. -/
theorem expect_one (c : Dev nD) (sm : SemLoc sig) (r : ℕ) (h : r < nr c.val sm) (h2 : twoPay sm = false) :
    (Rd (F := F) m ρ).expect (cell c sm) r = am sm := by
  unfold Schedule.expect Schedule.amountOf; rw [duties_one m ρ c sm r h h2, Finset.sum_singleton]; rfl
/-- How much a round of a semaphore with two payers brings. -/
theorem expect_two (c : Dev nD) (sm : SemLoc sig) (r : ℕ) (h : r < nr c.val sm) (h2 : twoPay sm = true) :
    (Rd (F := F) m ρ).expect (cell c sm) r = 2 * am sm := by
  unfold Schedule.expect Schedule.amountOf
  rw [duties_two m ρ c sm r h h2, Finset.sum_congr rfl fun d _ => (show (Rd (F := F) m ρ).amount (cell c sm) r d = am sm from rfl),
    Finset.sum_const, Finset.card_univ, Fintype.card_bool, smul_eq_mul]
/-- What a whole round with one payer hands over. -/
theorem rest_one (c : Dev nD) (sm : SemLoc sig) (r : ℕ) (h : r < nr c.val sm) (h2 : twoPay sm = false) :
    bigSep ((Rd (F := F) m ρ).duties (cell c sm) r \ ∅) (fun u => (Rd (F := F) m ρ).payload (cell c sm) r u) = paySm m ρ c sm r false := by
  rw [Finset.sdiff_empty, duties_one m ρ c sm r h h2, bigSep_singleton]; rfl
/-- What a whole round with two payers hands over. -/
theorem rest_two (c : Dev nD) (sm : SemLoc sig) (r : ℕ) (h : r < nr c.val sm) (h2 : twoPay sm = true) :
    bigSep ((Rd (F := F) m ρ).duties (cell c sm) r \ ∅) (fun u => (Rd (F := F) m ρ).payload (cell c sm) r u)
      = iprop(paySm m ρ c sm r false ∗ paySm m ρ c sm r true) := by
  rw [Finset.sdiff_empty, duties_two m ρ c sm r h h2, bigSep_univ_eq_bigSepL [false, true] (by decide) (by decide), bigSepL_cons_cons, bigSepL_singleton]
  rfl

/-! ## The payments to other devices, in program order -/

/-- How far to the right the receiver of payment `i` is. -/
def evOff (i : ℕ) : ℕ :=
  if i = 0 then 15 else if i = 1 then 1
  else if i < 60 then (if (i - 2) % 4 = 0 ∨ (i - 2) % 4 = 3 then 1 else 15)
  else if i < 75 then i - 59
  else if i < 133 then (if (i - 75) % 4 = 0 ∨ (i - 75) % 4 = 3 then 1 else 15)
  else if i = 133 then 15 else 1
/-- The semaphore payment `i` of device `c` raises. -/
def evSm (c : Dev nD) (i : ℕ) : SemLoc sig :=
  if i < 2 then rg 2
  else if i < 60 then (if (i - 2) % 4 = 0 then dm 3 else if (i - 2) % 4 = 1 then dm 5 else if (i - 2) % 4 = 2 then rg 0 else rg 1)
  else if i < 75 then dm (31 + c.val) (by have := c.isLt; simp only [nD] at this; omega)
  else if i < 133 then (if (i - 75) % 4 = 0 then dm (8 + ((i - 75) / 4 + 1) % 2) (by omega)
    else if (i - 75) % 4 = 1 then dm (12 + ((i - 75) / 4 + 1) % 2) (by omega) else if (i - 75) % 4 = 2 then rg 0 else rg 1)
  else rg 3
/-- The round payment `i` belongs to. -/
def evRd (i : ℕ) : ℕ :=
  if i < 2 then 0 else if i < 60 then (i - 2) / 4 else if i < 75 then 0
  else if i < 133 then (if (i - 75) % 4 < 2 then (i - 75) / 4 / 2 else 14 + (i - 75) / 4) else 0
/-- Which of the round's duties payment `i` is. -/
def evDt (i : ℕ) : Bool := decide (i = 1 ∨ i = 134)
/-- The cell payment `i` of device `c` raises. -/
def evCell (c : Dev nD) (i : ℕ) : GSem nD τ sig := cell (dv c (evOff i)) (evSm c i)
/-- The device whose payment `i` device `c` receives. -/
def evSrc (c : Dev nD) (i : ℕ) : Dev nD := dv c (15 * evOff i)
/-- The own cell on which device `c` receives payment `i`. -/
def inCell (c : Dev nD) (i : ℕ) : GSem nD τ sig := cell c (evSm (evSrc c i) i)

/-- What device `c` still owes when the payments before `n` are made. -/
def O (c : Dev nD) (n : ℕ) : CellTallies nD τ sig ℕ := ∑ i ∈ Finset.Ico n 135, tallyAt (evCell c i) (evRd i) (am (evSm c i))

/-- Payment `n` is the first of what is owed from `n` on. -/
theorem O_step (c : Dev nD) (n : ℕ) (h : n < 135) : O c n = O c (n + 1) + tallyAt (evCell c n) (evRd n) (am (evSm c n)) := by
  unfold O
  rw [show Finset.Ico n 135 = insert n (Finset.Ico (n + 1) 135) by ext x; simp only [Finset.mem_Ico, Finset.mem_insert]; omega,
    Finset.sum_insert (by rw [Finset.mem_Ico]; omega), add_comm]
/-- After 135 payments nothing is owed. -/
theorem O_last (c : Dev nD) : O c 135 = 0 := by unfold O; rw [Finset.Ico_self, Finset.sum_empty]

/-! ## Levels -/

/-- The level of a wait on semaphore `sm` in round `r`. -/
def lvS (sm : SemLoc sig) (r : ℕ) : ℕ :=
  match sm with
  | .reg s => if s.val < 2 then (if r < 14 then 2 * r + 3 else 200 + 2 * (r - 14) + 1) else if s.val = 2 then 1 else 400
  | .dma s => if s.val = 3 ∨ s.val = 5 then 2 * r + 2 else if s.val = 8 ∨ s.val = 12 then 200 + 2 * (2 * r + 1)
      else if s.val = 9 ∨ s.val = 13 then 200 + 4 * r else if 31 ≤ s.val then 100 else 0
/-- The level of a cell's round. -/
def lv (g : GSem nD τ sig) (r : ℕ) : ℕ := lvS g.2 r
/-- The level of payment `i`. -/
def evLv (i : ℕ) : ℕ :=
  if i < 2 then 1 else if i < 60 then 2 * ((i - 2) / 4) + 2 + ((i - 2) % 4) / 2 else if i < 75 then 100
  else if i < 133 then 200 + 2 * ((i - 75) / 4) + ((i - 75) % 4) / 2 else 400
/-- The rounds that carry levels. -/
def L (g : GSem nD τ sig) : Finset ℕ := if g.1.2 = .tc then Finset.range 64 else ∅
/-- Semaphores of other cores have no levels. -/
theorem L_of_ne (g : GSem nD τ sig) (h : g.1.2 ≠ .tc) : L g = ∅ := if_neg h
/-- The levels of a device's semaphore are kept for 64 rounds. -/
theorem L_tc (c : Dev nD) (sm : SemLoc sig) : L (cell c sm) = Finset.range 64 := if_pos rfl

/-- Later payments have higher levels. -/
theorem evLv_mono {i j : ℕ} (h : i ≤ j) : evLv i ≤ evLv j := by
  unfold evLv; split_ifs <;> omega
/-- The rounds stay below 64. -/
theorem evRd_lt {i : ℕ} (h : i < 135) : evRd i < 64 := by
  unfold evRd; split_ifs <;> omega
/-- The level of the semaphore and round of payment `i`. -/
theorem lv_ev_all : ∀ (c : Fin 16) (i : Fin 135), lvS (evSm c i.val) (evRd i.val) = evLv i.val := by decide +kernel
/-- The level of the semaphore and round of payment `i`. -/
theorem lv_ev (c : Dev nD) (i : ℕ) (h : i < 135) : lvS (evSm c i) (evRd i) = evLv i := lv_ev_all c ⟨i, h⟩

/-- Whatever is owed from `n` on is one of the payments from `n` on. -/
theorem O_pos {c : Dev nD} {n : ℕ} {g : GSem nD τ sig} {r : ℕ} (h : 0 < O c n g r) : ∃ i, n ≤ i ∧ i < 135 ∧ g = evCell c i ∧ r = evRd i := by
  by_contra hn
  have hz : O c n g r = 0 := by
    unfold O
    rw [Finset.sum_apply, Finsupp.finset_sum_apply]
    refine Finset.sum_eq_zero fun i hi => ?_
    rw [tallyAt_apply]
    refine if_neg fun hg => hn ⟨i, (Finset.mem_Ico.mp hi).1, (Finset.mem_Ico.mp hi).2, hg.1, hg.2⟩
  omega

omit [FloatOps F] in
/-- Device `c` may wait below the levels of everything it still owes. -/
theorem mayWait (c : Dev nD) (sm : SemLoc sig) (r n : ℕ) (hr : r < 64) (h : n = 135 ∨ lvS sm r < evLv n) :
    (levAts L lv : sProp 𝕄) ⊢ MayWait (c : Thread nD τ) sm r (O c n) := by
  rcases h with rfl | h
  · rw [O_last, MayWait_zero]; iintro -; iempintro
  · refine MayOwe.of_cut (L := L) (lev := lv) (lvS sm r) (fun p hp => by rw [Finset.mem_singleton.mp hp, L_tc]; exact Finset.mem_range.mpr hr)
      (fun g u hg => ?_) (fun p hp => by rw [Finset.mem_singleton.mp hp]; exact le_refl _) (fun g u hg => ?_)
    · obtain ⟨i, -, h2, rfl, rfl⟩ := O_pos hg
      unfold evCell; rw [L_tc]; exact Finset.mem_range.mpr (evRd_lt h2)
    · obtain ⟨i, h1, h2, rfl, rfl⟩ := O_pos hg
      exact lt_of_lt_of_le h (le_trans (evLv_mono h1) (le_of_eq (lv_ev c i h2).symm))

end Cert.Talk

end
-- ==== Proof.Rules.lean ====
module

public import proofs.«01_k».proof.Proof.Proto
public import Idealize.SL.BI.BigOpNat

/-!
# One step of the protocol

Each lemma here is one operation on a semaphore as device `c` performs it: a wait, a local transfer, a transfer to another
device, a signal. The bookkeeping (position in the rounds, remaining tokens and credits, what is still owed) is kept in four
propositions, so that the body's proof only names rounds and payments.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the shared facts -/

/-- The kernel's scoped semaphores: the transfer semaphores but for the two staging ones, and three regular ones. -/
def osem (i : Fin 48) : SemLoc sig :=
  if h : i.val < 45 then .dma (⟨i.val + 2, by omega⟩ : Fin 47) else if i.val = 45 then rg 0 else if i.val = 46 then rg 1 else rg 3
/-- All of the kernel's semaphores: the scoped ones and the barrier. -/
def csem (i : Fin 49) : SemLoc sig := if h : i.val < 48 then osem ⟨i.val, h⟩ else rg 2
/-- Whether a semaphore is one of the kernel's. -/
def own : SemLoc sig → Bool
  | .reg _ => true
  | .dma s => decide (2 ≤ s.val)

/-- Every own semaphore is one of the 49. -/
theorem own_csem (sm : SemLoc sig) (h : own sm = true) : ∃ i, csem i = sm := by
  cases sm with
  | reg s => exact (by decide : ∀ s : Fin 4, ∃ i, csem i = .reg s) s
  | dma s => exact (by decide +kernel : ∀ s : Fin 47, 2 ≤ s.val → ∃ i, csem i = .dma s) s (of_decide_eq_true h)

variable (K : Dev nD × Fin 49 → ℕ)

/-- Every cell's invariant, and that its first round is open. -/
def records : sProp 𝕄 :=
  bigSep (Finset.univ : Finset (Dev nD × Fin 49)) fun p =>
    iprop(cellInv ER (Rd m ρ) (K p) (cell p.1 (csem p.2)) ∗ reached ER (cell p.1 (csem p.2)) 0)
/-- What all steps share: the records and the levels. -/
def Ctx : sProp 𝕄 := iprop(records m ρ K ∗ levAts L lv)

/-- It can be used as often as needed. -/
instance records_persistent : BI.Persistent (records (F := F) m ρ K) := by unfold records; infer_instance
/-- It can be used as often as needed. -/
instance Ctx_persistent : BI.Persistent (Ctx (F := F) m ρ K) := by unfold Ctx; infer_instance

/-- The levels are part of what all steps share. -/
theorem Ctx_lev : Ctx (F := F) m ρ K ⊢ levAts L lv := by unfold Ctx; exact sep_elim_right
set_option maxRecDepth 8000 in
/-- A wait below everything that is still owed is allowed. -/
theorem Ctx_mayWait (c : Dev nD) (sm : SemLoc sig) (r n : ℕ) (hr : r < 64) (h : n = 135 ∨ lvS sm r < evLv n) :
    Ctx (F := F) m ρ K ⊢ MayWait (c : Thread nD τ) sm r (O c n) := (Ctx_lev m ρ K).trans (mayWait (F := F) c sm r n hr h)
/-- The invariant of a semaphore, and that its first round is open. -/
theorem Ctx_get (c : Dev nD) (sm : SemLoc sig) (h : own sm = true) :
    Ctx (F := F) m ρ K ⊢ iprop(∃ κ, cellInv ER (Rd m ρ) κ (cell c sm) ∗ reached ER (cell c sm) 0) := by
  obtain ⟨i, rfl⟩ := own_csem sm h
  unfold Ctx records
  refine (sep_elim_left.trans (BI.bigSep_elim (Finset.mem_univ (c, i)))).trans ?_
  iintro H
  iexists (K (c, i)); iexact H
/-- The invariant of a semaphore. -/
theorem Ctx_inv (c : Dev nD) (sm : SemLoc sig) (h : own sm = true) :
    Ctx (F := F) m ρ K ⊢ iprop(∃ κ, cellInv ER (Rd m ρ) κ (cell c sm)) := by
  refine (Ctx_get m ρ K c sm h).trans ?_
  iintro ⟨%κ, H, -⟩
  iexists κ; iexact H
/-- The first round of every semaphore is open. -/
theorem Ctx_reached (c : Dev nD) (sm : SemLoc sig) (h : own sm = true) :
    Ctx (F := F) m ρ K ⊢ reached ER (cell c sm) 0 := by
  refine (Ctx_get m ρ K c sm h).trans ?_
  iintro ⟨%κ, -, H⟩
  iexact H

/-! ## The bookkeeping -/

/-- Payment `i` goes `off` to the right, to semaphore `sm`, as duty `d` of round `r`. -/
def IsEv (c : Dev nD) (i off : ℕ) (sm : SemLoc sig) (r : ℕ) (d : Bool) : Prop :=
  i < 135 ∧ evOff i = off ∧ evSm c i = sm ∧ evRd i = r ∧ evDt i = d

/-- The token of payment `i`. -/
def evTok (c : Dev nD) (i : ℕ) : sProp 𝕄 := dutyTok ER (evCell c i) (evRd i) (evDt i)
/-- What device `c` owes from payment `n` on, with the tokens to pay it. -/
def Ow (c : Dev nD) (n : ℕ) : sProp 𝕄 := iprop((∃ W, owes (c : Thread nD τ) (O c n) W) ∗ bigSep (Finset.Ico n 135) fun i => evTok c i)
/-- Device `c`'s own semaphore `sm` before its round `r`: nothing in flight, the tokens of the rounds to come in hand. -/
def Idle (c : Dev nD) (sm : SemLoc sig) (r : ℕ) : sProp 𝕄 :=
  iprop(atPos ER (cell c sm) r ∅ 0 ∗ reached ER (cell c sm) r ∗ bigSep (Finset.Ico r (nr c.val sm)) fun j => dutyTok ER (cell c sm) j false)
/-- The same with round `r`'s transfer in flight. -/
def Busy (c : Dev nD) (sm : SemLoc sig) (r : ℕ) : sProp 𝕄 :=
  iprop(atPos ER (cell c sm) r ∅ 0 ∗ cred (tallyAt (cell c sm) r (am sm)) ∗ bigSep (Finset.Ico (r + 1) (nr c.val sm)) fun j => dutyTok ER (cell c sm) j false)
/-- Device `c`'s semaphore `sm` that another device raises, before round `r`. -/
def Rcv (c : Dev nD) (sm : SemLoc sig) (r : ℕ) : sProp 𝕄 :=
  iprop(atPos ER (cell c sm) r ∅ 0 ∗ reached ER (cell c sm) r ∗ bigSep (Finset.Ico r (nr c.val sm)) fun j => cred (tallyAt (cell c sm) j (am sm)))

/-- Every payment goes to an own semaphore, in a round that it has, as a duty that the round has. -/
theorem ev_ok_all : ∀ (c : Fin 16) (i : Fin 135), evRd i.val < nr (dv c (evOff i.val)).val (evSm c i.val) ∧ own (evSm c i.val) = true
    ∧ (twoPay (evSm c i.val) = true ∨ (twoPay (evSm c i.val) = false ∧ evDt i.val = false)) := by decide +kernel
/-- Every payment's round is one that the semaphore has. -/
theorem ev_rd (c : Dev nD) (i : ℕ) (h : i < 135) : evRd i < nr (dv c (evOff i)).val (evSm c i) := (ev_ok_all c ⟨i, h⟩).1
/-- Every payment goes to one of the kernel's own semaphores. -/
theorem ev_own (c : Dev nD) (i : ℕ) (h : i < 135) : own (evSm c i) = true := (ev_ok_all c ⟨i, h⟩).2.1
/-- Every payment is a duty of its round. -/
theorem ev_duty (c : Dev nD) (i : ℕ) (h : i < 135) : evDt i ∈ (Rd (F := F) m ρ).duties (evCell c i) (evRd i) := by
  rcases (ev_ok_all c ⟨i, h⟩).2.2 with h2 | ⟨h2, h3⟩
  · unfold evCell; rw [duties_two m ρ _ _ _ (ev_rd c i h) h2]; exact Finset.mem_univ _
  · unfold evCell; rw [duties_one m ρ _ _ _ (ev_rd c i h) h2]; exact Finset.mem_singleton.mpr h3

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type}
variable {Q : α → sProp (MT nD τ sig ℕ (Elt F) ℕ UU ℕ)}
variable {k : PUnit → Prog (TpuEff nD τ sig (Elt F) Λ₀ .tc) α}

/-! ## Waits -/

/-- A wait for what another device sends. -/
theorem w_rcv (c : Dev nD) (sm : SemLoc sig) (r n : ℕ) {sm' : SemLoc sig} {k' : ℕ} {w : TpuEff nD τ sig (Elt F) Λ₀ .tc PUnit}
    (hw : ∀ X : PUnit → sProp 𝕄, wpE (defs₀ (F := F)) 𝒱₀ (c : Thread nD τ) none Set.univ w X = waitSpec (c : Thread nD τ) Set.univ sm' k' X)
    (hsm : sm' = sm) (hk : k' = am sm) (hr : r < nr c.val sm) (h2 : twoPay sm = false) (hr64 : r < 64)
    (hl : n = 135 ∨ lvS sm r < evLv n) (ho : own sm = true) {P : sProp 𝕄} (hP : paySm m ρ c sm r false ⊢ P) :
    iprop(Ctx m ρ K ∗ Rcv c sm r ∗ Ow c n)
      ⊢ iprop(((Rcv c sm (r + 1) ∗ Ow c n ∗ P) -∗ WP c (k ⟨⟩) Q) -∗ WP c (.op w k) Q) := by
  subst hsm hk
  unfold Rcv Ow
  rw [bigSep_Ico_succ_bot hr]
  iintro ⟨#HC, ⟨Hat, -, Hc, Hcs⟩, ⟨⟨%W, HO⟩, Ht⟩⟩ Hk
  ihave HI := (Ctx_inv m ρ K c sm' ho) $$ HC
  icases HI with ⟨%κ, #HI⟩
  iapply (Rounds.wp_wait_rest_token 𝒱₀ ER (Rd m ρ) (c : Thread nD τ) none (κ := κ) hw (Set.mem_univ _) r (O := O c n) (W := W) (R := r) (m := 0) (T := ∅)
    (by rw [Nat.zero_add, expect_one m ρ c sm' r hr h2])) $$ [Hat Hc HO]
  · isplitr; · iexact HI
    isplitl [Hc]; · iexact Hc
    isplitl [HO]; · iexact HO
    isplitr; · iapply (Ctx_mayWait m ρ K c sm' r n hr64 hl); iexact HC
    iexact Hat
  iintro ⟨HO, Hat, Hr, Hp⟩
  ihave Hp := ((Entails.of_eq (rest_one m ρ c sm' r hr h2)).trans hP) $$ Hp
  iapply Hk
  isplitl [Hat Hr Hcs]
  · isplitl [Hat]; · iexact Hat
    isplitl [Hr]; · iexact Hr
    iexact Hcs
  isplitl [HO Ht]
  · isplitl [HO]; · iexists _; iexact HO
    iexact Ht
  iexact Hp

/-- A wait for device `c`'s own transfer. -/
theorem w_own (c : Dev nD) (sm : SemLoc sig) (r n : ℕ) {sm' : SemLoc sig} {k' : ℕ} {w : TpuEff nD τ sig (Elt F) Λ₀ .tc PUnit}
    (hw : ∀ X : PUnit → sProp 𝕄, wpE (defs₀ (F := F)) 𝒱₀ (c : Thread nD τ) none Set.univ w X = waitSpec (c : Thread nD τ) Set.univ sm' k' X)
    (hsm : sm' = sm) (hk : k' = am sm) (hr : r < nr c.val sm) (h2 : twoPay sm = false) (hr64 : r < 64)
    (hl : n = 135 ∨ lvS sm r < evLv n) (ho : own sm = true) {P : sProp 𝕄} (hP : paySm m ρ c sm r false ⊢ P) :
    iprop(Ctx m ρ K ∗ Busy c sm r ∗ Ow c n)
      ⊢ iprop(((Idle c sm (r + 1) ∗ Ow c n ∗ P) -∗ WP c (k ⟨⟩) Q) -∗ WP c (.op w k) Q) := by
  subst hsm hk
  unfold Idle Busy Ow
  iintro ⟨#HC, ⟨Hat, Hc, Hcs⟩, ⟨⟨%W, HO⟩, Ht⟩⟩ Hk
  ihave HI := (Ctx_inv m ρ K c sm' ho) $$ HC
  icases HI with ⟨%κ, #HI⟩
  iapply (Rounds.wp_wait_rest_token 𝒱₀ ER (Rd m ρ) (c : Thread nD τ) none (κ := κ) hw (Set.mem_univ _) r (O := O c n) (W := W) (R := r) (m := 0) (T := ∅)
    (by rw [Nat.zero_add, expect_one m ρ c sm' r hr h2])) $$ [Hat Hc HO]
  · isplitr; · iexact HI
    isplitl [Hc]; · iexact Hc
    isplitl [HO]; · iexact HO
    isplitr; · iapply (Ctx_mayWait m ρ K c sm' r n hr64 hl); iexact HC
    iexact Hat
  iintro ⟨HO, Hat, Hr, Hp⟩
  ihave Hp := ((Entails.of_eq (rest_one m ρ c sm' r hr h2)).trans hP) $$ Hp
  iapply Hk
  isplitl [Hat Hr Hcs]
  · isplitl [Hat]; · iexact Hat
    isplitl [Hr]; · iexact Hr
    iexact Hcs
  isplitl [HO Ht]
  · isplitl [HO]; · iexists _; iexact HO
    iexact Ht
  iexact Hp

/-- A wait for both neighbours' signals. -/
theorem w_both (c : Dev nD) (sm : SemLoc sig) (n : ℕ) {sm' : SemLoc sig} {k' : ℕ} {w : TpuEff nD τ sig (Elt F) Λ₀ .tc PUnit}
    (hw : ∀ X : PUnit → sProp 𝕄, wpE (defs₀ (F := F)) 𝒱₀ (c : Thread nD τ) none Set.univ w X = waitSpec (c : Thread nD τ) Set.univ sm' k' X)
    (hsm : sm' = sm) (hk : k' = 2 * am sm) (hr : 0 < nr c.val sm) (h2 : twoPay sm = true)
    (hl : n = 135 ∨ lvS sm 0 < evLv n) (ho : own sm = true) {P : sProp 𝕄} (hP : iprop(paySm m ρ c sm 0 false ∗ paySm m ρ c sm 0 true) ⊢ P) :
    iprop(Ctx m ρ K ∗ (atPos ER (cell c sm) 0 ∅ 0 ∗ cred (tallyAt (cell c sm) 0 (2 * am sm))) ∗ Ow c n)
      ⊢ iprop(((atPos ER (cell c sm) 1 ∅ 0 ∗ Ow c n ∗ P) -∗ WP c (k ⟨⟩) Q) -∗ WP c (.op w k) Q) := by
  subst hsm hk
  unfold Ow
  iintro ⟨#HC, ⟨Hat, Hc⟩, ⟨⟨%W, HO⟩, Ht⟩⟩ Hk
  ihave HI := (Ctx_inv m ρ K c sm' ho) $$ HC
  icases HI with ⟨%κ, #HI⟩
  iapply (Rounds.wp_wait_rest_token 𝒱₀ ER (Rd m ρ) (c : Thread nD τ) none (κ := κ) hw (Set.mem_univ _) 0 (O := O c n) (W := W) (R := 0) (m := 0) (T := ∅)
    (by rw [Nat.zero_add, expect_two m ρ c sm' 0 hr h2])) $$ [Hat Hc HO]
  · isplitr; · iexact HI
    isplitl [Hc]; · iexact Hc
    isplitl [HO]; · iexact HO
    isplitr; · iapply (Ctx_mayWait m ρ K c sm' 0 n (by decide) hl); iexact HC
    iexact Hat
  iintro ⟨HO, Hat, -, Hp⟩
  ihave Hp := ((Entails.of_eq (rest_two m ρ c sm' 0 hr h2)).trans hP) $$ Hp
  iapply Hk
  isplitl [Hat]; · iexact Hat
  isplitl [HO Ht]
  · isplitl [HO]; · iexists _; iexact HO
    iexact Ht
  iexact Hp

/-! ## Signals and transfers -/

/-- A signal to another device. -/
theorem w_signal (c : Dev nD) (i off : ℕ) (sm : SemLoc sig) (r : ℕ) (d : Bool) (hev : IsEv c i off sm r d) {n : Dev nD} (hn : n = dv c off)
    {sem : Sem sig} (hsem : SemLoc.reg sem = sm) {k' : ℕ} (hk' : k' = 1) {P : sProp 𝕄} (hP : P ⊢ paySm m ρ (dv c off) sm r d) :
    iprop(Ctx m ρ K ∗ Ow c i ∗ P ∗ reached ER (cell (dv c off) sm) r)
      ⊢ iprop((Ow c (i + 1) -∗ WP c (k ⟨⟩) Q) -∗ WP c (.op (.semSignal (n : Thread nD τ) sem k') k) Q) := by
  obtain ⟨h, rfl, h3, rfl, rfl⟩ := hev
  subst hn hk'
  unfold Ow
  rw [bigSep_Ico_succ_bot h]
  rw [← h3] at hsem hP
  have hP' : P ⊢ (Rd (F := F) m ρ).payload ((dv c (evOff i) : Thread nD τ), evSm c i) (evRd i) (evDt i) := hP
  iintro ⟨#HC, ⟨⟨%W, HO⟩, Ht, Hts⟩, HP, Hr⟩ Hk
  ihave HI := (Ctx_inv m ρ K (dv c (evOff i)) (evSm c i) (ev_own c i h)) $$ HC
  icases HI with ⟨%κ, #HI⟩
  iapply (Rounds.wp_signal 𝒱₀ ER (Rd m ρ) (c : Thread nD τ) none (dst := (dv c (evOff i) : Thread nD τ)) (sem := sem) (r := evRd i) (d := evDt i) (κ := κ)
      (by rw [hsem]; exact ev_duty m ρ c i h) (by show am (.reg sem) = 1; rfl) (evRd i) (O₀ := O c i) (O c (i + 1))
      (by rw [O_step c i h, hsem]; unfold evCell; rw [show am (evSm c i) = 1 from by rw [← hsem]; rfl])) $$ [HO Ht HP Hr]
  · rw [hsem]
    isplitr; · iexact HI
    isplitl [HO]; · iexact HO
    isplitl [Ht]; · unfold evTok evCell; iexact Ht
    isplitl [HP]; · iapply hP'; iexact HP
    rw [h3]; iexact Hr
  iintro HO
  iapply Hk
  isplitl [HO]; · iexists _; iexact HO
  iexact Hts

/-- A transfer to another device. -/
theorem w_send (c : Dev nD) (i off : ℕ) (sm : SemLoc sig) (r : ℕ) (d : Bool) (hev : IsEv c i off sm r d) {n : Dev nD} (hn : n = dv c off)
    (sm1 : SemLoc sig) (r1 : ℕ) (h1 : r1 < nr c.val sm1) (h12 : twoPay sm1 = false) (ho1 : own sm1 = true) (ham : am sm1 = am sm)
    {sp sp' : Space} {s : Shape} {e : EltTy} {src : Memref sig .tc sp s e} {dst : Memref sig (Dev.tc n : Thread nD τ).2.kind sp' s e}
    {dst' : Memref sig (Dev.tc (dv c off) : Thread nD τ).2.kind sp' s e} (hdst' : HEq dst dst')
    {hsc : dst.view.ref.isScScratch = false} {sS sem : SemLoc sig} (hsS : sS = sm1) (hsem' : sem = sm)
    {hsrc : src.view.WordExact} {hdst : dst.view.WordExact} {hsem : DmaTarget.Typed sp sem (.remote (Dev.tc n : Thread nD τ) dst sS hsc)}
    (hN : dst'.view.amount sm = am sm) {q : PosShare TreeShare}
    {fs : Buf (Elt F) (src.view.loc (c : Thread nD τ))} {Psrc Pdst X : sProp 𝕄}
    (hs : Psrc ⊢ (src.view.loc (c : Thread nD τ) ↦[src.view.set]{q} fs))
    (hd : Pdst ⊢ iprop(∃ fd, dst'.view.loc (dv c off : Thread nD τ) ↦[dst'.view.set]{fullShare} fd))
    (hp1 : (src.view.loc (c : Thread nD τ) ↦[src.view.set]{q} fs) ⊢ paySm m ρ c sm1 r1 false)
    (hp2 : ∀ fd, iprop((dst'.view.loc (dv c off : Thread nD τ) ↦[dst'.view.set]{fullShare} (dst'.view.write (Elt F) fd (src.view.read (Elt F) fs) Finset.univ)) ∗ X)
      ⊢ paySm m ρ (dv c off) sm r d) :
    iprop(Ctx m ρ K ∗ Psrc ∗ Pdst ∗ X ∗ Ow c i ∗ Idle c sm1 r1 ∗ reached ER (cell (dv c off) sm) r)
      ⊢ iprop(((Busy c sm1 r1 ∗ Ow c (i + 1)) -∗ WP c (k ⟨⟩) Q)
          -∗ WP c (.op (.enqueueDma src (.remote (Dev.tc n : Thread nD τ) dst sS hsc) sem hsrc hdst hsem) k) Q) := by
  obtain ⟨h, rfl, h3, rfl, rfl⟩ := hev
  subst hn
  cases hdst'
  subst hsS hsem'
  subst h3
  unfold Ow Idle Busy
  rw [bigSep_Ico_succ_bot h, bigSep_Ico_succ_bot h1]
  iintro ⟨#HC, Hsrc, Hdst, HX, ⟨⟨%W, HO⟩, Ht, Hts⟩, ⟨Hat, #Hr1, Ht1, Hts1⟩, Hr⟩ Hk
  ihave HI := (Ctx_inv m ρ K (dv c (evOff i)) (evSm c i) (ev_own c i h)) $$ HC
  icases HI with ⟨%κ, #HI⟩
  ihave HI1 := (Ctx_inv m ρ K c sS ho1) $$ HC
  icases HI1 with ⟨%κ1, #HI1⟩
  ihave Hdst := hd $$ Hdst
  icases Hdst with ⟨%fd, Hdst⟩
  ihave Hsrc := hs $$ Hsrc
  iapply (Rounds.wp_send_pointsTo_with 𝒱₀ ER (Rd m ρ) (c : Thread nD τ) none (κ₁ := κ1) (κ₂ := κ) (r₁ := r1) (r₂ := evRd i) (d₁ := false) (d₂ := evDt i)
      (fs := fs) (fd := fd) (F := X)
      (by rw [show ((c : Thread nD τ), sS) = cell c sS from rfl, duties_one m ρ c sS r1 h1 h12]; exact Finset.mem_singleton_self _)
      (ev_duty m ρ c i h) (evRd i) r1 (am (evSm c i)) hN ham rfl (O c (i + 1)) (O_step c i h) (W := W) hp1 (hp2 fd)) $$ [Hsrc Hdst HX HO Ht Ht1 Hr]
  · isplitr; · iexact HI1
    isplitr; · iexact HI
    isplitl [Hsrc]; · iexact Hsrc
    isplitl [Hdst HX]
    · isplitl [Hdst]; · iexact Hdst
      iexact HX
    isplitl [HO]; · iexact HO
    isplitl [Ht1]; · iexact Ht1
    isplitr; · iexact Hr1
    isplitl [Ht]; · unfold evTok evCell; iexact Ht
    iexact Hr
  rw [← ham]
  iintro ⟨Hc, HO⟩
  iapply Hk
  isplitl [Hat Hc Hts1]
  · isplitl [Hat]; · iexact Hat
    isplitl [Hc]; · iexact Hc
    iexact Hts1
  isplitl [HO]; · iexists _; iexact HO
  iexact Hts

/-- A transfer inside device `c`. -/
theorem w_copy (c : Dev nD) (sm1 : SemLoc sig) (r1 : ℕ) (h1 : r1 < nr c.val sm1) (h12 : twoPay sm1 = false) (ho1 : own sm1 = true)
    {sp sp' : Space} {s : Shape} {e : EltTy} {src : Memref sig .tc sp s e} {dst : Memref sig .tc sp' s e}
    {sem : SemLoc sig} (hsem' : sem = sm1)
    {hsrc : src.view.WordExact} {hdst : dst.view.WordExact} {hsem : DmaTarget.Typed (nD := nD) (τ := τ) (p := .tc) sp sem (.here dst)}
    (hN : dst.view.amount sm1 = am sm1) {q : PosShare TreeShare}
    {fs : Buf (Elt F) (src.view.loc (c : Thread nD τ))} {Psrc Pdst : sProp 𝕄}
    (hs : Psrc ⊢ (src.view.loc (c : Thread nD τ) ↦[src.view.set]{q} fs))
    (hd : Pdst ⊢ iprop(∃ fd, dst.view.loc (c : Thread nD τ) ↦[dst.view.set]{fullShare} fd))
    (hp : ∀ fd, iprop((dst.view.loc (c : Thread nD τ) ↦[dst.view.set]{fullShare} (dst.view.write (Elt F) fd (src.view.read (Elt F) fs) Finset.univ))
        ∗ (src.view.loc (c : Thread nD τ) ↦[src.view.set]{q} fs))
      ⊢ paySm m ρ c sm1 r1 false) :
    iprop(Ctx m ρ K ∗ Psrc ∗ Pdst ∗ Idle c sm1 r1)
      ⊢ iprop((Busy c sm1 r1 -∗ WP c (k ⟨⟩) Q)
          -∗ WP c (.op (.enqueueDma src (.here dst) sem hsrc hdst hsem) k) Q) := by
  subst hsem'
  unfold Idle Busy
  rw [bigSep_Ico_succ_bot h1]
  iintro ⟨#HC, Hsrc, Hdst, ⟨Hat, #Hr1, Ht1, Hts1⟩⟩ Hk
  ihave HI1 := (Ctx_inv m ρ K c sem ho1) $$ HC
  icases HI1 with ⟨%κ1, #HI1⟩
  ihave Hdst := hd $$ Hdst
  icases Hdst with ⟨%fd, Hdst⟩
  ihave Hsrc := hs $$ Hsrc
  iapply (Rounds.wp_copy_pointsTo 𝒱₀ ER (Rd m ρ) (c : Thread nD τ) none (κ := κ1) (r := r1) (d := false) (fs := fs) (fd := fd)
      (by rw [show ((c : Thread nD τ), sem) = cell c sem from rfl, duties_one m ρ c sem r1 h1 h12]; exact Finset.mem_singleton_self _)
      r1 (am sem) hN rfl (hp fd)) $$ [Hsrc Hdst Ht1]
  · isplitr; · iexact HI1
    isplitl [Hsrc]; · iexact Hsrc
    isplitl [Hdst]; · iexact Hdst
    isplitl [Ht1]; · iexact Ht1
    iexact Hr1
  iintro Hc
  iapply Hk
  isplitl [Hat]; · iexact Hat
  isplitl [Hc]; · iexact Hc
  iexact Hts1

/-! ## The end -/

/-- A semaphore past its last round is at zero. -/
theorem close_pos (c : Dev nD) (sm : SemLoc sig) (r : ℕ) (h : nr c.val sm ≤ r) (ho : own sm = true) :
    iprop(Ctx m ρ K ∗ atPos ER (cell c sm) r ∅ 0) ⊢ iprop(|={Set.univ}=> semVal (cell c sm) 0) := by
  iintro ⟨#HC, Hat⟩
  ihave HI := (Ctx_inv m ρ K c sm ho) $$ HC
  icases HI with ⟨%κ, #HI⟩
  iapply (Rounds.cell_close ER (Rd m ρ) (Set.mem_univ κ) (fun h => h) (R := r) (fun r' hr' => duties_done m ρ c sm r' (le_trans h hr')))
  isplitr; · iexact HI
  iexact Hat
/-- A send semaphore whose rounds are over is at zero. -/
theorem close_idle (c : Dev nD) (sm : SemLoc sig) (r : ℕ) (h : nr c.val sm ≤ r) (ho : own sm = true) :
    iprop(Ctx m ρ K ∗ Idle c sm r) ⊢ iprop(|={Set.univ}=> semVal (cell c sm) 0) := by
  unfold Idle
  iintro ⟨#HC, Hat, -⟩
  iapply (close_pos m ρ K c sm r h ho)
  isplitr; · iexact HC
  iexact Hat
/-- A receive semaphore whose rounds are over is at zero. -/
theorem close_rcv (c : Dev nD) (sm : SemLoc sig) (r : ℕ) (h : nr c.val sm ≤ r) (ho : own sm = true) :
    iprop(Ctx m ρ K ∗ Rcv c sm r) ⊢ iprop(|={Set.univ}=> semVal (cell c sm) 0) := by
  unfold Rcv
  iintro ⟨#HC, Hat, -⟩
  iapply (close_pos m ρ K c sm r h ho)
  isplitr; · iexact HC
  iexact Hat

end Cert.Talk

end
-- ==== Proof.Steps.lean ====
module

public import proofs.«01_k».proof.Proof.Rules

/-!
# Loads and stores

The loads and stores of the body, over the ownership the protocol speaks of, and which payment is which.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

variable {α : Type}
variable {Q : α → sProp (MT nD τ sig ℕ (Elt F) ℕ UU ℕ)}

/-- Entering a sequence of operations. -/
theorem WP_bind {β : Type} (c : Dev nD) (p : Prog (TpuEff nD τ sig (Elt F) Λ₀ .tc) β) (k : β → Prog (TpuEff nD τ sig (Elt F) Λ₀ .tc) α) :
    WP c p (fun a => WP c (k a) Q) ⊢ WP c (p >>= k) Q := Entails.of_eq (wp_bind ..).symm

/-- A set of elements of a whole buffer, seen through the buffer's view. -/
theorem setOn_whole (b : Ref sig .tc) (S : Finset b.ty.shape.Idx) : (Memref.whole b).view.setOn S = S := by
  ext i
  exact View.mem_setOn (v := (Memref.whole b).view) (x := i)

/-- The corner of an array is at nought. -/
theorem hz2 : (![0, 0] : Fin 2 → ℕ) = fun _ => 0 := funext fun a => by fin_cases a <;> rfl

/-- The vector memory buffer number `mi`. -/
abbrev vb (mi : Fin 11) : Ref sig .tc := ⟨.vmem, mi, by revert mi; decide⟩

section Mem
variable {mi : Fin 11} {s : Shape} {e : EltTy}

/-- A load from a buffer held in part. -/
theorem s_load (c : Dev nD) (S : Finset (Ref.ty (vb mi)).shape.Idx) (q : PosShare TreeShare) (f : (Ref.ty (vb mi)).Contents (Elt F)) (r : LoadRect (Ref.ty (vb mi)).shape)
    {hl : (Memref.whole (vb mi)).view.LoadsAt r} {k : (r.shape.Idx → Elt F (Ref.ty (vb mi)).elt) → Prog (TpuEff nD τ sig (Elt F) Λ₀ .tc) α} (hS : r.set ⊆ S) :
    pt c (vb mi) S q f ⊢ iprop((pt c (vb mi) S q f -∗ WP c (k ((Memref.whole (vb mi)).view.readAt (Elt F) r f)) Q)
      -∗ WP c (.op (.load (Memref.whole (vb mi) : Memref sig .tc .vmem (Ref.ty (vb mi)).shape (Ref.ty (vb mi)).elt) r hl) k) Q) :=
  wp_load 𝒱₀ (c : Thread nD τ) none Set.univ (m := (Memref.whole (vb mi) : Memref sig .tc .vmem (Ref.ty (vb mi)).shape (Ref.ty (vb mi)).elt)) (S := S) (f := f) (by
    intro i hi; exact hS ((setOn_whole (vb mi) r.set) ▸ hi))

/-- A load of a whole buffer. -/
theorem s_loadw (c : Dev nD) (q : PosShare TreeShare) (f : (Ref.ty (vb mi)).Contents (Elt F)) {off : Fin (Ref.ty (vb mi)).shape.rank → ℕ} (hz : off = fun _ => 0)
    (inb : ∀ a, off a + (Ref.ty (vb mi)).shape.size a ≤ (Ref.ty (vb mi)).shape.size a)
    {hl : (Memref.whole (vb mi)).view.LoadsAt (Rect.unit off (Ref.ty (vb mi)).shape.size inb).toLoadRect}
    {k : ((Ref.ty (vb mi)).shape.Idx → Elt F (Ref.ty (vb mi)).elt) → Prog (TpuEff nD τ sig (Elt F) Λ₀ .tc) α} :
    pt c (vb mi) Finset.univ q f ⊢ iprop((pt c (vb mi) Finset.univ q f -∗ WP c (k f) Q)
      -∗ WP c (.op (.load (Memref.whole (vb mi) : Memref sig .tc .vmem (Ref.ty (vb mi)).shape (Ref.ty (vb mi)).elt) (Rect.unit off (Ref.ty (vb mi)).shape.size inb).toLoadRect hl) k) Q) := by
  have h := s_load (F := F) (Q := Q) c Finset.univ q f (Rect.unit off (Ref.ty (vb mi)).shape.size inb).toLoadRect (hl := hl) (k := k) (Finset.subset_univ _)
  rw [Memref.readAt_unit_zero (Elt F) (vb mi) hz inb f] at h
  exact h

/-- A store to a buffer held in part. -/
theorem s_store (c : Dev nD) (S : Finset (Ref.ty (vb mi)).shape.Idx) (f : (Ref.ty (vb mi)).Contents (Elt F)) (r : Rect (Ref.ty (vb mi)).shape)
    {w : r.shape.Idx → Elt F (Ref.ty (vb mi)).elt} {hx : ((Memref.whole (vb mi)).access r).Stores Finset.univ} {hm}
    {k : PUnit → Prog (TpuEff nD τ sig (Elt F) Λ₀ .tc) α} (hS : r.set ⊆ S) :
    pt c (vb mi) S fullShare f ⊢ iprop((pt c (vb mi) S fullShare (((Memref.whole (vb mi)).access r).write (Elt F) f w Finset.univ) -∗ WP c (k ⟨⟩) Q)
      -∗ WP c (.op (.store (Memref.whole (vb mi) : Memref sig .tc .vmem (Ref.ty (vb mi)).shape (Ref.ty (vb mi)).elt) r w Finset.univ hx hm) k) Q) :=
  wp_store 𝒱₀ (c : Thread nD τ) none Set.univ (r := r) (m := (Memref.whole (vb mi) : Memref sig .tc .vmem (Ref.ty (vb mi)).shape (Ref.ty (vb mi)).elt)) (S := S) (f := f) (by
    intro i hi; exact hS ((View.set_slice_whole (vb mi) r) ▸ hi))

/-- A store to a whole buffer. -/
theorem s_storew (c : Dev nD) (f : (Ref.ty (vb mi)).Contents (Elt F)) {off : Fin (Ref.ty (vb mi)).shape.rank → ℕ} (hz : off = fun _ => 0)
    (inb : ∀ a, off a + (Ref.ty (vb mi)).shape.size a ≤ (Ref.ty (vb mi)).shape.size a)
    {w : (Ref.ty (vb mi)).Contents (Elt F)} {hx : ((Memref.whole (vb mi)).access (Rect.unit off (Ref.ty (vb mi)).shape.size inb)).Stores Finset.univ} {hm}
    {k : PUnit → Prog (TpuEff nD τ sig (Elt F) Λ₀ .tc) α} :
    pt c (vb mi) Finset.univ fullShare f ⊢ iprop((pt c (vb mi) Finset.univ fullShare w -∗ WP c (k ⟨⟩) Q)
      -∗ WP c (.op (.store (Memref.whole (vb mi) : Memref sig .tc .vmem (Ref.ty (vb mi)).shape (Ref.ty (vb mi)).elt) (Rect.unit off (Ref.ty (vb mi)).shape.size inb) w Finset.univ hx hm) k) Q) := by
  have h := s_store (F := F) (Q := Q) c Finset.univ f (Rect.unit off (Ref.ty (vb mi)).shape.size inb) (w := w) (hx := hx) (hm := hm) (k := k) (Finset.subset_univ _)
  rw [Memref.write_access_unit_zero_univ (Elt F) (vb mi) hz inb f w] at h
  exact h

end Mem

/-- A load of the left half's sum. -/
theorem ld0 (c : Dev nD) (q : PosShare TreeShare) (f : FVec F S256x4096 .f32) {inb} {hl} {k : Vec F S256x4096 .f32 → Prog (TpuEff nD τ sig (Elt F) Λ₀ .tc) α} :
    pt c cc0_scratch0 Finset.univ q f ⊢ iprop((pt c cc0_scratch0 Finset.univ q f -∗ WP c (k f) Q)
      -∗ WP c (.op (.load (Memref.whole cc0_scratch0) (Rect.unit (s := S256x4096) ![0, 0] S256x4096.size inb).toLoadRect hl) k) Q) := s_loadw (mi := 2) c q f hz2 inb
/-- A store to the left half's sum. -/
theorem st0 (c : Dev nD) {w : FVec F S256x4096 .f32} {inb} {hx} {hm} {k : PUnit → Prog (TpuEff nD τ sig (Elt F) Λ₀ .tc) α} :
    ptAny c cc0_scratch0 Finset.univ ⊢ iprop((pt c cc0_scratch0 Finset.univ fullShare w -∗ WP c (k ⟨⟩) Q)
      -∗ WP c (.op (.store (Memref.whole cc0_scratch0) (Rect.unit (s := S256x4096) ![0, 0] S256x4096.size inb) w Finset.univ hx hm) k) Q) := by
  unfold ptAny; iintro ⟨%f, H⟩; iapply (s_storew (mi := 2) c f hz2 inb); iexact H
/-- A load of the left half's sum, whatever it holds. -/
theorem ldA0 (c : Dev nD) {inb} {hl} {k : Vec F S256x4096 .f32 → Prog (TpuEff nD τ sig (Elt F) Λ₀ .tc) α} :
    ptAny c cc0_scratch0 Finset.univ ⊢ iprop((∀ f, ptAny c cc0_scratch0 Finset.univ -∗ WP c (k f) Q)
      -∗ WP c (.op (.load (Memref.whole cc0_scratch0) (Rect.unit (s := S256x4096) ![0, 0] S256x4096.size inb).toLoadRect hl) k) Q) := by
  unfold ptAny; iintro ⟨%f, H⟩ Hk; iapply (ld0 c fullShare f) $$ H; iintro H; iapply Hk; iexists f; iexact H
/-- A load of the right half's sum. -/
theorem ld1 (c : Dev nD) (q : PosShare TreeShare) (f : FVec F S256x4096 .f32) {inb} {hl} {k : Vec F S256x4096 .f32 → Prog (TpuEff nD τ sig (Elt F) Λ₀ .tc) α} :
    pt c cc0_scratch1 Finset.univ q f ⊢ iprop((pt c cc0_scratch1 Finset.univ q f -∗ WP c (k f) Q)
      -∗ WP c (.op (.load (Memref.whole cc0_scratch1) (Rect.unit (s := S256x4096) ![0, 0] S256x4096.size inb).toLoadRect hl) k) Q) := s_loadw (mi := 3) c q f hz2 inb
/-- A store to the right half's sum. -/
theorem st1 (c : Dev nD) {w : FVec F S256x4096 .f32} {inb} {hx} {hm} {k : PUnit → Prog (TpuEff nD τ sig (Elt F) Λ₀ .tc) α} :
    ptAny c cc0_scratch1 Finset.univ ⊢ iprop((pt c cc0_scratch1 Finset.univ fullShare w -∗ WP c (k ⟨⟩) Q)
      -∗ WP c (.op (.store (Memref.whole cc0_scratch1) (Rect.unit (s := S256x4096) ![0, 0] S256x4096.size inb) w Finset.univ hx hm) k) Q) := by
  unfold ptAny; iintro ⟨%f, H⟩; iapply (s_storew (mi := 3) c f hz2 inb); iexact H
/-- A load of the right half's sum, whatever it holds. -/
theorem ldA1 (c : Dev nD) {inb} {hl} {k : Vec F S256x4096 .f32 → Prog (TpuEff nD τ sig (Elt F) Λ₀ .tc) α} :
    ptAny c cc0_scratch1 Finset.univ ⊢ iprop((∀ f, ptAny c cc0_scratch1 Finset.univ -∗ WP c (k f) Q)
      -∗ WP c (.op (.load (Memref.whole cc0_scratch1) (Rect.unit (s := S256x4096) ![0, 0] S256x4096.size inb).toLoadRect hl) k) Q) := by
  unfold ptAny; iintro ⟨%f, H⟩ Hk; iapply (ld1 c fullShare f) $$ H; iintro H; iapply Hk; iexists f; iexact H
/-- A load of the left half's product. -/
theorem ld2 (c : Dev nD) (q : PosShare TreeShare) (f : FVec F S256x4096 .f32) {inb} {hl} {k : Vec F S256x4096 .f32 → Prog (TpuEff nD τ sig (Elt F) Λ₀ .tc) α} :
    pt c cc0_scratch2 Finset.univ q f ⊢ iprop((pt c cc0_scratch2 Finset.univ q f -∗ WP c (k f) Q)
      -∗ WP c (.op (.load (Memref.whole cc0_scratch2) (Rect.unit (s := S256x4096) ![0, 0] S256x4096.size inb).toLoadRect hl) k) Q) := s_loadw (mi := 4) c q f hz2 inb
/-- A store to the left half's product. -/
theorem st2 (c : Dev nD) {w : FVec F S256x4096 .f32} {inb} {hx} {hm} {k : PUnit → Prog (TpuEff nD τ sig (Elt F) Λ₀ .tc) α} :
    ptAny c cc0_scratch2 Finset.univ ⊢ iprop((pt c cc0_scratch2 Finset.univ fullShare w -∗ WP c (k ⟨⟩) Q)
      -∗ WP c (.op (.store (Memref.whole cc0_scratch2) (Rect.unit (s := S256x4096) ![0, 0] S256x4096.size inb) w Finset.univ hx hm) k) Q) := by
  unfold ptAny; iintro ⟨%f, H⟩; iapply (s_storew (mi := 4) c f hz2 inb); iexact H
/-- A load of the left half's product, whatever it holds. -/
theorem ldA2 (c : Dev nD) {inb} {hl} {k : Vec F S256x4096 .f32 → Prog (TpuEff nD τ sig (Elt F) Λ₀ .tc) α} :
    ptAny c cc0_scratch2 Finset.univ ⊢ iprop((∀ f, ptAny c cc0_scratch2 Finset.univ -∗ WP c (k f) Q)
      -∗ WP c (.op (.load (Memref.whole cc0_scratch2) (Rect.unit (s := S256x4096) ![0, 0] S256x4096.size inb).toLoadRect hl) k) Q) := by
  unfold ptAny; iintro ⟨%f, H⟩ Hk; iapply (ld2 c fullShare f) $$ H; iintro H; iapply Hk; iexists f; iexact H
/-- A load of the right half's product. -/
theorem ld3 (c : Dev nD) (q : PosShare TreeShare) (f : FVec F S256x4096 .f32) {inb} {hl} {k : Vec F S256x4096 .f32 → Prog (TpuEff nD τ sig (Elt F) Λ₀ .tc) α} :
    pt c cc0_scratch3 Finset.univ q f ⊢ iprop((pt c cc0_scratch3 Finset.univ q f -∗ WP c (k f) Q)
      -∗ WP c (.op (.load (Memref.whole cc0_scratch3) (Rect.unit (s := S256x4096) ![0, 0] S256x4096.size inb).toLoadRect hl) k) Q) := s_loadw (mi := 5) c q f hz2 inb
/-- A store to the right half's product. -/
theorem st3 (c : Dev nD) {w : FVec F S256x4096 .f32} {inb} {hx} {hm} {k : PUnit → Prog (TpuEff nD τ sig (Elt F) Λ₀ .tc) α} :
    ptAny c cc0_scratch3 Finset.univ ⊢ iprop((pt c cc0_scratch3 Finset.univ fullShare w -∗ WP c (k ⟨⟩) Q)
      -∗ WP c (.op (.store (Memref.whole cc0_scratch3) (Rect.unit (s := S256x4096) ![0, 0] S256x4096.size inb) w Finset.univ hx hm) k) Q) := by
  unfold ptAny; iintro ⟨%f, H⟩; iapply (s_storew (mi := 5) c f hz2 inb); iexact H
/-- A load of the right half's product, whatever it holds. -/
theorem ldA3 (c : Dev nD) {inb} {hl} {k : Vec F S256x4096 .f32 → Prog (TpuEff nD τ sig (Elt F) Λ₀ .tc) α} :
    ptAny c cc0_scratch3 Finset.univ ⊢ iprop((∀ f, ptAny c cc0_scratch3 Finset.univ -∗ WP c (k f) Q)
      -∗ WP c (.op (.load (Memref.whole cc0_scratch3) (Rect.unit (s := S256x4096) ![0, 0] S256x4096.size inb).toLoadRect hl) k) Q) := by
  unfold ptAny; iintro ⟨%f, H⟩ Hk; iapply (ld3 c fullShare f) $$ H; iintro H; iapply Hk; iexists f; iexact H
/-- A load of the left half's received sum. -/
theorem ld4 (c : Dev nD) (q : PosShare TreeShare) (f : FVec F S256x4096 .f32) {inb} {hl} {k : Vec F S256x4096 .f32 → Prog (TpuEff nD τ sig (Elt F) Λ₀ .tc) α} :
    pt c cc0_scratch4 Finset.univ q f ⊢ iprop((pt c cc0_scratch4 Finset.univ q f -∗ WP c (k f) Q)
      -∗ WP c (.op (.load (Memref.whole cc0_scratch4) (Rect.unit (s := S256x4096) ![0, 0] S256x4096.size inb).toLoadRect hl) k) Q) := s_loadw (mi := 6) c q f hz2 inb
/-- A store to the left half's received sum. -/
theorem st4 (c : Dev nD) {w : FVec F S256x4096 .f32} {inb} {hx} {hm} {k : PUnit → Prog (TpuEff nD τ sig (Elt F) Λ₀ .tc) α} :
    ptAny c cc0_scratch4 Finset.univ ⊢ iprop((pt c cc0_scratch4 Finset.univ fullShare w -∗ WP c (k ⟨⟩) Q)
      -∗ WP c (.op (.store (Memref.whole cc0_scratch4) (Rect.unit (s := S256x4096) ![0, 0] S256x4096.size inb) w Finset.univ hx hm) k) Q) := by
  unfold ptAny; iintro ⟨%f, H⟩; iapply (s_storew (mi := 6) c f hz2 inb); iexact H
/-- A load of the left half's received sum, whatever it holds. -/
theorem ldA4 (c : Dev nD) {inb} {hl} {k : Vec F S256x4096 .f32 → Prog (TpuEff nD τ sig (Elt F) Λ₀ .tc) α} :
    ptAny c cc0_scratch4 Finset.univ ⊢ iprop((∀ f, ptAny c cc0_scratch4 Finset.univ -∗ WP c (k f) Q)
      -∗ WP c (.op (.load (Memref.whole cc0_scratch4) (Rect.unit (s := S256x4096) ![0, 0] S256x4096.size inb).toLoadRect hl) k) Q) := by
  unfold ptAny; iintro ⟨%f, H⟩ Hk; iapply (ld4 c fullShare f) $$ H; iintro H; iapply Hk; iexists f; iexact H
/-- A load of the right half's received sum. -/
theorem ld5 (c : Dev nD) (q : PosShare TreeShare) (f : FVec F S256x4096 .f32) {inb} {hl} {k : Vec F S256x4096 .f32 → Prog (TpuEff nD τ sig (Elt F) Λ₀ .tc) α} :
    pt c cc0_scratch5 Finset.univ q f ⊢ iprop((pt c cc0_scratch5 Finset.univ q f -∗ WP c (k f) Q)
      -∗ WP c (.op (.load (Memref.whole cc0_scratch5) (Rect.unit (s := S256x4096) ![0, 0] S256x4096.size inb).toLoadRect hl) k) Q) := s_loadw (mi := 7) c q f hz2 inb
/-- A store to the right half's received sum. -/
theorem st5 (c : Dev nD) {w : FVec F S256x4096 .f32} {inb} {hx} {hm} {k : PUnit → Prog (TpuEff nD τ sig (Elt F) Λ₀ .tc) α} :
    ptAny c cc0_scratch5 Finset.univ ⊢ iprop((pt c cc0_scratch5 Finset.univ fullShare w -∗ WP c (k ⟨⟩) Q)
      -∗ WP c (.op (.store (Memref.whole cc0_scratch5) (Rect.unit (s := S256x4096) ![0, 0] S256x4096.size inb) w Finset.univ hx hm) k) Q) := by
  unfold ptAny; iintro ⟨%f, H⟩; iapply (s_storew (mi := 7) c f hz2 inb); iexact H
/-- A load of the right half's received sum, whatever it holds. -/
theorem ldA5 (c : Dev nD) {inb} {hl} {k : Vec F S256x4096 .f32 → Prog (TpuEff nD τ sig (Elt F) Λ₀ .tc) α} :
    ptAny c cc0_scratch5 Finset.univ ⊢ iprop((∀ f, ptAny c cc0_scratch5 Finset.univ -∗ WP c (k f) Q)
      -∗ WP c (.op (.load (Memref.whole cc0_scratch5) (Rect.unit (s := S256x4096) ![0, 0] S256x4096.size inb).toLoadRect hl) k) Q) := by
  unfold ptAny; iintro ⟨%f, H⟩ Hk; iapply (ld5 c fullShare f) $$ H; iintro H; iapply Hk; iexists f; iexact H
/-- A load of rows of `x`. -/
theorem ldx (c : Dev nD) (X : (cc0_stg0_0 : Ref sig .tc).ty.Contents (Elt F)) {off : Fin 2 → ℕ} {inb} {hl} {k : Vec F S256x256 .f32 → Prog (TpuEff nD τ sig (Elt F) Λ₀ .tc) α} :
    pt c cc0_stg0_0 Finset.univ fullShare X ⊢ iprop((pt c cc0_stg0_0 Finset.univ fullShare X -∗ WP c (k (xat X off inb)) Q)
      -∗ WP c (.op (.load (Memref.whole cc0_stg0_0) (Rect.unit (s := S4096x256) off S256x256.size inb).toLoadRect hl) k) Q) :=
  s_load (mi := 0) c Finset.univ fullShare X _ (Finset.subset_univ _)
/-- A load of columns of `w`. -/
theorem ldw (c : Dev nD) (X : (cc0_stg1_0 : Ref sig .tc).ty.Contents (Elt F)) {off : Fin 2 → ℕ} {inb} {hl} {k : Vec F S256x4096 .f32 → Prog (TpuEff nD τ sig (Elt F) Λ₀ .tc) α} :
    pt c cc0_stg1_0 Finset.univ fullShare X ⊢ iprop((pt c cc0_stg1_0 Finset.univ fullShare X -∗ WP c (k (wat X off inb)) Q)
      -∗ WP c (.op (.load (Memref.whole cc0_stg1_0) (Rect.unit (s := S256x8192) off S256x4096.size inb).toLoadRect hl) k) Q) :=
  s_load (mi := 1) c Finset.univ fullShare X _ (Finset.subset_univ _)

/-- Known contents may be forgotten. -/
theorem pt_any (c : Dev nD) (b : Ref sig .tc) (S) (f : b.ty.Contents (Elt F)) : pt c b S fullShare f ⊢ ptAny c b S := by
  unfold ptAny; iintro H; iexists f; iexact H

/-- A whole buffer as a view of it owns it. -/
theorem pt_whole_eq (c : Dev nD) (b : Ref sig .tc) (q : PosShare TreeShare) (f : b.ty.Contents (Elt F)) :
    pt c b Finset.univ q f = ((Memref.whole b).view.loc (c : Thread nD τ) ↦[(Memref.whole b).view.set]{q} f) := by
  unfold pt
  exact congrArg (fun S : Finset b.ty.shape.Idx => (((c : Thread nD τ).loc b) ↦[S]{q} f : sProp 𝕄)) (View.set_whole b).symm
/-- Owning all elements of a buffer is owning it through its view. -/
theorem pt_whole (c : Dev nD) (b : Ref sig .tc) (q : PosShare TreeShare) (f : b.ty.Contents (Elt F)) :
    pt c b Finset.univ q f ⊢ ((Memref.whole b).view.loc (c : Thread nD τ) ↦[(Memref.whole b).view.set]{q} f) := Entails.of_eq (pt_whole_eq c b q f)
/-- Owning a buffer through its view is owning all its elements. -/
theorem pt_of_whole (c : Dev nD) (b : Ref sig .tc) (q : PosShare TreeShare) (f : b.ty.Contents (Elt F)) :
    ((Memref.whole b).view.loc (c : Thread nD τ) ↦[(Memref.whole b).view.set]{q} f) ⊢ pt c b Finset.univ q f := Entails.of_eq (pt_whole_eq c b q f).symm
/-- The same with unknown contents. -/
theorem ptAny_whole (c : Dev nD) (b : Ref sig .tc) :
    (ptAny c b Finset.univ : sProp 𝕄) ⊢ iprop(∃ f, ((Memref.whole b).view.loc (c : Thread nD τ) ↦[(Memref.whole b).view.set]{fullShare} f)) := by
  unfold ptAny; iintro ⟨%f, H⟩; iexists f; iapply (pt_whole c b fullShare f); iexact H

/-! ## Which payment is which -/

variable (c : Dev nD)

/-- The entry signal to the left is payment 0. -/
theorem ev_barL : IsEv c 0 15 (rg 2) 0 false := ⟨by decide, rfl, rfl, rfl, rfl⟩
/-- The entry signal to the right is payment 1. -/
theorem ev_barR : IsEv c 1 1 (rg 2) 0 true := ⟨by decide, rfl, rfl, rfl, rfl⟩
/-- Which payment the left half's copy of summing hop `k` is. -/
theorem ev_rsP (k : ℕ) (h : k < 15) : IsEv c (2 + 4 * k) 1 (dm 3) k false := by
  refine ⟨by omega, ?_, ?_, ?_, decide_eq_false (by omega)⟩
  · unfold evOff; split_ifs <;> omega
  · unfold evSm; split_ifs <;> first | rfl | omega
  · unfold evRd; split_ifs <;> omega
/-- Which payment the right half's copy of summing hop `k` is. -/
theorem ev_rsN (k : ℕ) (h : k < 15) : IsEv c (3 + 4 * k) 15 (dm 5) k false := by
  refine ⟨by omega, ?_, ?_, ?_, decide_eq_false (by omega)⟩
  · unfold evOff; split_ifs <;> omega
  · unfold evSm; split_ifs <;> first | rfl | omega
  · unfold evRd; split_ifs <;> omega
/-- Which payment the left half's credit of summing hop `k` is. -/
theorem ev_crdP (k : ℕ) (h : k < 14) : IsEv c (4 + 4 * k) 15 (rg 0) k false := by
  refine ⟨by omega, ?_, ?_, ?_, decide_eq_false (by omega)⟩
  · unfold evOff; split_ifs <;> omega
  · unfold evSm; split_ifs <;> first | rfl | omega
  · unfold evRd; split_ifs <;> omega
/-- Which payment the right half's credit of summing hop `k` is. -/
theorem ev_crdN (k : ℕ) (h : k < 14) : IsEv c (5 + 4 * k) 1 (rg 1) k false := by
  refine ⟨by omega, ?_, ?_, ?_, decide_eq_false (by omega)⟩
  · unfold evOff; split_ifs <;> omega
  · unfold evSm; split_ifs <;> first | rfl | omega
  · unfold evRd; split_ifs <;> omega
/-- Which payment the `t`-th sent maximum is. -/
theorem ev_scal (t : ℕ) (h : t < 15) : IsEv c (60 + t) (t + 1) (dm (31 + c.val) (by have := c.isLt; simp only [nD] at this; omega)) 0 false := by
  refine ⟨by omega, ?_, ?_, ?_, decide_eq_false (by omega)⟩
  · unfold evOff; split_ifs <;> omega
  · unfold evSm; split_ifs <;> first | rfl | omega
  · unfold evRd; split_ifs <;> omega
/-- Which payment the left half's copy of gathering hop `t` is. -/
theorem ev_agP (t : ℕ) (h : t < 15) : IsEv c (75 + 4 * t) 1 (dm (8 + (t + 1) % 2) (by omega)) (t / 2) false := by
  refine ⟨by omega, ?_, ?_, ?_, decide_eq_false (by omega)⟩
  · unfold evOff; split_ifs <;> omega
  · unfold evSm; split_ifs <;> first | omega | exact congrArg SemLoc.dma (Fin.ext (by show _ + _ = _ + _; omega))
  · unfold evRd; split_ifs <;> omega
/-- Which payment the right half's copy of gathering hop `t` is. -/
theorem ev_agN (t : ℕ) (h : t < 15) : IsEv c (76 + 4 * t) 15 (dm (12 + (t + 1) % 2) (by omega)) (t / 2) false := by
  refine ⟨by omega, ?_, ?_, ?_, decide_eq_false (by omega)⟩
  · unfold evOff; split_ifs <;> omega
  · unfold evSm; split_ifs <;> first | omega | exact congrArg SemLoc.dma (Fin.ext (by show _ + _ = _ + _; omega))
  · unfold evRd; split_ifs <;> omega
/-- Which payment the left half's credit of gathering hop `t` is. -/
theorem ev_agcP (t : ℕ) (h : t < 14) : IsEv c (77 + 4 * t) 15 (rg 0) (14 + t) false := by
  refine ⟨by omega, ?_, ?_, ?_, decide_eq_false (by omega)⟩
  · unfold evOff; split_ifs <;> omega
  · unfold evSm; split_ifs <;> first | rfl | omega
  · unfold evRd; split_ifs <;> omega
/-- Which payment the right half's credit of gathering hop `t` is. -/
theorem ev_agcN (t : ℕ) (h : t < 14) : IsEv c (78 + 4 * t) 1 (rg 1) (14 + t) false := by
  refine ⟨by omega, ?_, ?_, ?_, decide_eq_false (by omega)⟩
  · unfold evOff; split_ifs <;> omega
  · unfold evSm; split_ifs <;> first | rfl | omega
  · unfold evRd; split_ifs <;> omega
/-- The closing signal to the left is payment 133. -/
theorem ev_finL : IsEv c 133 15 (rg 3) 0 false := ⟨by decide, rfl, rfl, rfl, rfl⟩
/-- The closing signal to the right is payment 134. -/
theorem ev_finR : IsEv c 134 1 (rg 3) 0 true := ⟨by decide, rfl, rfl, rfl, rfl⟩

/-! ## Levels of the waits -/

/-- A program that only returns. -/
theorem WP_ret (c : Dev nD) (a : α) : Q a ⊢ WP c (Prog.ret a) Q := Entails.trans fupd_intro (Entails.of_eq (wp_ret _ _ _ _ _).symm)

/-- Every payment's level is positive. -/
theorem evLv_pos (n : ℕ) : 0 < evLv n := by unfold evLv; split_ifs <;> omega
/-- The levels of the left half's credits. -/
theorem lv_crd0 (r : ℕ) : lvS (rg 0) r = if r < 14 then 2 * r + 3 else 200 + 2 * (r - 14) + 1 := rfl
/-- The levels of the right half's credits. -/
theorem lv_crd1 (r : ℕ) : lvS (rg 1) r = if r < 14 then 2 * r + 3 else 200 + 2 * (r - 14) + 1 := rfl
/-- The semaphores that only their own device's copies raise have level nought. -/
theorem lv_own (s : ℕ) (h : s < 47) (r : ℕ) (hs : s < 31 ∧ s ≠ 3 ∧ s ≠ 5 ∧ s ≠ 8 ∧ s ≠ 9 ∧ s ≠ 12 ∧ s ≠ 13) : lvS (dm s h) r = 0 := by
  show (if s = 3 ∨ s = 5 then 2 * r + 2 else if s = 8 ∨ s = 12 then 200 + 2 * (2 * r + 1) else if s = 9 ∨ s = 13 then 200 + 4 * r else if 31 ≤ s then 100 else 0) = 0
  split_ifs <;> omega
/-- The levels of the summing hops' arrivals. -/
theorem lv_rs (s : ℕ) (h : s < 47) (r : ℕ) (hs : s = 3 ∨ s = 5) : lvS (dm s h) r = 2 * r + 2 := by
  show (if s = 3 ∨ s = 5 then 2 * r + 2 else if s = 8 ∨ s = 12 then 200 + 2 * (2 * r + 1) else if s = 9 ∨ s = 13 then 200 + 4 * r else if 31 ≤ s then 100 else 0) = _
  split_ifs <;> omega
/-- The levels of the gathering hops' arrivals in the first slot. -/
theorem lv_ag0 (s : ℕ) (h : s < 47) (r : ℕ) (hs : s = 8 ∨ s = 12) : lvS (dm s h) r = 200 + 2 * (2 * r + 1) := by
  show (if s = 3 ∨ s = 5 then 2 * r + 2 else if s = 8 ∨ s = 12 then 200 + 2 * (2 * r + 1) else if s = 9 ∨ s = 13 then 200 + 4 * r else if 31 ≤ s then 100 else 0) = _
  split_ifs <;> omega
/-- The levels of the gathering hops' arrivals in the second slot. -/
theorem lv_ag1 (s : ℕ) (h : s < 47) (r : ℕ) (hs : s = 9 ∨ s = 13) : lvS (dm s h) r = 200 + 4 * r := by
  show (if s = 3 ∨ s = 5 then 2 * r + 2 else if s = 8 ∨ s = 12 then 200 + 2 * (2 * r + 1) else if s = 9 ∨ s = 13 then 200 + 4 * r else if 31 ≤ s then 100 else 0) = _
  split_ifs <;> omega
/-- The level of the maxima's arrivals. -/
theorem lv_sc (s : ℕ) (h : s < 47) (r : ℕ) (hs : 31 ≤ s) : lvS (dm s h) r = 100 := by
  show (if s = 3 ∨ s = 5 then 2 * r + 2 else if s = 8 ∨ s = 12 then 200 + 2 * (2 * r + 1) else if s = 9 ∨ s = 13 then 200 + 4 * r else if 31 ≤ s then 100 else 0) = _
  split_ifs <;> omega

/-- A semaphore before round `r` has reached round `r`. -/
theorem Rcv_reached (c : Dev nD) (sm : SemLoc sig) (r : ℕ) : (Rcv c sm r : sProp 𝕄) ⊢ reached ER (cell c sm) r := by
  unfold Rcv; iintro ⟨-, H, -⟩; iexact H
/-- A semaphore before round `r` has reached round `r`. -/
theorem Rcv_reached0 (c : Dev nD) (r : ℕ) : (Rcv c (rg 0) r : sProp 𝕄) ⊢ reached ER (cell c (rg 0)) r := Rcv_reached c _ r
/-- A semaphore before round `r` has reached round `r`. -/
theorem Rcv_reached1 (c : Dev nD) (r : ℕ) : (Rcv c (rg 1) r : sProp 𝕄) ⊢ reached ER (cell c (rg 1)) r := Rcv_reached c _ r
/-- A transfer into a whole buffer leaves what was sent. -/
theorem pt_of_whole_write (c : Dev nD) (b : Ref sig .tc) (fd : b.ty.Contents (Elt F)) (w : b.ty.Contents (Elt F)) :
    ((Memref.whole b).view.loc (c : Thread nD τ) ↦[(Memref.whole b).view.set]{fullShare} ((Memref.whole b).view.write (Elt F) fd w Finset.univ))
      ⊢ pt c b Finset.univ fullShare w := by
  have e : (Memref.whole b).view.write (Elt F) fd w Finset.univ = w := View.write_whole_univ b fd w
  rw [e]; exact pt_of_whole c b fullShare w

/-- A piece of the body proved on its own, at the head of the rest. -/
theorem WP_call {β : Type} (c : Dev nD) {p : Prog (TpuEff nD τ sig (Elt F) Λ₀ .tc) β} {k : β → Prog (TpuEff nD τ sig (Elt F) Λ₀ .tc) α}
    {P : sProp 𝕄} {Q₁ : β → sProp 𝕄} (h : P ⊢ WP c p Q₁) :
    P ⊢ iprop((∀ a, Q₁ a -∗ WP c (k a) Q) -∗ WP c (p >>= k) Q) := by
  refine h.trans ((wp_wand _ _ _).trans (wand_mono_right (WP_bind c p k)))

/-- A collection with its numbers moved by one. -/
theorem bigSep_shift (A : ℕ → sProp 𝕄) (n : ℕ) : bigSep (Finset.range n) (fun i => A (i + 1)) = bigSep (Finset.Ico 1 (n + 1)) A := by
  have h : Finset.Ico 1 (n + 1) = (Finset.range n).map ⟨fun i => i + 1, fun _ _ h => Nat.succ.inj h⟩ := by
    ext x; simp only [Finset.mem_Ico, Finset.mem_map, Finset.mem_range, Function.Embedding.coeFn_mk]
    exact ⟨fun ⟨h1, h2⟩ => ⟨x - 1, by omega, Nat.sub_add_cancel h1⟩, fun ⟨a, h1, h2⟩ => by have h2 : a + 1 = x := h2; omega⟩
  rw [h, bigSep_map]; rfl

end Cert.Talk

end
-- ==== Proof.Views.lean ====
module

public import proofs.«01_k».proof.Proof.Steps
public import Idealize.ShloMosaic.Lib.Pipeline.ValueKit.Geometry
public import Idealize.ShloMosaic.Lib.ViewIndex

/-!
# Parts of buffers

The slices the body names (a row of the maxima, one of two slots, a chunk of the result), which elements they are, and what a
transfer or a store leaves there.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

/-! ## Any view -/

section Any
variable {κ : Kind} {sp : Space} {s : Shape} {e : EltTy} {Val : EltTy → Type}

/-- Writing what the view reads off `g` leaves `g` on the view's elements. -/
theorem write_read_on (v : View sig κ sp s e) (fd g : v.ty.Contents Val) (i : v.ty.Idx) (hi : i ∈ v.set) :
    v.write Val fd (v.read Val g) Finset.univ i = g i := by
  rw [View.write_read_eq_piecewise, Finset.piecewise_eq_of_mem _ _ _ (by rw [View.setOn_univ]; exact hi)]

/-- What the view reads off a buffer that was written through it agrees with `g`, hence so do the contents. -/
theorem write_eq_on (v : View sig κ sp s e) (fd g : v.ty.Contents Val) (w : s.Idx → Val e) (h : v.read Val g = w) (i : v.ty.Idx) (hi : i ∈ v.set) :
    v.write Val fd w Finset.univ i = g i := by
  subst h; exact write_read_on v fd g i hi
end Any

/-- The semaphore an array's slice of one names. -/
theorem sem_at (N B w : ℕ) (hB) (off : Fin 1 → ℕ) (inb : ∀ a, off a + S1.size a ≤ (⟨1, ![w]⟩ : Shape).size a) (sq) (k : ℕ) (ho : off = ![k]) (hk : B + k < N) :
    (((SemArray.consecutive (n := N) B ⟨1, ![w]⟩ hB).slice (Rect.unit (s := ⟨1, ![w]⟩) off S1.size inb)).squeeze S_ sq).sem = ⟨B + k, hk⟩ := by
  subst ho
  apply Fin.ext
  show B + ((⟨1, ![w]⟩ : Shape).rowMajor _).val = B + k
  rw [Shape.rowMajor_val_one]
  congr 1
  refine (ValueKit.rect_emb_unit_val (s := ⟨1, ![w]⟩) ![k] S1.size inb _ 0).trans ?_
  have h : ∀ x : S1.Idx, (x 0).val = 0 := fun x => by have : (x 0).val < 1 := (x 0).isLt; omega
  show k + _ = k
  rw [h]; rfl

/-! ## Rows of the maxima -/

/-- The row slice at an offset. -/
abbrev rowM (off : Fin 2 → ℕ) (inb : ∀ a, off a + S1x128.size a ≤ S16x128.size a) : Memref sig .tc .vmem S1x128 .f32 :=
  (Memref.whole cc0_scratch8).slice (Rect.unit (s := S16x128) off S1x128.size inb) (fun _ => rfl)

/-- A rectangle of one row is that device's row. -/
theorem row_rect (off : Fin 2 → ℕ) (inb) (j : Dev nD) (h : off = ![j.val, 0]) : (Rect.unit (s := S16x128) off S1x128.size inb).set = rowSet j := by
  subst h
  ext i
  rw [Rect.mem_set_unit]
  unfold rowSet
  simp only [Finset.mem_filter, Finset.mem_univ, true_and]
  have h1 : (i 1).val < 128 := (i 1).isLt
  constructor
  · intro h
    have h0 : j.val ≤ (i 0).val ∧ (i 0).val < j.val + 1 := h 0
    omega
  · intro h a
    fin_cases a
    · show j.val ≤ (i 0).val ∧ (i 0).val < j.val + 1; omega
    · show 0 ≤ (i 1).val ∧ (i 1).val < 0 + 128; omega

/-- The elements seen through the view of one row. -/
theorem rowM_set (off : Fin 2 → ℕ) (inb) (j : Dev nD) (h : off = ![j.val, 0]) : (rowM off inb).view.set = rowSet j :=
  (View.set_slice_whole cc0_scratch8 _).trans (row_rect off inb j h)

/-- Owning a row is owning it through its view. -/
theorem rowM_pt (c : Dev nD) (off : Fin 2 → ℕ) (inb) (j : Dev nD) (h : off = ![j.val, 0]) (q : PosShare TreeShare) (f) :
    (pt c cc0_scratch8 (rowSet j) q f : sProp 𝕄) = ((rowM off inb).view.loc (c : Thread nD τ) ↦[(rowM off inb).view.set]{q} f) := by
  unfold pt
  exact congrArg (fun S : Finset S16x128.Idx => (((c : Thread nD τ).loc cc0_scratch8) ↦[S]{q} f : sProp 𝕄)) (rowM_set off inb j h).symm

/-- Through a row, all published maxima read as that device's. -/
theorem rowM_read (off : Fin 2 → ℕ) (inb) (j : Dev nD) (h : off = ![j.val, 0]) : (rowM off inb).view.read (Elt F) (MB m ρ) = mrow m ρ j := by
  subst h
  funext x
  show mrow m ρ ((rowM _ inb).view.emb x 0) (inRow ((rowM _ inb).view.emb x)) = mrow m ρ j x
  have e0 : (rowM ![j.val, 0] inb).view.emb x 0 = j := Fin.ext <| by
    refine (ValueKit.rect_emb_unit_val (s := S16x128) ![j.val, 0] S1x128.size inb x 0).trans ?_
    have : (x 0).val < 1 := (x 0).isLt
    show j.val + (x 0).val = j.val; omega
  have e1 : inRow ((rowM ![j.val, 0] inb).view.emb x) = x := by
    funext a
    match a with
    | ⟨0, _⟩ => apply Fin.ext; show 0 = (x 0).val; have : (x 0).val < 1 := (x 0).isLt; omega
    | ⟨1, _⟩ => apply Fin.ext; refine (ValueKit.rect_emb_unit_val (s := S16x128) ![j.val, 0] S1x128.size inb x 1).trans ?_; show 0 + (x 1).val = _; rw [Nat.zero_add]; rfl
  rw [e0, e1]

/-- Writing a device's maxima into its row leaves the published maxima there. -/
theorem rowM_write (c : Dev nD) (off : Fin 2 → ℕ) (inb) (j : Dev nD) (h : off = ![j.val, 0]) (fd) :
    ((rowM off inb).view.loc (c : Thread nD τ) ↦[(rowM off inb).view.set]{fullShare} ((rowM off inb).view.write (Elt F) fd (mrow m ρ j) Finset.univ))
      ⊢ (pt c cc0_scratch8 (rowSet j) fullShare (MB m ρ) : sProp 𝕄) := by
  rw [rowM_pt c off inb j h]
  exact Entails.of_eq (pointsTo_congr fun i hi => write_eq_on _ fd (MB m ρ) _ (rowM_read m ρ off inb j h) i hi)

/-! ## Slots -/

section Slots
/-- A rectangle of one slot is that slot. -/
theorem slot_rect (off : Fin 3 → ℕ) (inb) (s : ℕ) (h : off = ![s, 0, 0]) : (Rect.unit (s := S2x256x4096) off S1x256x4096.size inb).set = slotSet s := by
  subst h
  ext i
  rw [Rect.mem_set_unit]
  unfold slotSet
  simp only [Finset.mem_filter, Finset.mem_univ, true_and]
  have h1 : (i 1).val < 256 := (i 1).isLt
  have h2 : (i 2).val < 4096 := (i 2).isLt
  constructor
  · intro h
    have h0 : s ≤ (i 0).val ∧ (i 0).val < s + 1 := h 0
    omega
  · intro h a
    fin_cases a
    · show s ≤ (i 0).val ∧ (i 0).val < s + 1; omega
    · show 0 ≤ (i 1).val ∧ (i 1).val < 0 + 256; omega
    · show 0 ≤ (i 2).val ∧ (i 2).val < 0 + 4096; omega

/-- The place within a slot of an element of the slot's rectangle. -/
theorem slot_idx (off : Fin 3 → ℕ) (inb) (s : ℕ) (h : off = ![s, 0, 0]) (x : S1x256x4096.Idx) :
    inSlot ((Rect.unit (s := S2x256x4096) off S1x256x4096.size inb).emb x) = x := by
  subst h
  funext a
  match a with
  | ⟨0, _⟩ => apply Fin.ext; show 0 = (x 0).val; have : (x 0).val < 1 := (x 0).isLt; omega
  | ⟨1, _⟩ => apply Fin.ext; refine (ValueKit.rect_emb_unit_val (s := S2x256x4096) ![s, 0, 0] S1x256x4096.size inb x 1).trans ?_; show 0 + (x 1).val = _; rw [Nat.zero_add]; rfl
  | ⟨2, _⟩ => apply Fin.ext; refine (ValueKit.rect_emb_unit_val (s := S2x256x4096) ![s, 0, 0] S1x256x4096.size inb x 2).trans ?_; show 0 + (x 2).val = _; rw [Nat.zero_add]; rfl

/-- The slot slice at an offset: left half. -/
abbrev slotMP (off : Fin 3 → ℕ) (inb : ∀ a, off a + S1x256x4096.size a ≤ S2x256x4096.size a) (sq : S1x256x4096.Squeezes S256x4096) : Memref sig .tc .vmem S256x4096 .fp8e4m3 :=
  ((Memref.whole cc0_scratch6).slice (Rect.unit (s := S2x256x4096) off S1x256x4096.size inb) (fun _ => rfl)).squeeze S256x4096 sq

/-- The elements seen through the view of one slot. -/
theorem slotMP_set (off : Fin 3 → ℕ) (inb sq) (s : ℕ) (h : off = ![s, 0, 0]) : (slotMP off inb sq).view.set = slotSet s :=
  (View.set_reshape ((Memref.whole cc0_scratch6).view.slice (Rect.unit (s := S2x256x4096) off S1x256x4096.size inb)) _).trans
    ((View.set_slice_whole cc0_scratch6 _).trans (slot_rect off inb s h))

/-- Owning a slot is owning it through its view. -/
theorem slotMP_pt (c : Dev nD) (off : Fin 3 → ℕ) (inb sq) (s : ℕ) (h : off = ![s, 0, 0]) (q : PosShare TreeShare) (f) :
    (pt c cc0_scratch6 (slotSet s) q f : sProp 𝕄) = ((slotMP off inb sq).view.loc (c : Thread nD τ) ↦[(slotMP off inb sq).view.set]{q} f) := by
  unfold pt
  exact congrArg (fun S : Finset S2x256x4096.Idx => (((c : Thread nD τ).loc cc0_scratch6) ↦[S]{q} f : sProp 𝕄)) (slotMP_set off inb sq s h).symm

/-- Either slot of a pair with `q` in both reads the same. -/
theorem slotMP_read (off : Fin 3 → ℕ) (inb sq) (s : ℕ) (h : off = ![s, 0, 0]) (q : FVec F S1x256x4096 .fp8e4m3) :
    (slotMP off inb sq).view.read (Elt F) (SBP q) = fun x => q (Shape.reshapeEquiv sq.numel_eq x) := by
  funext x
  show q (inSlot ((Rect.unit (s := S2x256x4096) off S1x256x4096.size inb).emb (Shape.reshapeEquiv sq.numel_eq x))) = _
  rw [slot_idx off inb s h]

/-- A slot written through its view holds what was written. -/
theorem slotMP_write (c : Dev nD) (off : Fin 3 → ℕ) (inb sq) (s : ℕ) (h : off = ![s, 0, 0]) (fd) (q : FVec F S1x256x4096 .fp8e4m3) (w)
    (hw : w = fun x => q (Shape.reshapeEquiv sq.numel_eq x)) :
    ((slotMP off inb sq).view.loc (c : Thread nD τ) ↦[(slotMP off inb sq).view.set]{fullShare} ((slotMP off inb sq).view.write (Elt F) fd w Finset.univ))
      ⊢ (pt c cc0_scratch6 (slotSet s) fullShare (SBP q) : sProp 𝕄) := by
  rw [slotMP_pt c off inb sq s h]
  exact Entails.of_eq (pointsTo_congr fun i hi => write_eq_on _ fd (SBP q) _ ((slotMP_read off inb sq s h q).trans hw.symm) i hi)

/-- A load of one slot. -/
theorem ldslP {α : Type} {Q : α → sProp 𝕄} (c : Dev nD) (s : ℕ) (qs : PosShare TreeShare) (q : FVec F S1x256x4096 .fp8e4m3) {off : Fin 3 → ℕ} (h : off = ![s, 0, 0]) {inb} {hl}
    {k : Vec F S1x256x4096 .fp8e4m3 → Prog (TpuEff nD τ sig (Elt F) Λ₀ .tc) α} :
    pt c cc0_scratch6 (slotSet s) qs (SBP q) ⊢ iprop((pt c cc0_scratch6 (slotSet s) qs (SBP q) -∗ WP c (k q) Q)
      -∗ WP c (.op (.load (Memref.whole cc0_scratch6) (Rect.unit (s := S2x256x4096) off S1x256x4096.size inb).toLoadRect hl) k) Q) := by
  have e : (Memref.whole cc0_scratch6).view.readAt (Elt F) (Rect.unit (s := S2x256x4096) off S1x256x4096.size inb).toLoadRect (SBP q) = q := by
    funext x; exact congrArg q (slot_idx off inb s h x)
  have := s_load (F := F) (Q := Q) (mi := 8) c (slotSet s) qs (SBP q) (Rect.unit (s := S2x256x4096) off S1x256x4096.size inb).toLoadRect (hl := hl) (k := k)
    (by rw [← slot_rect off inb s h])
  rw [e] at this
  exact this

/-- A load of one slot whose result is not used. -/
theorem ldslAP {α : Type} {Q : α → sProp 𝕄} (c : Dev nD) (s : ℕ) {off : Fin 3 → ℕ} (h : off = ![s, 0, 0]) {inb} {hl}
    {k : Vec F S1x256x4096 .fp8e4m3 → Prog (TpuEff nD τ sig (Elt F) Λ₀ .tc) α} :
    ptAny c cc0_scratch6 (slotSet s) ⊢ iprop((∀ f, ptAny c cc0_scratch6 (slotSet s) -∗ WP c (k f) Q)
      -∗ WP c (.op (.load (Memref.whole cc0_scratch6) (Rect.unit (s := S2x256x4096) off S1x256x4096.size inb).toLoadRect hl) k) Q) := by
  unfold ptAny; iintro ⟨%f, H⟩ Hk
  iapply (s_load (mi := 8) c (slotSet s) fullShare f (Rect.unit (s := S2x256x4096) off S1x256x4096.size inb).toLoadRect (hl := hl) (k := k)
    (by rw [← slot_rect off inb s h])) $$ H
  iintro H; iapply Hk; iexists f; iexact H

/-- A store to one slot. -/
theorem stslP {α : Type} {Q : α → sProp 𝕄} (c : Dev nD) (s : ℕ) {q : FVec F S1x256x4096 .fp8e4m3} {off : Fin 3 → ℕ} (h : off = ![s, 0, 0]) {inb} {hx} {hm}
    {k : PUnit → Prog (TpuEff nD τ sig (Elt F) Λ₀ .tc) α} :
    ptAny c cc0_scratch6 (slotSet s) ⊢ iprop((pt c cc0_scratch6 (slotSet s) fullShare (SBP q) -∗ WP c (k ⟨⟩) Q)
      -∗ WP c (.op (.store (Memref.whole cc0_scratch6) (Rect.unit (s := S2x256x4096) off S1x256x4096.size inb) q Finset.univ hx hm) k) Q) := by
  unfold ptAny; iintro ⟨%f, H⟩ Hk
  iapply (s_store (mi := 8) c (slotSet s) f (Rect.unit (s := S2x256x4096) off S1x256x4096.size inb) (w := q) (hx := hx) (hm := hm) (k := k)
    (by rw [← slot_rect off inb s h])) $$ H
  iintro H; iapply Hk
  have e : (pt c cc0_scratch6 (slotSet s) fullShare (SBP q) : sProp 𝕄)
      = pt c (vb 8) (slotSet s) fullShare (((Memref.whole (vb 8)).access (Rect.unit (s := S2x256x4096) off S1x256x4096.size inb)).write (Elt F) f q Finset.univ) := by
    unfold pt
    refine (pointsTo_congr fun i hi => ?_).symm
    refine write_eq_on ((Memref.whole cc0_scratch6).access (Rect.unit (s := S2x256x4096) off S1x256x4096.size inb)) f (SBP q) q ?_ i ?_
    · funext x; exact congrArg q (slot_idx off inb s h x)
    · rw [← slot_rect off inb s h] at hi
      have e2 : ((Memref.whole cc0_scratch6).access (Rect.unit (s := S2x256x4096) off S1x256x4096.size inb)).set = _ := View.set_slice_whole cc0_scratch6 _
      rw [e2]; exact hi
  rw [e]; iexact H

/-- The slot slice at an offset: right half. -/
abbrev slotMN (off : Fin 3 → ℕ) (inb : ∀ a, off a + S1x256x4096.size a ≤ S2x256x4096.size a) (sq : S1x256x4096.Squeezes S256x4096) : Memref sig .tc .vmem S256x4096 .fp8e4m3 :=
  ((Memref.whole cc0_scratch7).slice (Rect.unit (s := S2x256x4096) off S1x256x4096.size inb) (fun _ => rfl)).squeeze S256x4096 sq

/-- The elements seen through the view of one slot. -/
theorem slotMN_set (off : Fin 3 → ℕ) (inb sq) (s : ℕ) (h : off = ![s, 0, 0]) : (slotMN off inb sq).view.set = slotSet s :=
  (View.set_reshape ((Memref.whole cc0_scratch7).view.slice (Rect.unit (s := S2x256x4096) off S1x256x4096.size inb)) _).trans
    ((View.set_slice_whole cc0_scratch7 _).trans (slot_rect off inb s h))

/-- Owning a slot is owning it through its view. -/
theorem slotMN_pt (c : Dev nD) (off : Fin 3 → ℕ) (inb sq) (s : ℕ) (h : off = ![s, 0, 0]) (q : PosShare TreeShare) (f) :
    (pt c cc0_scratch7 (slotSet s) q f : sProp 𝕄) = ((slotMN off inb sq).view.loc (c : Thread nD τ) ↦[(slotMN off inb sq).view.set]{q} f) := by
  unfold pt
  exact congrArg (fun S : Finset S2x256x4096.Idx => (((c : Thread nD τ).loc cc0_scratch7) ↦[S]{q} f : sProp 𝕄)) (slotMN_set off inb sq s h).symm

/-- Either slot of a pair with `q` in both reads the same. -/
theorem slotMN_read (off : Fin 3 → ℕ) (inb sq) (s : ℕ) (h : off = ![s, 0, 0]) (q : FVec F S1x256x4096 .fp8e4m3) :
    (slotMN off inb sq).view.read (Elt F) (SBN q) = fun x => q (Shape.reshapeEquiv sq.numel_eq x) := by
  funext x
  show q (inSlot ((Rect.unit (s := S2x256x4096) off S1x256x4096.size inb).emb (Shape.reshapeEquiv sq.numel_eq x))) = _
  rw [slot_idx off inb s h]

/-- A slot written through its view holds what was written. -/
theorem slotMN_write (c : Dev nD) (off : Fin 3 → ℕ) (inb sq) (s : ℕ) (h : off = ![s, 0, 0]) (fd) (q : FVec F S1x256x4096 .fp8e4m3) (w)
    (hw : w = fun x => q (Shape.reshapeEquiv sq.numel_eq x)) :
    ((slotMN off inb sq).view.loc (c : Thread nD τ) ↦[(slotMN off inb sq).view.set]{fullShare} ((slotMN off inb sq).view.write (Elt F) fd w Finset.univ))
      ⊢ (pt c cc0_scratch7 (slotSet s) fullShare (SBN q) : sProp 𝕄) := by
  rw [slotMN_pt c off inb sq s h]
  exact Entails.of_eq (pointsTo_congr fun i hi => write_eq_on _ fd (SBN q) _ ((slotMN_read off inb sq s h q).trans hw.symm) i hi)

/-- A load of one slot. -/
theorem ldslN {α : Type} {Q : α → sProp 𝕄} (c : Dev nD) (s : ℕ) (qs : PosShare TreeShare) (q : FVec F S1x256x4096 .fp8e4m3) {off : Fin 3 → ℕ} (h : off = ![s, 0, 0]) {inb} {hl}
    {k : Vec F S1x256x4096 .fp8e4m3 → Prog (TpuEff nD τ sig (Elt F) Λ₀ .tc) α} :
    pt c cc0_scratch7 (slotSet s) qs (SBN q) ⊢ iprop((pt c cc0_scratch7 (slotSet s) qs (SBN q) -∗ WP c (k q) Q)
      -∗ WP c (.op (.load (Memref.whole cc0_scratch7) (Rect.unit (s := S2x256x4096) off S1x256x4096.size inb).toLoadRect hl) k) Q) := by
  have e : (Memref.whole cc0_scratch7).view.readAt (Elt F) (Rect.unit (s := S2x256x4096) off S1x256x4096.size inb).toLoadRect (SBN q) = q := by
    funext x; exact congrArg q (slot_idx off inb s h x)
  have := s_load (F := F) (Q := Q) (mi := 9) c (slotSet s) qs (SBN q) (Rect.unit (s := S2x256x4096) off S1x256x4096.size inb).toLoadRect (hl := hl) (k := k)
    (by rw [← slot_rect off inb s h])
  rw [e] at this
  exact this

/-- A load of one slot whose result is not used. -/
theorem ldslAN {α : Type} {Q : α → sProp 𝕄} (c : Dev nD) (s : ℕ) {off : Fin 3 → ℕ} (h : off = ![s, 0, 0]) {inb} {hl}
    {k : Vec F S1x256x4096 .fp8e4m3 → Prog (TpuEff nD τ sig (Elt F) Λ₀ .tc) α} :
    ptAny c cc0_scratch7 (slotSet s) ⊢ iprop((∀ f, ptAny c cc0_scratch7 (slotSet s) -∗ WP c (k f) Q)
      -∗ WP c (.op (.load (Memref.whole cc0_scratch7) (Rect.unit (s := S2x256x4096) off S1x256x4096.size inb).toLoadRect hl) k) Q) := by
  unfold ptAny; iintro ⟨%f, H⟩ Hk
  iapply (s_load (mi := 9) c (slotSet s) fullShare f (Rect.unit (s := S2x256x4096) off S1x256x4096.size inb).toLoadRect (hl := hl) (k := k)
    (by rw [← slot_rect off inb s h])) $$ H
  iintro H; iapply Hk; iexists f; iexact H

/-- A store to one slot. -/
theorem stslN {α : Type} {Q : α → sProp 𝕄} (c : Dev nD) (s : ℕ) {q : FVec F S1x256x4096 .fp8e4m3} {off : Fin 3 → ℕ} (h : off = ![s, 0, 0]) {inb} {hx} {hm}
    {k : PUnit → Prog (TpuEff nD τ sig (Elt F) Λ₀ .tc) α} :
    ptAny c cc0_scratch7 (slotSet s) ⊢ iprop((pt c cc0_scratch7 (slotSet s) fullShare (SBN q) -∗ WP c (k ⟨⟩) Q)
      -∗ WP c (.op (.store (Memref.whole cc0_scratch7) (Rect.unit (s := S2x256x4096) off S1x256x4096.size inb) q Finset.univ hx hm) k) Q) := by
  unfold ptAny; iintro ⟨%f, H⟩ Hk
  iapply (s_store (mi := 9) c (slotSet s) f (Rect.unit (s := S2x256x4096) off S1x256x4096.size inb) (w := q) (hx := hx) (hm := hm) (k := k)
    (by rw [← slot_rect off inb s h])) $$ H
  iintro H; iapply Hk
  have e : (pt c cc0_scratch7 (slotSet s) fullShare (SBN q) : sProp 𝕄)
      = pt c (vb 9) (slotSet s) fullShare (((Memref.whole (vb 9)).access (Rect.unit (s := S2x256x4096) off S1x256x4096.size inb)).write (Elt F) f q Finset.univ) := by
    unfold pt
    refine (pointsTo_congr fun i hi => ?_).symm
    refine write_eq_on ((Memref.whole cc0_scratch7).access (Rect.unit (s := S2x256x4096) off S1x256x4096.size inb)) f (SBN q) q ?_ i ?_
    · funext x; exact congrArg q (slot_idx off inb s h x)
    · rw [← slot_rect off inb s h] at hi
      have e2 : ((Memref.whole cc0_scratch7).access (Rect.unit (s := S2x256x4096) off S1x256x4096.size inb)).set = _ := View.set_slice_whole cc0_scratch7 _
      rw [e2]; exact hi
  rw [e]; iexact H
end Slots

/-! ## Chunks of the result -/

/-- The chunk slice at an offset. -/
abbrev outM (off : Fin 2 → ℕ) (inb : ∀ a, off a + S256x4096.size a ≤ S4096x8192.size a) : Memref sig .tc .hbm S256x4096 .f32 :=
  (Memref.whole main_v1).slice (Rect.unit (s := S4096x8192) off S256x4096.size inb) (fun _ => rfl)

/-- The elements seen through the view of a chunk of the result: left half. -/
theorem outP_set (off : Fin 2 → ℕ) (inb) (r : Dev nD) (h : off = ![256 * r.val, 0]) : (outM off inb).view.set = setP r := by
  refine (View.set_slice_whole main_v1 _).trans ?_
  subst h
  ext i
  have e : i ∈ (Rect.unit (s := S4096x8192) ![256 * r.val, 0] S256x4096.size inb).set ↔ i ∈ setP r := by
    rw [Rect.mem_set_unit]
    unfold setP
    simp only [Finset.mem_filter, Finset.mem_univ, true_and, Fin.ext_iff, chunkOf]
    constructor
    · intro h
      have h0 : 256 * r.val ≤ (i 0).val ∧ (i 0).val < 256 * r.val + 256 := h 0
      have h1 : 0 ≤ (i 1).val ∧ (i 1).val < 0 + 4096 := h 1
      omega
    · intro h a
      fin_cases a
      · show 256 * r.val ≤ (i 0).val ∧ (i 0).val < 256 * r.val + 256; omega
      · show 0 ≤ (i 1).val ∧ (i 1).val < 0 + 4096; omega
  exact e
/-- The elements seen through the view of a chunk of the result: right half. -/
theorem outN_set (off : Fin 2 → ℕ) (inb) (r : Dev nD) (h : off = ![256 * r.val, 4096]) : (outM off inb).view.set = setN r := by
  refine (View.set_slice_whole main_v1 _).trans ?_
  subst h
  ext i
  have e : i ∈ (Rect.unit (s := S4096x8192) ![256 * r.val, 4096] S256x4096.size inb).set ↔ i ∈ setN r := by
    rw [Rect.mem_set_unit]
    unfold setN
    simp only [Finset.mem_filter, Finset.mem_univ, true_and, Fin.ext_iff, chunkOf]
    have hi : (i 1).val < 8192 := (i 1).isLt
    constructor
    · intro h
      have h0 : 256 * r.val ≤ (i 0).val ∧ (i 0).val < 256 * r.val + 256 := h 0
      have h1 : 4096 ≤ (i 1).val ∧ (i 1).val < 4096 + 4096 := h 1
      omega
    · intro h a
      fin_cases a
      · show 256 * r.val ≤ (i 0).val ∧ (i 0).val < 256 * r.val + 256; omega
      · show 4096 ≤ (i 1).val ∧ (i 1).val < 4096 + 4096; omega
  exact e

/-- Owning a chunk of the result is owning it through its view. -/
theorem outP_pt (c : Dev nD) (off : Fin 2 → ℕ) (inb) (r : Dev nD) (h : off = ![256 * r.val, 0]) (q : PosShare TreeShare) (f) :
    (pt c main_v1 (setP r) q f : sProp 𝕄) = ((outM off inb).view.loc (c : Thread nD τ) ↦[(outM off inb).view.set]{q} f) := by
  unfold pt
  exact congrArg (fun S : Finset S4096x8192.Idx => (((c : Thread nD τ).loc main_v1) ↦[S]{q} f : sProp 𝕄)) (outP_set off inb r h).symm
/-- Owning a chunk of the result is owning it through its view. -/
theorem outN_pt (c : Dev nD) (off : Fin 2 → ℕ) (inb) (r : Dev nD) (h : off = ![256 * r.val, 4096]) (q : PosShare TreeShare) (f) :
    (pt c main_v1 (setN r) q f : sProp 𝕄) = ((outM off inb).view.loc (c : Thread nD τ) ↦[(outM off inb).view.set]{q} f) := by
  unfold pt
  exact congrArg (fun S : Finset S4096x8192.Idx => (((c : Thread nD τ).loc main_v1) ↦[S]{q} f : sProp 𝕄)) (outN_set off inb r h).symm

/-- Where an element of a chunk lies in the result. -/
theorem out_emb (off : Fin 2 → ℕ) (inb) (r : Dev nD) (o : ℕ) (ho : o = 0 ∨ o = 4096) (h : off = ![256 * r.val, o]) (x : S256x4096.Idx) :
    chunkOf ((outM off inb).view.emb x) = r ∧ inBlk ((outM off inb).view.emb x) = x ∧ ((outM off inb).view.emb x 1).val = o + (x 1).val := by
  subst h
  have hx0 : (x 0).val < 256 := (x 0).isLt
  have hx1 : (x 1).val < 4096 := (x 1).isLt
  have e0 : ((outM ![256 * r.val, o] inb).view.emb x 0).val = 256 * r.val + (x 0).val :=
    (ValueKit.rect_emb_unit_val (s := S4096x8192) ![256 * r.val, o] S256x4096.size inb x 0)
  have e1 : ((outM ![256 * r.val, o] inb).view.emb x 1).val = o + (x 1).val :=
    (ValueKit.rect_emb_unit_val (s := S4096x8192) ![256 * r.val, o] S256x4096.size inb x 1)
  refine ⟨?_, ?_, e1⟩
  · apply Fin.ext; show ((outM ![256 * r.val, o] inb).view.emb x 0).val / 256 = r.val; rw [e0]; omega
  · funext a
    match a with
    | ⟨0, _⟩ => apply Fin.ext; show ((outM ![256 * r.val, o] inb).view.emb x 0).val % 256 = (x 0).val; rw [e0]; omega
    | ⟨1, _⟩ => apply Fin.ext; show ((outM ![256 * r.val, o] inb).view.emb x 1).val % 4096 = (x 1).val; rw [e1]; omega

/-- The result, read through the view of one chunk, is that chunk. -/
theorem outP_read (c : Dev nD) (off : Fin 2 → ℕ) (inb) (r : Dev nD) (h : off = ![256 * r.val, 0]) : (outM off inb).view.read (Elt F) (outF m ρ c) = blkP m ρ c r := by
  funext x
  obtain ⟨e0, e1, e2⟩ := out_emb off inb r 0 (Or.inl rfl) h x
  have hx1 : (x 1).val < 4096 := (x 1).isLt
  show (if ((outM off inb).view.emb x 1).val < 4096 then blkP m ρ c (chunkOf ((outM off inb).view.emb x)) (inBlk ((outM off inb).view.emb x)) else _) = _
  rw [if_pos (by rw [e2]; omega), e0, e1]
/-- The result, read through the view of one chunk, is that chunk. -/
theorem outN_read (c : Dev nD) (off : Fin 2 → ℕ) (inb) (r : Dev nD) (h : off = ![256 * r.val, 4096]) : (outM off inb).view.read (Elt F) (outF m ρ c) = blkN m ρ c r := by
  funext x
  obtain ⟨e0, e1, e2⟩ := out_emb off inb r 4096 (Or.inr rfl) h x
  show (if ((outM off inb).view.emb x 1).val < 4096 then _ else blkN m ρ c (chunkOf ((outM off inb).view.emb x)) (inBlk ((outM off inb).view.emb x))) = _
  rw [if_neg (by rw [e2]; omega), e0, e1]

/-- A chunk written through its view holds the result's elements there. -/
theorem outP_write (c : Dev nD) (off : Fin 2 → ℕ) (inb) (r : Dev nD) (h : off = ![256 * r.val, 0]) (fd) (w) (hw : blkP m ρ c r = w) :
    ((outM off inb).view.loc (c : Thread nD τ) ↦[(outM off inb).view.set]{fullShare} ((outM off inb).view.write (Elt F) fd w Finset.univ))
      ⊢ (pt c main_v1 (setP r) fullShare (outF m ρ c) : sProp 𝕄) := by
  rw [outP_pt c off inb r h]
  exact Entails.of_eq (pointsTo_congr fun i hi => write_eq_on _ fd (outF m ρ c) _ ((outP_read m ρ c off inb r h).trans hw) i hi)
/-- A chunk written through its view holds the result's elements there. -/
theorem outN_write (c : Dev nD) (off : Fin 2 → ℕ) (inb) (r : Dev nD) (h : off = ![256 * r.val, 4096]) (fd) (w) (hw : blkN m ρ c r = w) :
    ((outM off inb).view.loc (c : Thread nD τ) ↦[(outM off inb).view.set]{fullShare} ((outM off inb).view.write (Elt F) fd w Finset.univ))
      ⊢ (pt c main_v1 (setN r) fullShare (outF m ρ c) : sProp 𝕄) := by
  rw [outN_pt c off inb r h]
  exact Entails.of_eq (pointsTo_congr fun i hi => write_eq_on _ fd (outF m ρ c) _ ((outN_read m ρ c off inb r h).trans hw) i hi)

end Cert.Talk

end
-- ==== Proof.Rows.lean ====
module

public import proofs.«01_k».proof.Proof.Views

/-!
# Exchanging the maxima

Every device publishes its row of maxima to all others and collects theirs.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

variable {α : Type} {Q : α → sProp (MT nD τ sig ℕ (Elt F) ℕ UU ℕ)}

/-- The semaphore of device `c`'s `j`-th outgoing row. -/
def sS (j : ℕ) : SemLoc sig := .dma (⟨16 + j % 15, by omega⟩ : Fin 47)
/-- The semaphore a row from device `d` raises. -/
def sR (d : Dev nD) : SemLoc sig := dm (31 + d.val) (by have := d.isLt; simp only [nD] at this; omega)

/-- There are sixteen devices. -/
theorem dv_lt (d : Dev nD) : d.val < 16 := d.isLt

/-- The semaphores of the maxima are raised by one row's worth. -/
theorem am_sc (s : ℕ) (h : s < 47) (hs : 16 ≤ s) : am (dm s h) = cc0_scratch8.dmaCredit S1x128 .f32 := by
  show amD s = _
  unfold amD; repeat rw [if_neg (by omega)]

/-- A semaphore for sent maxima has one round. -/
theorem nr_sS (c : Dev nD) (j : ℕ) : nr c.val (sS j) = 1 := by
  show nrD c.val (16 + j % 15) = 1
  unfold nrD; split_ifs <;> omega
/-- The semaphore for another device's maximum has one round. -/
theorem nr_sR (c d : Dev nD) (h : d ≠ c) : nr c.val (sR d) = 1 := by
  have : d.val ≠ c.val := fun e => h (Fin.ext e)
  show nrD c.val (31 + d.val) = 1
  unfold nrD; split_ifs <;> omega

/-- The semaphores for received maxima are the kernel's own. -/
theorem own_sR (d : Dev nD) : own (sR d) = true := decide_eq_true (show 2 ≤ 31 + d.val by omega)
/-- The semaphores for sent maxima are the kernel's own. -/
theorem own_sS (j : ℕ) : own (sS j) = true := decide_eq_true (show 2 ≤ 16 + j % 15 by omega)

/-- The end of a maximum's sending hands back the share of the row. -/
theorem pay_sS (c : Dev nD) (j r : ℕ) (h : j < 15) : paySm m ρ c (sS j) r false = pt c cc0_scratch8 (rowSet c) (partSh j) (MB m ρ) := by
  show payD m ρ c (16 + j % 15) r = _
  unfold payD
  rw [Nat.mod_eq_of_lt h]
  repeat rw [if_neg (by omega)]
  rw [if_pos (by omega), show 16 + j - 16 = j by omega]
/-- A maximum's landing hands over its row, with the maximum in it. -/
theorem pay_sR (c d : Dev nD) (r : ℕ) : paySm m ρ c (sR d) r false = pt c cc0_scratch8 (rowSet d) fullShare (MB m ρ) := by
  show payD m ρ c (31 + d.val) r = _
  unfold payD
  repeat rw [if_neg (by omega)]
  have e : dv c (31 + d.val - 31 + 15 * c.val) = d := by
    apply Fin.ext; have := dv_lt d; rw [dv_val]; omega
  rw [e]

/-- The dead load of a device's own row. -/
theorem ldrow (c j : Dev nD) {off : Fin 2 → ℕ} (h : off = ![j.val, 0]) {inb} {hl} {k : Vec F S1x128 .f32 → Prog (TpuEff nD τ sig (Elt F) Λ₀ .tc) α} :
    rowAny c j ⊢ iprop((∀ f, rowAny c j -∗ WP c (k f) Q)
      -∗ WP c (.op (.load (Memref.whole cc0_scratch8) (Rect.unit (s := S16x128) off S1x128.size inb).toLoadRect hl) k) Q) := by
  unfold rowAny ptAny; iintro ⟨%f, H⟩ Hk
  iapply (s_load (mi := 10) c (rowSet j) fullShare f (Rect.unit (s := S16x128) off S1x128.size inb).toLoadRect (hl := hl) (k := k)
    (by rw [← row_rect off inb j h])) $$ H
  iintro H; iapply Hk; iexists f; iexact H
/-- The store of a device's own row. -/
theorem strow (c j : Dev nD) {w : FVec F S1x128 .f32} (hw : w = mrow m ρ j) {off : Fin 2 → ℕ} (h : off = ![j.val, 0]) {inb} {hx} {hm} {k : PUnit → Prog (TpuEff nD τ sig (Elt F) Λ₀ .tc) α} :
    rowAny c j ⊢ iprop((pt c cc0_scratch8 (rowSet j) fullShare (MB m ρ) -∗ WP c (k ⟨⟩) Q)
      -∗ WP c (.op (.store (Memref.whole cc0_scratch8) (Rect.unit (s := S16x128) off S1x128.size inb) w Finset.univ hx hm) k) Q) := by
  unfold rowAny ptAny; iintro ⟨%f, H⟩ Hk
  iapply (s_store (mi := 10) c (rowSet j) f (Rect.unit (s := S16x128) off S1x128.size inb) (w := w) (hx := hx) (hm := hm) (k := k)
    (by rw [← row_rect off inb j h])) $$ H
  iintro H; iapply Hk
  have e : (pt c cc0_scratch8 (rowSet j) fullShare (MB m ρ) : sProp 𝕄)
      = pt c (vb 10) (rowSet j) fullShare (((Memref.whole (vb 10)).access (Rect.unit (s := S16x128) off S1x128.size inb)).write (Elt F) f w Finset.univ) := by
    unfold pt
    refine (pointsTo_congr fun i hi => ?_).symm
    refine write_eq_on ((Memref.whole cc0_scratch8).access (Rect.unit (s := S16x128) off S1x128.size inb)) f (MB m ρ) w ?_ i ?_
    · rw [hw]; exact rowM_read m ρ off inb j h
    · rw [← row_rect off inb j h] at hi
      have e2 : ((Memref.whole cc0_scratch8).access (Rect.unit (s := S16x128) off S1x128.size inb)).set = _ := View.set_slice_whole cc0_scratch8 _
      rw [e2]; exact hi
  rw [e]; iexact H

/-- The loop that sends the maxima runs fifteen times. -/
theorem t2_lt (k : Fin k0_t2_loop.trips) : k.val < 15 := lt_of_lt_of_eq k.isLt (by decide +kernel)
/-- The loop that waits for the maxima runs fifteen times. -/
theorem t3_lt (k : Fin k0_t3_loop.trips) : k.val < 15 := lt_of_lt_of_eq k.isLt (by decide +kernel)
/-- Step `k` sends the maximum `k + 1` to the right. -/
theorem dev7_dv (c : Dev nD) (k) (h : k0_dev7 c k < nD) : (⟨k0_dev7 c k, h⟩ : Dev nD) = dv c (k.val + 1) := Fin.ext ((k0_dev7_eq c k).trans (congrArg (· % 16) (add_assoc ..)))

/-- What device `c` holds before it sends its row for the `k`-th time. -/
def I2 (c : Dev nD) (k : ℕ) : sProp 𝕄 :=
  iprop(pt c cc0_scratch8 (rowSet c) (restSh k) (MB m ρ) ∗ (bigSep (Finset.Ico k 15) fun j => rowAny (dv c (1 + j)) c)
    ∗ (bigSep (Finset.range k) fun j => Busy c (sS j) 0) ∗ (bigSep (Finset.Ico k 15) fun j => Idle c (sS j) 0) ∗ Ow c (60 + k))

set_option maxHeartbeats 2000000 in
/-- One step of the loop that sends the maxima. -/
theorem t2_step (c : Dev nD) (v2 v5 v7 : BitVec 32) (v26 : FVec F S256x256 .f32) (v28 : FVec F S256x4096 .f32) (k : Fin k0_t2_loop.trips) (a : Unit) :
    iprop(Ctx m ρ K ∗ I2 m ρ c k.val) ⊢ WP c (k0_t2_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28 k a) fun _ => iprop(Ctx m ρ K ∗ I2 m ρ c (k.val + 1)) := by
  have hk := t2_lt k
  unfold k0_t2_body
  simp only [Prog.bind_op, Prog.bind_ret, Prog.pure_eq_ret]
  unfold I2
  rw [bigSep_Ico_succ_bot hk, bigSep_Ico_succ_bot hk, bigSep_range_succ]
  iintro ⟨#HC, Hrow, ⟨Hd, Hds⟩, Hb, ⟨Hi, His⟩, HO⟩
  have hspl : (pt c cc0_scratch8 (rowSet c) (restSh k.val) (MB m ρ) : sProp 𝕄) ⊢ iprop(pt c cc0_scratch8 (rowSet c) (partSh k.val) (MB m ρ) ∗ pt c cc0_scratch8 (rowSet c) (restSh (k.val + 1)) (MB m ρ)) :=
    (pointsTo_share (PosShare.mem_left_op_right (restSh k.val))).1
  ihave Hrow := hspl $$ Hrow
  icases Hrow with ⟨Hp, Hrow⟩
  ihave #Hr := (Ctx_reached m ρ K (dv c (k.val + 1)) (sR c) (own_sR c)) $$ HC
  have hlt : k.val % 15 = k.val := Nat.mod_eq_of_lt hk
  have h1 : 0 < nr c.val (sS k.val) := by rw [nr_sS]; exact Nat.one_pos
  have ham : am (sS k.val) = am (sR c) := (am_sc _ _ (by omega)).trans (am_sc _ _ (by omega)).symm
  have hN : (rowM (k0_off7 c) (k0_off7_inb c)).view.amount (sR c) = am (sR c) := (am_sc _ _ (by omega)).symm
  have hs := Entails.of_eq (rowM_pt (F := F) c (k0_off7 c) (k0_off7_inb c) c (k0_off7_eq c) (partSh k.val) (MB m ρ))
  have hd : (rowAny (dv c (1 + k.val)) c : sProp 𝕄) ⊢ iprop(∃ fd, (rowM (k0_off7 c) (k0_off7_inb c)).view.loc (dv c (k.val + 1) : Thread nD τ) ↦[(rowM (k0_off7 c) (k0_off7_inb c)).view.set]{fullShare} fd) := by
    rw [Nat.add_comm 1]
    unfold rowAny ptAny
    iintro ⟨%f, H⟩; iexists f
    rw [← rowM_pt (F := F) (dv c (k.val + 1)) (k0_off7 c) (k0_off7_inb c) c (k0_off7_eq c) fullShare f]; iexact H
  have hp1 : _ ⊢ paySm m ρ c (sS k.val) 0 false := (Entails.of_eq (rowM_pt (F := F) c (k0_off7 c) (k0_off7_inb c) c (k0_off7_eq c) (partSh k.val) (MB m ρ)).symm).trans (Entails.of_eq (pay_sS m ρ c k.val 0 hk).symm)
  iapply (w_send m ρ K c (60 + k.val) (k.val + 1) (sR c) 0 false (ev_scal c k.val hk) (dev7_dv c k (k0_dev7_lt c k)) (sS k.val) 0 h1 rfl (own_sS _) ham
    (src := rowM (k0_off7 c) (k0_off7_inb c)) (dst := rowM (k0_off7 c) (k0_off7_inb c)) (dst' := rowM (k0_off7 c) (k0_off7_inb c)) HEq.rfl
    (congrArg SemLoc.dma ((sem_at 47 16 15 hcc0_scratch17 (k0_off5 k) (k0_off5_inb k) squeezes_S1_S_ k.val (k0_off5_eq k) (by omega)).trans (Fin.ext (by show 16 + k.val = 16 + k.val % 15; rw [hlt]))))
    (congrArg SemLoc.dma (sem_at 47 31 16 hcc0_scratch18 (k0_off6 c) (k0_off6_inb c) squeezes_S1_S_ c.val (k0_off6_eq c) (by have := dv_lt c; omega)))
    (hsc := rfl) (hsrc := View.wordExact_bits rfl) (hdst := View.wordExact_bits rfl) (hsem := ⟨⟨rfl, Or.inl rfl⟩, trivial⟩) hN (q := partSh k.val)
    (X := iprop(emp)) hs hd hp1 (fun fd => ?_)) $$ [Hp Hd HO Hi]
  · rw [rowM_read m ρ (k0_off7 c) (k0_off7_inb c) c (k0_off7_eq c), pay_sR]
    refine BIBase.Entails.trans (Q := _) ?_ (rowM_write m ρ (dv c (k.val + 1)) (k0_off7 c) (k0_off7_inb c) c (k0_off7_eq c) fd)
    iintro ⟨H, -⟩; iexact H
  · isplitr; · iexact HC
    isplitl [Hp]; · iexact Hp
    isplitl [Hd]; · iexact Hd
    isplitr; · iempintro
    isplitl [HO]; · iexact HO
    isplitl [Hi]; · iexact Hi
    iexact Hr
  iintro ⟨Hbk, HO⟩
  iapply (WP_ret c)
  isplitr; · iexact HC
  isplitl [Hrow]; · iexact Hrow
  isplitl [Hds]; · iexact Hds
  isplitl [Hbk Hb]
  · isplitl [Hbk]; · iexact Hbk
    iexact Hb
  isplitl [His]; · iexact His
  iexact HO

/-- What device `c` holds before it collects the `k`-th row. -/
def I3 (c : Dev nD) (k : ℕ) : sProp 𝕄 :=
  iprop(pt c cc0_scratch8 (rowSet c) (restSh 15) (MB m ρ)
    ∗ (bigSep (Finset.Ico k 15) fun j => Busy c (sS j) 0) ∗ (bigSep (Finset.range k) fun j => Idle c (sS j) 1)
    ∗ (bigSep (Finset.Ico k 15) fun j => Rcv c (sR (dv c (j + 1))) 0) ∗ (bigSep (Finset.range k) fun j => Rcv c (sR (dv c (j + 1))) 1)
    ∗ (bigSep (Finset.range k) fun j => pt c cc0_scratch8 (rowSet c) (partSh j) (MB m ρ))
    ∗ (bigSep (Finset.range k) fun j => pt c cc0_scratch8 (rowSet (dv c (j + 1))) fullShare (MB m ρ)) ∗ Ow c 75)

/-- Going right by one to fifteen leads to another device. -/
theorem dv_ne (c : Dev nD) (j : ℕ) (h : j < 15) : dv c (j + 1) ≠ c := fun e => by
  have := congrArg Fin.val e; rw [dv_val] at this; have := dv_lt c; omega

set_option maxHeartbeats 2000000 in
/-- One step of the loop that waits for the maxima. -/
theorem t3_step (c : Dev nD) (v2 v5 v7 : BitVec 32) (v26 : FVec F S256x256 .f32) (v28 : FVec F S256x4096 .f32) (k : Fin k0_t3_loop.trips) (a : Unit) :
    iprop(Ctx m ρ K ∗ I3 m ρ c k.val) ⊢ WP c (k0_t3_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28 k a) fun _ => iprop(Ctx m ρ K ∗ I3 m ρ c (k.val + 1)) := by
  have hk := t3_lt k
  unfold k0_t3_body
  simp only [Prog.bind_op, Prog.bind_ret, Prog.pure_eq_ret]
  unfold I3
  rw [bigSep_Ico_succ_bot hk, bigSep_Ico_succ_bot hk, bigSep_range_succ, bigSep_range_succ, bigSep_range_succ, bigSep_range_succ]
  iintro ⟨#HC, Hrow, ⟨Hb, Hbs⟩, His, ⟨Hr, Hrs⟩, Hr1, Hps, Hrows, HO⟩
  have hlt : k.val % 15 = k.val := Nat.mod_eq_of_lt hk
  have e1 : (SemLoc.dma (((cc0_scratch18.slice (Rect.unit (s := S16) (k0_off8 c k) S1.size (k0_off8_inb c k))).squeeze S_ squeezes_S1_S_).sem) : SemLoc sig) = sR (dv c (k.val + 1)) :=
    congrArg SemLoc.dma (sem_at 47 31 16 hcc0_scratch18 (k0_off8 c k) (k0_off8_inb c k) squeezes_S1_S_ (dv c (k.val + 1)).val ((k0_off8_eq c k).trans (by rw [dv_val, add_assoc])) (by have := dv_lt (dv c (k.val + 1)); omega))
  have e2 : (SemLoc.dma (((cc0_scratch17.slice (Rect.unit (s := S15) (k0_off11 k) S1.size (k0_off11_inb k))).squeeze S_ squeezes_S1_S_).sem) : SemLoc sig) = sS k.val :=
    congrArg SemLoc.dma ((sem_at 47 16 15 hcc0_scratch17 (k0_off11 k) (k0_off11_inb k) squeezes_S1_S_ k.val (k0_off11_eq k) (by omega)).trans (Fin.ext (by show 16 + k.val = 16 + k.val % 15; rw [hlt])))
  have a1 : (rowM (k0_off9 c k) (k0_off9_inb c k)).view.dmaCredit = am (sR (dv c (k.val + 1))) := (am_sc _ _ (by omega)).symm
  have a2 : (rowM (k0_off10 c) (k0_off10_inb c)).view.dmaCredit = am (sS k.val) := (am_sc _ _ (by omega)).symm
  iapply (w_rcv m ρ K c (sR (dv c (k.val + 1))) 0 75 (wpE_waitDma2_eq 𝒱₀ (c : Thread nD τ) none Set.univ) e1 a1 (by rw [nr_sR _ _ (dv_ne c k.val hk)]; exact Nat.one_pos) rfl (by omega)
    (Or.inr (by unfold sR; rw [lv_sc _ _ _ (by omega)]; decide)) (own_sR _) (Entails.of_eq (pay_sR m ρ c (dv c (k.val + 1)) 0))) $$ [Hr HO]
  · iframe Hr HO; iexact HC
  iintro ⟨Hr, HO, Hp⟩
  iapply (w_own m ρ K c (sS k.val) 0 75 (wpE_waitDma2_eq 𝒱₀ (c : Thread nD τ) none Set.univ) e2 a2 (by rw [nr_sS]; exact Nat.one_pos) rfl (by omega)
    (Or.inr (by unfold sS; rw [lv_own _ _ _ (by omega)]; decide)) (own_sS _) (Entails.of_eq (pay_sS m ρ c k.val 0 hk))) $$ [Hb HO]
  · iframe Hb HO; iexact HC
  iintro ⟨Hi, HO, Hs⟩
  iapply (WP_ret c)
  iframe Hrow Hbs His Hrs Hr1 Hps Hrows HO Hr Hp Hi Hs
  iexact HC

/-- The loop that sends the maxima. -/
theorem t2_loop (c : Dev nD) (v2 v5 v7 : BitVec 32) (v26 : FVec F S256x256 .f32) (v28 : FVec F S256x4096 .f32) :
    iprop(Ctx m ρ K ∗ I2 m ρ c 0) ⊢ WP c (Scf.Loop.for k0_t2_loop k0_t2_ok ⟨⟩ (k0_t2_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28)) fun _ => iprop(Ctx m ρ K ∗ I2 m ρ c 15) := by
  have h := Scf.wp_for frame (wpE (defs₀ (F := F)) 𝒱₀ (c : Thread nD τ) none) Set.univ k0_t2_loop.lb k0_t2_loop.ub k0_t2_loop.st k0_t2_ok ⟨⟩
    (k0_t2_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28) (fun k _ => iprop(Ctx m ρ K ∗ I2 m ρ c k)) (fun k a => t2_step m ρ K c v2 v5 v7 v26 v28 k a)
    (Q := fun _ => iprop(Ctx m ρ K ∗ I2 m ρ c 15))
  refine BIBase.Entails.trans ?_ h
  iintro H
  isplitl [H]; · iexact H
  iintro %a H
  have e' : Scf.trips k0_t2_loop.lb k0_t2_loop.ub k0_t2_loop.st = 15 := by decide +kernel
  rw [e']
  iexact H
/-- The loop that waits for the maxima. -/
theorem t3_loop (c : Dev nD) (v2 v5 v7 : BitVec 32) (v26 : FVec F S256x256 .f32) (v28 : FVec F S256x4096 .f32) :
    iprop(Ctx m ρ K ∗ I3 m ρ c 0) ⊢ WP c (Scf.Loop.for k0_t3_loop k0_t3_ok ⟨⟩ (k0_t3_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28)) fun _ => iprop(Ctx m ρ K ∗ I3 m ρ c 15) := by
  have h := Scf.wp_for frame (wpE (defs₀ (F := F)) 𝒱₀ (c : Thread nD τ) none) Set.univ k0_t3_loop.lb k0_t3_loop.ub k0_t3_loop.st k0_t3_ok ⟨⟩
    (k0_t3_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28) (fun k _ => iprop(Ctx m ρ K ∗ I3 m ρ c k)) (fun k a => t3_step m ρ K c v2 v5 v7 v26 v28 k a)
    (Q := fun _ => iprop(Ctx m ρ K ∗ I3 m ρ c 15))
  refine BIBase.Entails.trans ?_ h
  iintro H
  isplitl [H]; · iexact H
  iintro %a H
  have e' : Scf.trips k0_t3_loop.lb k0_t3_loop.ub k0_t3_loop.st = 15 := by decide +kernel
  rw [e']
  iexact H

/-! ## Putting the rows together -/

/-- The parts lent to the transfers, put together again, are the whole row. -/
theorem share_join (c : Dev nD) (S) (f) : ∀ n, (iprop(pt c cc0_scratch8 S (restSh n) f ∗ bigSep (Finset.range n) fun j => pt c cc0_scratch8 S (partSh j) f) : sProp 𝕄) ⊢ pt c cc0_scratch8 S fullShare f
  | 0 => by iintro ⟨H, -⟩; iexact H
  | n + 1 => by
    refine BIBase.Entails.trans ?_ (share_join c S f n)
    rw [bigSep_range_succ]
    iintro ⟨H1, H2, H3⟩
    isplitl [H1 H2]
    · have h : (iprop(pt c cc0_scratch8 S (partSh n) f ∗ pt c cc0_scratch8 S (restSh (n + 1)) f) : sProp 𝕄) ⊢ pt c cc0_scratch8 S (restSh n) f := (pointsTo_share (PosShare.mem_left_op_right (restSh n)) (nD := nD) (τ := τ) (sig := sig) (Ix := ℕ) (Val := Elt F) (Name := ℕ) (U := UU) (Lvl := ℕ) (ℓ := (c : Thread nD τ).loc cc0_scratch8) (I := S) (f := f)).2
      iapply h
      isplitl [H2]; · iexact H2
      iexact H1
    · iexact H3

/-- The sixteen rows are the whole buffer of maxima. -/
theorem rows_cover (c : Dev nD) : (Finset.range 16).biUnion (fun j => rowSet (dv c j)) = (Finset.univ : Finset S16x128.Idx) := by
  ext i
  simp only [Finset.mem_biUnion, Finset.mem_range, Finset.mem_univ, iff_true, rowSet, Finset.mem_filter, true_and]
  have hi : (i 0).val < 16 := (i 0).isLt
  have := dv_lt c
  exact ⟨((i 0).val + 16 - c.val) % 16, Nat.mod_lt _ (by decide), by rw [dv_val]; omega⟩
/-- Different devices' rows don't overlap. -/
theorem rows_disj (c : Dev nD) : ∀ a ∈ Finset.range 16, ∀ b ∈ Finset.range 16, a ≠ b → Disjoint (rowSet (dv c a)) (rowSet (dv c b)) := by
  intro a ha b hb hab
  rw [Finset.disjoint_left]
  intro i h1 h2
  rw [Finset.mem_range] at ha hb
  have := dv_lt c
  have h3 : (c.val + a) % 16 = (c.val + b) % 16 := ((dv_val c a).symm.trans ((Finset.mem_filter.mp h1).2.symm)).trans ((Finset.mem_filter.mp h2).2.trans (dv_val c b))
  omega
/-- The sixteen rows are the whole buffer. -/
theorem rows_all (c : Dev nD) (f) : (bigSep (Finset.range 16) (fun j => pt c cc0_scratch8 (rowSet (dv c j)) fullShare f) : sProp 𝕄) = pt c cc0_scratch8 Finset.univ fullShare f := by
  have h := (pointsTo_biUnion (nD := nD) (τ := τ) (sig := sig) (Ix := ℕ) (Val := Elt F) (Name := ℕ) (U := UU) (Lvl := ℕ) (ℓ := (c : Thread nD τ).loc cc0_scratch8) (q := fullShare) (f := f) (Finset.range 16) (fun j => rowSet (dv c j)) (rows_disj c)).symm
  rw [rows_cover] at h
  exact h

/-- After the exchange every device holds all maxima. -/
theorem I3_done (c : Dev nD) : I3 m ρ c 15 ⊢ (iprop(pt c cc0_scratch8 Finset.univ fullShare (MB m ρ) ∗ (bigSep (Finset.range 15) fun j => Idle c (sS j) 1)
    ∗ (bigSep (Finset.range 15) fun j => Rcv c (sR (dv c (j + 1))) 1) ∗ Ow c 75) : sProp 𝕄) := by
  unfold I3
  rw [← rows_all c (MB m ρ), show Finset.range 16 = Finset.Ico 0 16 from Finset.range_eq_Ico 16, bigSep_Ico_succ_bot (show 0 < 16 by decide),
    ← bigSep_shift (fun j => pt c cc0_scratch8 (rowSet (dv c j)) fullShare (MB m ρ)) 15, dv_zero c (a := 0) rfl]
  iintro ⟨Hrow, -, Hi, -, Hr, Hp, Hrows, HO⟩
  isplitl [Hrow Hp Hrows]
  · isplitl [Hrow Hp]
    · iapply (share_join c (rowSet c) (MB m ρ) 15)
      isplitl [Hrow]; · iexact Hrow
      iexact Hp
    iexact Hrows
  iframe Hi Hr HO

end Cert.Talk

end
-- ==== Proof.Hop.lean ====
module

public import proofs.«01_k».proof.Proof.Steps

/-!
# One hop of the summing ring

Both accumulators travel one place, are received and added to the next local product.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

variable {α : Type}
variable {Q : α → sProp (MT nD τ sig ℕ (Elt F) ℕ UU ℕ)}

/-- The two staged operands. -/
def Xs (c : Dev nD) : sProp 𝕄 := iprop(pt c cc0_stg0_0 Finset.univ fullShare (xstg m ρ c) ∗ pt c cc0_stg1_0 Finset.univ fullShare (wstg m ρ c))
/-- The rows of maxima handed on before hop `k`. -/
def rows (c : Dev nD) (k : ℕ) : sProp 𝕄 := bigSep (Finset.range (15 - k)) fun i => rowAny (dv c (1 + k)) (dv c (15 * i))
/-- Device `c`'s row on the devices that kept it for `c` so far. -/
def kept (c : Dev nD) (k : ℕ) : sProp 𝕄 := bigSep (Finset.range k) fun j => rowAny (dv c (1 + j)) c
/-- What the first hop may use without waiting for a credit. -/
def pend (c : Dev nD) (k : ℕ) : sProp 𝕄 :=
  if k = 0 then iprop(ptAny (dv c 1) cc0_scratch4 Finset.univ ∗ rows c 0 ∗ ptAny (dv c 15) cc0_scratch5 Finset.univ) else iprop(emp)
/-- What the hop may use once the credits are there. -/
def open1 (c : Dev nD) (k : ℕ) : sProp 𝕄 :=
  iprop(ptAny (dv c 1) cc0_scratch4 Finset.univ ∗ reached ER (cell (dv c 1) (dm 3)) k ∗ rows c k
    ∗ ptAny (dv c 15) cc0_scratch5 Finset.univ ∗ reached ER (cell (dv c 15) (dm 5)) k
    ∗ Rcv c (rg 0) k ∗ Rcv c (rg 1) k)

/-- The left neighbour of the right neighbour is the device. -/
theorem dv_rl (c : Dev nD) : dv (dv c 1) 15 = c := (dv_dv c 1 15).trans (dv_zero c (by decide))
/-- The right neighbour of the left neighbour is the device. -/
theorem dv_lr (c : Dev nD) : dv (dv c 15) 1 = c := (dv_dv c 15 1).trans (dv_zero c (by decide))

/-- The left half's sum goes to the right neighbour. -/
theorem dev3_dv (c : Dev nD) (h : k0_dev3 c < nD) : (⟨k0_dev3 c, h⟩ : Dev nD) = dv c 1 := Fin.ext (k0_dev3_eq c)
/-- The right half's sum goes to the left neighbour. -/
theorem dev4_dv (c : Dev nD) (h : k0_dev4 c < nD) : (⟨k0_dev4 c, h⟩ : Dev nD) = dv c 15 := Fin.ext (k0_dev4_eq c)
/-- The left half's credit goes to the left neighbour. -/
theorem dev5_dv (c : Dev nD) (h : k0_dev5 c < nD) : (⟨k0_dev5 c, h⟩ : Dev nD) = dv c 15 := Fin.ext (k0_dev5_eq c)
/-- The right half's credit goes to the right neighbour. -/
theorem dev6_dv (c : Dev nD) (h : k0_dev6 c < nD) : (⟨k0_dev6 c, h⟩ : Dev nD) = dv c 1 := Fin.ext (k0_dev6_eq c)

/-- The summing loop runs fifteen times. -/
theorem t1_lt (k : Fin k0_t1_loop.trips) : k.val < 15 := lt_of_lt_of_le k.isLt (by decide +kernel)
/-- A summing hop waits for credits from the second hop on. -/
theorem h1_iff : ∀ k : Fin k0_t1_loop.trips, Scalar.cmpi .ne (Scalar.extui (Scalar.cmpi .sge (Scf.iv 0#32 1#32 k) 1#32)) 0#32 = 1#1 ↔ 1 ≤ k.val := by decide +kernel
/-- Credits are given in every summing hop but the last. -/
theorem h2_iff : ∀ k : Fin k0_t1_loop.trips, k0_cond2 k = 1#1 ↔ k.val < 14 := by decide +kernel

/-- The chunks the accumulators pick up at hop `k`. -/
theorem x_off2 (c : Dev nD) (k : Fin k0_t1_loop.trips) (h) :
    xat (xstg m ρ c) (k0_off2 c k) h = xat (xstg m ρ c) ![256 * (dv c (15 * (k.val + 1))).val, 0] (xat_inb _) := by
  apply xat_congr
  rw [k0_off2_eq, dv_val]
  have := t1_lt k; have := c.isLt; simp only [nD] at this
  rw [show (c.val + 15 - k.val) % 16 = (c.val + 15 * (k.val + 1)) % 16 by omega]
/-- The rows of `x` that hop `k` multiplies for the right half. -/
theorem x_off3 (c : Dev nD) (k : Fin k0_t1_loop.trips) (h) :
    xat (xstg m ρ c) (k0_off3 c k) h = xat (xstg m ρ c) ![256 * (dv c (k.val + 1)).val, 0] (xat_inb _) := by
  apply xat_congr
  rw [k0_off3_eq, dv_val, add_assoc]

/-- What the credits handed over is what a later summing hop needs. -/
theorem open_pos (c : Dev nD) (k : ℕ) (h1 : 1 ≤ k) (hk : k < 15) :
    (iprop(Rcv c (rg 0) (k - 1 + 1) ∗ Rcv c (rg 1) (k - 1 + 1) ∗ payCP c (k - 1) ∗ payCN c (k - 1)) : sProp 𝕄) ⊢ open1 c k := by
  unfold open1 rows payCP payCN
  rw [if_pos (show k - 1 < 14 by omega), if_pos (show k - 1 < 14 by omega), show 14 - (k - 1) = 15 - k by omega, show 2 + (k - 1) = 1 + k by omega, Nat.sub_add_cancel h1]
  iintro ⟨H0, H1, ⟨HP, HrP, Hrows⟩, HN, HrN⟩
  iframe
/-- What the entry signals handed over is what the first summing hop needs. -/
theorem open_zero (c : Dev nD) (k : ℕ) (h : k = 0) :
    iprop(Ctx m ρ K ∗ Rcv c (rg 0) (k - 1) ∗ Rcv c (rg 1) (k - 1) ∗ pend c k) ⊢ open1 c k := by
  subst h
  unfold pend open1; rw [if_pos rfl]
  iintro ⟨#HC, H0, H1, ⟨HP, Hrows, HN⟩⟩
  ihave #HrP := (Ctx_reached m ρ K (dv c 1) (dm 3) rfl) $$ HC
  ihave #HrN := (Ctx_reached m ρ K (dv c 15) (dm 5) rfl) $$ HC
  iframe H0 H1 HP Hrows HN
  isplitr; · iexact HrP
  iexact HrN

set_option maxHeartbeats 2000000 in
/-- The opening of a hop after its credits: both accumulators are sent and the next product on the left is made. -/
theorem part1_rest (c : Dev nD) (v2 v5 v7 : BitVec 32) (k : Fin k0_t1_loop.trips) :
    iprop(Ctx m ρ K ∗ Xs m ρ c ∗ pt c cc0_scratch0 Finset.univ fullShare (accP m ρ k.val c) ∗ pt c cc0_scratch1 Finset.univ fullShare (accN m ρ k.val c)
      ∗ ptAny c cc0_scratch2 Finset.univ
      ∗ Idle c (dm 2) k.val ∗ Idle c (dm 4) k.val ∗ open1 c k.val ∗ Ow c (2 + 4 * k.val))
    ⊢ WP c
      ( .op (.enqueueDma (Memref.whole cc0_scratch0) (.remote (Dev.tc (⟨k0_dev3 c, k0_dev3_lt c⟩ : Dev nD)) (Memref.whole cc0_scratch4) (.dma (2 : Fin 47)) rfl) (.dma (3 : Fin 47)) (Memref.isWhole_whole _).wordExact (Memref.isWhole_whole _).wordExact ⟨⟨rfl, Or.inl rfl⟩, trivial⟩) fun _ =>
        .op (.enqueueDma (Memref.whole cc0_scratch1) (.remote (Dev.tc (⟨k0_dev4 c, k0_dev4_lt c⟩ : Dev nD)) (Memref.whole cc0_scratch5) (.dma (4 : Fin 47)) rfl) (.dma (5 : Fin 47)) (Memref.isWhole_whole _).wordExact (Memref.isWhole_whole _).wordExact ⟨⟨rfl, Or.inl rfl⟩, trivial⟩) fun _ =>
        .op (.load (Memref.whole cc0_stg0_0) (Rect.unit (s := S4096x256) (k0_off2 c k) S256x256.size (k0_off2_inb c k)).toLoadRect (View.loadsAt_vmem h_S256x256)) fun v154 =>
        .op (.load (Memref.whole cc0_stg1_0) (Rect.unit (s := S256x8192) ![0, 0] S256x4096.size inb_S256x8192_S256x4096_0_0).toLoadRect (View.loadsAt_vmem h_S256x4096)) fun v156 =>
        .op (.load (Memref.whole cc0_scratch2) (Rect.unit (s := S256x4096) ![0, 0] S256x4096.size inb_S256x4096_S256x4096_0_0).toLoadRect (View.loadsAt_vmem h_S256x4096)) fun v159 =>
        .op (.store (Memref.whole cc0_scratch2) (Rect.unit (s := S256x4096) ![0, 0] S256x4096.size inb_S256x4096_S256x4096_0_0) (k0_pay3 v154 v156) Finset.univ (View.stores_vmem_bits_univ h_S256x4096 rfl) (.inl rfl)) fun _ =>
        .ret (⟨Scf.iv 0#32 1#32 k, Scalar.remsi (Scalar.addi (Scalar.addi v2 (Scf.iv 0#32 1#32 k)) 1#32) 16#32, 256#32⟩ : Σ' (_ : BitVec 32) (_ : BitVec 32), BitVec 32))
      fun r =>
      iprop(Xs m ρ c ∗ pt c cc0_scratch2 Finset.univ fullShare (gP m ρ c (dv c (15 * (k.val + 1))))
      ∗ Busy c (dm 2) k.val ∗ Busy c (dm 4) k.val ∗ Rcv c (rg 0) k.val ∗ Rcv c (rg 1) k.val ∗ rows c k.val ∗ Ow c (4 + 4 * k.val)) := by
  have hk := t1_lt k
  have hr : k.val < nr c.val (dm 2) := hk
  have ham : am (dm 2) = am (dm 3) := rfl
  have hN : (Memref.whole cc0_scratch4).view.amount (dm 3) = am (dm 3) := rfl
  have hp1 : _ ⊢ paySm m ρ c (dm 2) k.val false := (pt_of_whole c cc0_scratch0 fullShare (accP m ρ k.val c)).trans (pt_any c cc0_scratch0 _ _)
  have hd := (ptAny_whole (F := F) (dv c 1) cc0_scratch4)
  have hs := (pt_whole c cc0_scratch0 fullShare (accP m ρ k.val c))
  have hr2 : k.val < nr c.val (dm 4) := hk
  have ham2 : am (dm 4) = am (dm 5) := rfl
  have hN2 : (Memref.whole cc0_scratch5).view.amount (dm 5) = am (dm 5) := rfl
  have hp2 : _ ⊢ paySm m ρ c (dm 4) k.val false := (pt_of_whole c cc0_scratch1 fullShare (accN m ρ k.val c)).trans (pt_any c cc0_scratch1 _ _)
  have hd2 := (ptAny_whole (F := F) (dv c 15) cc0_scratch5)
  have hs2 := (pt_whole c cc0_scratch1 fullShare (accN m ρ k.val c))
  unfold open1 Xs
  iintro ⟨#HC, ⟨HX, HW⟩, HaP, HaN, Hg, HsP, HsN, ⟨HP, HrP, Hrows, HN, HrN, H0, H1⟩, HO⟩
  ihave #Hc0 := (Rcv_reached0 (F := F) c k.val) $$ H0
  ihave #Hc1 := (Rcv_reached1 (F := F) c k.val) $$ H1
  iapply (w_send m ρ K c (2 + 4 * k.val) 1 (dm 3) k.val false (ev_rsP c k.val hk) (dev3_dv c (k0_dev3_lt c)) (dm 2) k.val hr rfl rfl ham
    (src := Memref.whole cc0_scratch0) (dst := Memref.whole cc0_scratch4) (dst' := Memref.whole cc0_scratch4) HEq.rfl (sS := dm 2) (sem := dm 3) rfl rfl (hsc := rfl) (hsrc := (Memref.isWhole_whole _).wordExact) (hdst := (Memref.isWhole_whole _).wordExact) (hsem := ⟨⟨rfl, Or.inl rfl⟩, trivial⟩) hN (q := fullShare)
    (X := reached ER (cell c (rg 0)) k.val) hs hd hp1 (fun fd => ?_)) $$ [HaP HP HO HsP HrP]
  · refine (sep_mono (pt_of_whole_write (dv c 1) cc0_scratch4 fd (accP m ρ k.val c)) .rfl).trans ?_
    show _ ⊢ iprop(pt (dv c 1) cc0_scratch4 Finset.univ fullShare (accP m ρ k.val (dv (dv c 1) 15)) ∗ reached ER (cell (dv (dv c 1) 15) (rg 0)) k.val)
    rw [dv_rl]
  · iframe HaP HP HO HsP HrP
    isplitr; · iexact HC
    iexact Hc0
  iintro ⟨HsP, HO⟩
  iapply (w_send m ρ K c (3 + 4 * k.val) 15 (dm 5) k.val false (ev_rsN c k.val hk) (dev4_dv c (k0_dev4_lt c)) (dm 4) k.val hr2 rfl rfl ham2
    (src := Memref.whole cc0_scratch1) (dst := Memref.whole cc0_scratch5) (dst' := Memref.whole cc0_scratch5) HEq.rfl (sS := dm 4) (sem := dm 5) rfl rfl (hsc := rfl) (hsrc := (Memref.isWhole_whole _).wordExact) (hdst := (Memref.isWhole_whole _).wordExact) (hsem := ⟨⟨rfl, Or.inl rfl⟩, trivial⟩) hN2 (q := fullShare)
    (X := reached ER (cell c (rg 1)) k.val) hs2 hd2 hp2 (fun fd => ?_)) $$ [HaN HN HO HsN HrN]
  · refine (sep_mono (pt_of_whole_write (dv c 15) cc0_scratch5 fd (accN m ρ k.val c)) .rfl).trans ?_
    show _ ⊢ iprop(pt (dv c 15) cc0_scratch5 Finset.univ fullShare (accN m ρ k.val (dv (dv c 15) 1)) ∗ reached ER (cell (dv (dv c 15) 1) (rg 1)) k.val)
    rw [dv_lr]
  · rw [show 2 + 4 * k.val + 1 = 3 + 4 * k.val by omega]
    iframe HaN HN HO HsN HrN
    isplitr; · iexact HC
    iexact Hc1
  iintro ⟨HsN, HO⟩
  iapply (ldx c (xstg m ρ c)) $$ HX; iintro HX
  iapply (ldw c (wstg m ρ c)) $$ HW; iintro HW
  iapply (ldA2 c) $$ Hg; iintro %g0 Hg
  iapply (st2 c) $$ Hg; iintro Hg
  iapply (WP_ret c)
  rw [x_off2, show 3 + 4 * k.val + 1 = 4 + 4 * k.val by omega]
  isplitl [HX HW]
  · isplitl [HX]; · iexact HX
    iexact HW
  isplitl [Hg]; · iexact Hg
  isplitl [HsP]; · iexact HsP
  isplitl [HsN]; · iexact HsN
  isplitl [H0]; · iexact H0
  isplitl [H1]; · iexact H1
  isplitl [Hrows]; · iexact Hrows
  iexact HO

/-- The opening of a hop: the credits are there, both accumulators are sent and the next product on the left is made. -/
theorem part1_ok (c : Dev nD) (v2 v5 v7 : BitVec 32) (k : Fin k0_t1_loop.trips) :
    iprop(Ctx m ρ K ∗ Xs m ρ c ∗ pt c cc0_scratch0 Finset.univ fullShare (accP m ρ k.val c) ∗ pt c cc0_scratch1 Finset.univ fullShare (accN m ρ k.val c)
      ∗ ptAny c cc0_scratch2 Finset.univ
      ∗ Idle c (dm 2) k.val ∗ Idle c (dm 4) k.val ∗ Rcv c (rg 0) (k.val - 1) ∗ Rcv c (rg 1) (k.val - 1) ∗ pend c k.val ∗ Ow c (2 + 4 * k.val))
    ⊢ WP c (k0_part1 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 0#32 1#32 k) fun r =>
      iprop(Xs m ρ c ∗ pt c cc0_scratch2 Finset.univ fullShare (gP m ρ c (dv c (15 * (k.val + 1))))
      ∗ Busy c (dm 2) k.val ∗ Busy c (dm 4) k.val ∗ Rcv c (rg 0) k.val ∗ Rcv c (rg 1) k.val ∗ rows c k.val ∗ Ow c (4 + 4 * k.val)) := by
  have hk := t1_lt k
  rw [k0_part1_eq_skeleton]
  unfold k0_part1_skel
  have hk := t1_lt k
  simp only [semWaitWord, Prog.lift, Prog.bind_op, Prog.bind_ret, Prog.pure_eq_ret]
  iintro ⟨#HC, HX, HaP, HaN, Hg, HsP, HsN, H0, H1, Hpend, HO⟩
  by_cases h1 : 1 ≤ k.val
  · rw [dif_pos ((h1_iff k).mpr h1)]
    iapply (w_rcv m ρ K c (rg 0) (k.val - 1) (2 + 4 * k.val) (wpE_semWait_eq 𝒱₀ (c : Thread nD τ) none Set.univ) rfl rfl (by show _ < 28; omega) rfl (by omega)
      (Or.inr (by rw [lv_crd0]; unfold evLv; split_ifs <;> omega)) rfl (P := payCP c (k.val - 1)) .rfl) $$ [H0 HO]
    · isplitr; · iexact HC
      isplitl [H0]; · iexact H0
      iexact HO
    iintro ⟨H0, HO, HP⟩
    iapply (w_rcv m ρ K c (rg 1) (k.val - 1) (2 + 4 * k.val) (wpE_semWait_eq 𝒱₀ (c : Thread nD τ) none Set.univ) rfl rfl (by show _ < 28; omega) rfl (by omega)
      (Or.inr (by rw [lv_crd1]; unfold evLv; split_ifs <;> omega)) rfl (P := payCN c (k.val - 1)) .rfl) $$ [H1 HO]
    · isplitr; · iexact HC
      isplitl [H1]; · iexact H1
      iexact HO
    iintro ⟨H1, HO, HN⟩
    iclear Hpend
    ihave Hop := (open_pos c k.val h1 hk) $$ [H0 H1 HP HN]
    · iframe H0 H1 HP HN
    iapply (part1_rest m ρ K c v2 v5 v7 k)
    iframe HX HaP HaN Hg HsP HsN Hop HO
    iexact HC
  · rw [dif_neg fun h => h1 ((h1_iff k).mp h)]
    ihave Hop := (open_zero m ρ K c k.val (by omega)) $$ [H0 H1 Hpend]
    · iframe H0 H1 Hpend
      iexact HC
    iapply (part1_rest m ρ K c v2 v5 v7 k)
    iframe HX HaP HaN Hg HsP HsN Hop HO
    iexact HC

end Cert.Talk

end
-- ==== Proof.Hop2.lean ====
module

public import proofs.«01_k».proof.Proof.Hop

/-!
# One hop of the summing ring, closed

The second half of a hop and the loop over all fifteen.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

set_option maxHeartbeats 2000000 in
/-- The second half of a hop: the product on the right is made, both transfers arrive and the left sum is formed. -/
theorem part2_ok (c : Dev nD) (v5 v7 v151 c256 : BitVec 32) (k : Fin k0_t1_loop.trips) :
    iprop(Ctx m ρ K ∗ Xs m ρ c ∗ pt c cc0_scratch2 Finset.univ fullShare (gP m ρ c (dv c (15 * (k.val + 1)))) ∗ ptAny c cc0_scratch3 Finset.univ
      ∗ Busy c (dm 2) k.val ∗ Busy c (dm 4) k.val ∗ Rcv c (dm 3) k.val ∗ Rcv c (dm 5) k.val ∗ Ow c (4 + 4 * k.val))
    ⊢ WP c (k0_part2 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v5 v7 k v151 c256) fun _ =>
      iprop(Xs m ρ c ∗ ptAny c cc0_scratch2 Finset.univ ∗ pt c cc0_scratch3 Finset.univ fullShare (gN m ρ c (dv c (k.val + 1)))
      ∗ pt c cc0_scratch0 Finset.univ fullShare (accP m ρ (k.val + 1) c) ∗ ptAny c cc0_scratch1 Finset.univ
      ∗ ptAny c cc0_scratch4 Finset.univ ∗ reached ER (cell (dv c 15) (rg 0)) k.val
      ∗ pt c cc0_scratch5 Finset.univ fullShare (accN m ρ k.val (dv c 1)) ∗ reached ER (cell (dv c 1) (rg 1)) k.val
      ∗ Idle c (dm 2) (k.val + 1) ∗ Idle c (dm 4) (k.val + 1) ∗ Rcv c (dm 3) (k.val + 1) ∗ Rcv c (dm 5) (k.val + 1) ∗ Ow c (4 + 4 * k.val)) := by
  have hk := t1_lt k
  have hr2 : k.val < nr c.val (dm 2) := hk
  have hr3 : k.val < nr c.val (dm 3) := hk
  have hr4 : k.val < nr c.val (dm 4) := hk
  have hr5 : k.val < nr c.val (dm 5) := hk
  have hl : ∀ s (h : s < 47), (s < 31 ∧ s ≠ 3 ∧ s ≠ 5 ∧ s ≠ 8 ∧ s ≠ 9 ∧ s ≠ 12 ∧ s ≠ 13) → lvS (dm s h) k.val < evLv (4 + 4 * k.val) :=
    fun s h hs => by rw [lv_own s h k.val hs]; exact evLv_pos _
  have hl' : ∀ s (h : s < 47), (s = 3 ∨ s = 5) → lvS (dm s h) k.val < evLv (4 + 4 * k.val) :=
    fun s h hs => by rw [lv_rs s h k.val hs]; unfold evLv; split_ifs <;> omega
  rw [k0_part2_eq_skeleton]
  unfold k0_part2_skel Xs
  simp only [Prog.lift, Prog.bind_op, Prog.bind_ret, Prog.pure_eq_ret]
  iintro ⟨#HC, ⟨HX, HW⟩, Hg, Hg2, HsP, HsN, HrP, HrN, HO⟩
  iapply (ldx c (xstg m ρ c)) $$ HX; iintro HX
  iapply (ldw c (wstg m ρ c)) $$ HW; iintro HW
  iapply (ldA3 c) $$ Hg2; iintro %g0 Hg2
  iapply (st3 c) $$ Hg2; iintro Hg2
  iapply (w_own m ρ K c (dm 2) k.val (4 + 4 * k.val) (sm' := dm 2) (wpE_waitDma2_eq 𝒱₀ (c : Thread nD τ) none Set.univ) rfl rfl hr2 rfl (by omega)
    (Or.inr (hl 2 _ (by decide))) rfl (P := ptAny c cc0_scratch0 Finset.univ) .rfl) $$ [HsP HO]
  · iframe HsP HO; iexact HC
  iintro ⟨HsP, HO, HaP⟩
  iapply (w_rcv m ρ K c (dm 3) k.val (4 + 4 * k.val) (sm' := dm 3) (wpE_waitDma2_eq 𝒱₀ (c : Thread nD τ) none Set.univ) rfl rfl hr3 rfl (by omega)
    (Or.inr (hl' 3 _ (by decide))) rfl (P := iprop(pt c cc0_scratch4 Finset.univ fullShare (accP m ρ k.val (dv c 15)) ∗ reached ER (cell (dv c 15) (rg 0)) k.val)) .rfl) $$ [HrP HO]
  · iframe HrP HO; iexact HC
  iintro ⟨HrP, HO, ⟨HvP, HcP⟩⟩
  iapply (ld4 c fullShare (accP m ρ k.val (dv c 15))) $$ HvP; iintro HvP
  iapply (ld2 c fullShare (gP m ρ c (dv c (15 * (k.val + 1))))) $$ Hg; iintro Hg
  iapply (ldA0 c) $$ HaP; iintro %g1 HaP
  iapply (st0 c) $$ HaP; iintro HaP
  iapply (w_own m ρ K c (dm 4) k.val (4 + 4 * k.val) (sm' := dm 4) (wpE_waitDma2_eq 𝒱₀ (c : Thread nD τ) none Set.univ) rfl rfl hr4 rfl (by omega)
    (Or.inr (hl 4 _ (by decide))) rfl (P := ptAny c cc0_scratch1 Finset.univ) .rfl) $$ [HsN HO]
  · iframe HsN HO; iexact HC
  iintro ⟨HsN, HO, HaN⟩
  iapply (w_rcv m ρ K c (dm 5) k.val (4 + 4 * k.val) (sm' := dm 5) (wpE_waitDma2_eq 𝒱₀ (c : Thread nD τ) none Set.univ) rfl rfl hr5 rfl (by omega)
    (Or.inr (hl' 5 _ (by decide))) rfl (P := iprop(pt c cc0_scratch5 Finset.univ fullShare (accN m ρ k.val (dv c 1)) ∗ reached ER (cell (dv c 1) (rg 1)) k.val)) .rfl) $$ [HrN HO]
  · iframe HrN HO; iexact HC
  iintro ⟨HrN, HO, ⟨HvN, HcN⟩⟩
  iapply (WP_ret c)
  rw [x_off3]
  ihave Hg := (pt_any c cc0_scratch2 _ _) $$ Hg
  ihave HvP := (pt_any c cc0_scratch4 _ _) $$ HvP
  isplitl [HX HW]
  · isplitl [HX]; · iexact HX
    iexact HW
  isplitl [Hg]; · iexact Hg
  isplitl [Hg2]; · iexact Hg2
  isplitl [HaP]; · iexact HaP
  isplitl [HaN]; · iexact HaN
  isplitl [HvP]; · iexact HvP
  isplitl [HcP]; · iexact HcP
  isplitl [HvN]; · iexact HvN
  isplitl [HcN]; · iexact HcN
  isplitl [HsP]; · iexact HsP
  isplitl [HsN]; · iexact HsN
  isplitl [HrP]; · iexact HrP
  isplitl [HrN]; · iexact HrN
  iexact HO

/-- What device `c` holds before hop `k`. -/
def I1 (c : Dev nD) (k : ℕ) : sProp 𝕄 :=
  iprop(Xs m ρ c ∗ pt c cc0_scratch0 Finset.univ fullShare (accP m ρ k c) ∗ pt c cc0_scratch1 Finset.univ fullShare (accN m ρ k c)
      ∗ ptAny c cc0_scratch2 Finset.univ ∗ ptAny c cc0_scratch3 Finset.univ
      ∗ Idle c (dm 2) k ∗ Idle c (dm 4) k ∗ Rcv c (dm 3) k ∗ Rcv c (dm 5) k
      ∗ Rcv c (rg 0) (k - 1) ∗ Rcv c (rg 1) (k - 1) ∗ pend c k ∗ kept c k
      ∗ (if k = 15 then iprop(ptAny c cc0_scratch4 Finset.univ ∗ ptAny c cc0_scratch5 Finset.univ) else iprop(emp))
      ∗ Ow c (if k = 15 then 60 else 2 + 4 * k))

/-- Of the rows of maxima in hand, one is the device's own and is kept, and the others go on to the left neighbour. -/
theorem rows_step (c : Dev nD) (k : ℕ) (h : k < 15) :
    (rows c k : sProp 𝕄) ⊢ iprop(rowAny (dv c (1 + k)) c ∗ bigSep (Finset.range (14 - k)) fun i => rowAny (dv (dv c 15) (2 + k)) (dv (dv c 15) (15 * i))) := by
  unfold rows
  rw [show 15 - k = (14 - k) + 1 by omega, Finset.range_eq_Ico, bigSep_Ico_succ_bot (Nat.succ_pos _), Finset.range_eq_Ico]
  refine sep_mono (Entails.of_eq ?_) (Entails.of_eq ?_)
  · rw [dv_zero (a := 15 * 0) c rfl]
  · refine (bigSep_shift (fun i => rowAny (dv c (1 + k)) (dv c (15 * i))) (14 - k)).symm.trans ?_
    rw [Finset.range_eq_Ico]
    refine bigSep_congr fun i _ => ?_
    rw [dv_dv, dv_dv, dv_congr c (show (15 + (2 + k)) % 16 = (1 + k) % 16 by omega), show 15 + 15 * i = 15 * (i + 1) by omega]

/-- One more row is kept. -/
theorem kept_step (c : Dev nD) (k : ℕ) : iprop(rowAny (dv c (1 + k)) c ∗ kept c k) ⊢ (kept c (k + 1) : sProp 𝕄) := by
  unfold kept; rw [bigSep_range_succ]

/-- What the credit for the next hop hands the left neighbour. -/
theorem crdP_pay (c : Dev nD) (k : ℕ) (h : k < 14) :
    iprop(ptAny c cc0_scratch4 Finset.univ ∗ Rcv c (dm 3) (k + 1) ∗ bigSep (Finset.range (14 - k)) fun i => rowAny (dv (dv c 15) (2 + k)) (dv (dv c 15) (15 * i)))
      ⊢ iprop(paySm m ρ (dv c 15) (rg 0) k false ∗ Rcv c (dm 3) (k + 1)) := by
  show _ ⊢ iprop(payCP (dv c 15) k ∗ _)
  unfold payCP; rw [if_pos h, dv_lr]
  iintro ⟨H, HR, Hr⟩
  ihave #Hx := (Rcv_reached (F := F) c _ (k + 1)) $$ HR
  iframe H Hr HR
  iexact Hx
/-- What the credit for the next hop hands the right neighbour. -/
theorem crdN_pay (c : Dev nD) (k : ℕ) (h : k < 14) :
    iprop(ptAny c cc0_scratch5 Finset.univ ∗ Rcv c (dm 5) (k + 1))
      ⊢ iprop(paySm m ρ (dv c 1) (rg 1) k false ∗ Rcv c (dm 5) (k + 1)) := by
  show _ ⊢ iprop(payCN (dv c 1) k ∗ _)
  unfold payCN; rw [if_pos h, dv_rl]
  iintro ⟨H, HR⟩
  ihave #Hx := (Rcv_reached (F := F) c _ (k + 1)) $$ HR
  iframe H HR
  iexact Hx

set_option maxHeartbeats 2000000 in
/-- One hop. -/
theorem t1_step (c : Dev nD) (v2 v5 v7 : BitVec 32) (v26 : FVec F S256x256 .f32) (v28 : FVec F S256x4096 .f32) (k : Fin k0_t1_loop.trips) (a : Unit) :
    iprop(Ctx m ρ K ∗ I1 m ρ c k.val) ⊢ WP c (k0_t1_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28 k a) fun _ => iprop(Ctx m ρ K ∗ I1 m ρ c (k.val + 1)) := by
  have hk := t1_lt k
  unfold k0_t1_body I1
  rw [if_neg (show k.val ≠ 15 by omega), if_neg (show k.val ≠ 15 by omega)]
  simp only [Prog.lift]
  iintro ⟨#HC, HX, HaP, HaN, Hg, Hg2, HsP, HsN, HrP, HrN, H0, H1, Hpend, Hkept, -, HO⟩
  iapply (WP_call c (part1_ok m ρ K c v2 v5 v7 k)) $$ [HX HaP HaN Hg HsP HsN H0 H1 Hpend HO]
  · iframe HX HaP HaN Hg HsP HsN H0 H1 Hpend HO
    iexact HC
  iintro %r ⟨HX, Hg, HsP, HsN, H0, H1, Hrows, HO⟩
  obtain ⟨r1, r2, r3⟩ := r
  iapply (WP_call c (part2_ok m ρ K c v5 v7 r2 r3 k)) $$ [HX Hg Hg2 HsP HsN HrP HrN HO]
  · iframe HX Hg Hg2 HsP HsN HrP HrN HO
    iexact HC
  iintro %r' ⟨HX, Hg, Hg2, HaP, HaN, HvP, #HcP, HvN, #HcN, HsP, HsN, HrP, HrN, HO⟩
  simp only [semSignalWord, Prog.bind_op, Prog.bind_ret, Prog.pure_eq_ret]
  iapply (ld5 c fullShare (accN m ρ k.val (dv c 1))) $$ HvN; iintro HvN
  iapply (ld3 c fullShare (gN m ρ c (dv c (k.val + 1)))) $$ Hg2; iintro Hg2
  iapply (ldA1 c) $$ HaN; iintro %g1 HaN
  iapply (st1 c) $$ HaN; iintro HaN
  ihave Hg2 := (pt_any c cc0_scratch3 _ _) $$ Hg2
  ihave HvN := (pt_any c cc0_scratch5 _ _) $$ HvN
  ihave Hrows := (rows_step c k.val hk) $$ Hrows
  icases Hrows with ⟨Hrow, Hrows⟩
  ihave Hkept := (kept_step c k.val) $$ [Hrow Hkept]
  · iframe Hrow Hkept
  by_cases h14 : k.val < 14
  · rw [dif_pos ((h2_iff k).mpr h14), if_neg (show ¬ k.val + 1 = 15 by omega), if_neg (show ¬ k.val + 1 = 15 by omega)]
    ihave HpP := (crdP_pay m ρ c k.val h14) $$ [HvP HrP Hrows]
    · iframe HvP HrP Hrows
    icases HpP with ⟨HpP, HrP⟩
    iapply (w_signal m ρ K c (4 + 4 * k.val) 15 (rg 0) k.val false (ev_crdP c k.val h14) (dev5_dv c (k0_dev5_lt c k ((h2_iff k).mpr h14))) (sem := (0 : Fin 4)) rfl
      (k' := 1) rfl (P := paySm m ρ (dv c 15) (rg 0) k.val false) .rfl) $$ [HO HpP]
    · iframe HO HpP
      isplitr; · iexact HC
      iexact HcP
    iintro HO
    ihave HpN := (crdN_pay m ρ c k.val h14) $$ [HvN HrN]
    · iframe HvN HrN
    icases HpN with ⟨HpN, HrN⟩
    iapply (w_signal m ρ K c (5 + 4 * k.val) 1 (rg 1) k.val false (ev_crdN c k.val h14) (dev6_dv c (k0_dev6_lt c k ((h2_iff k).mpr h14))) (sem := (1 : Fin 4)) rfl
      (k' := 1) rfl (P := paySm m ρ (dv c 1) (rg 1) k.val false) .rfl) $$ [HO HpN]
    · rw [show 4 + 4 * k.val + 1 = 5 + 4 * k.val by omega]
      iframe HO HpN
      isplitr; · iexact HC
      iexact HcN
    iintro HO
    iapply (WP_ret c)
    rw [show 5 + 4 * k.val + 1 = 2 + 4 * (k.val + 1) by omega, show k.val + 1 - 1 = k.val from rfl]
    unfold pend; rw [if_neg (Nat.succ_ne_zero k.val)]
    isplitr; · iexact HC
    isplitl [HX]; · iexact HX
    isplitl [HaP]; · iexact HaP
    isplitl [HaN]; · iexact HaN
    isplitl [Hg]; · iexact Hg
    isplitl [Hg2]; · iexact Hg2
    iframe HsP HsN HrP HrN H0 H1 Hkept HO
  · rw [dif_neg (fun h => h14 ((h2_iff k).mp h)), if_pos (show k.val + 1 = 15 by omega), if_pos (show k.val + 1 = 15 by omega)]
    iapply (WP_ret c)
    rw [show 4 + 4 * k.val = 60 by omega, show k.val + 1 - 1 = k.val from rfl]
    unfold pend; rw [if_neg (Nat.succ_ne_zero k.val)]
    isplitr; · iexact HC
    isplitl [HX]; · iexact HX
    isplitl [HaP]; · iexact HaP
    isplitl [HaN]; · iexact HaN
    isplitl [Hg]; · iexact Hg
    isplitl [Hg2]; · iexact Hg2
    iframe HsP HsN HrP HrN H0 H1 Hkept HO HvP HvN

/-- The whole summing loop. -/
theorem t1_loop (c : Dev nD) (v2 v5 v7 : BitVec 32) (v26 : FVec F S256x256 .f32) (v28 : FVec F S256x4096 .f32) :
    iprop(Ctx m ρ K ∗ I1 m ρ c 0) ⊢ WP c (Scf.Loop.for k0_t1_loop k0_t1_ok ⟨⟩ (k0_t1_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28)) fun _ => iprop(Ctx m ρ K ∗ I1 m ρ c 15) := by
  have h := Scf.wp_for frame (wpE (defs₀ (F := F)) 𝒱₀ (c : Thread nD τ) none) Set.univ k0_t1_loop.lb k0_t1_loop.ub k0_t1_loop.st k0_t1_ok ⟨⟩
    (k0_t1_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28) (fun k _ => iprop(Ctx m ρ K ∗ I1 m ρ c k)) (fun k a => t1_step m ρ K c v2 v5 v7 v26 v28 k a)
    (Q := fun _ => iprop(Ctx m ρ K ∗ I1 m ρ c 15))
  refine BIBase.Entails.trans ?_ h
  iintro H
  isplitl [H]; · iexact H
  iintro %a H
  have e : k0_t1_loop.trips = 15 := by decide +kernel
  have e' : Scf.trips k0_t1_loop.lb k0_t1_loop.ub k0_t1_loop.st = 15 := e
  rw [e']
  iexact H

end Cert.Talk

end
-- ==== Proof.Ends.lean ====
module

public import proofs.«01_k».proof.Proof.Rows
public import proofs.«01_k».proof.Proof.Hop2

/-!
# Writing the result, opening and closing stages

The copies of finished chunks into the result, and the stages of the body before and after the exchange of maxima.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

variable {α : Type} {Q : α → sProp (MT nD τ sig ℕ (Elt F) ℕ UU ℕ)}

/-- The gathering loop runs fifteen times. -/
theorem t4_lt (k : Fin k0_t4_loop.trips) : k.val < 15 := lt_of_lt_of_eq k.isLt (by decide +kernel)

/-! ## Copies into the result -/

/-- The chunks still to be written: left half. -/
def todoP (c : Dev nD) (n : ℕ) : sProp 𝕄 := bigSep (Finset.Ico n 16) fun r => ptAny c main_v1 (setP (chP c r))
/-- The chunks written: left half. -/
def doneP (c : Dev nD) (n : ℕ) : sProp 𝕄 := bigSep (Finset.range n) fun r => pt c main_v1 (setP (chP c r)) fullShare (outF m ρ c)
/-- No copy in flight, `n` chunks written. -/
def stAP (c : Dev nD) (n : ℕ) : sProp 𝕄 := iprop(Idle c (dm 14) n ∗ ptAny c cc0_scratch2 Finset.univ ∗ doneP m ρ c n ∗ todoP c n)
/-- The copy of chunk `n` in flight. -/
def stBP (c : Dev nD) (n : ℕ) : sProp 𝕄 := iprop(Busy c (dm 14) n ∗ doneP m ρ c n ∗ todoP c (n + 1))

/-- The copy of a finished chunk. -/
theorem cpP (c : Dev nD) (n : ℕ) (hn : n < 16) (f : FVec F S256x4096 .f32) (hf : blkP m ρ c (chP c n) = f)
    {off : Fin 2 → ℕ} {inb} (h : off = ![256 * (chP c n).val, 0]) {hsrc} {hdst} {hsem} {k : PUnit → Prog (TpuEff nD τ sig (Elt F) Λ₀ .tc) α} :
    iprop(Ctx m ρ K ∗ pt c cc0_scratch2 Finset.univ fullShare f ∗ Idle c (dm 14) n ∗ doneP m ρ c n ∗ todoP c n)
      ⊢ iprop((stBP m ρ c n -∗ WP c (k ⟨⟩) Q)
        -∗ WP c (.op (.enqueueDma (Memref.whole cc0_scratch2) (.here (outM off inb)) (.dma (14 : Fin 47)) hsrc hdst hsem) k) Q) := by
  unfold todoP stBP
  rw [bigSep_Ico_succ_bot hn]
  iintro ⟨#HC, Hs, Hi, Hdn, ⟨Hd, Htd⟩⟩ Hk
  have hN : (outM off inb).view.amount (dm 14) = am (dm 14) := rfl
  have hs := (pt_whole c cc0_scratch2 fullShare f)
  have hd : (ptAny c main_v1 (setP (chP c n)) : sProp 𝕄) ⊢ iprop(∃ fd, (outM off inb).view.loc (c : Thread nD τ) ↦[(outM off inb).view.set]{fullShare} fd) := by
    unfold ptAny
    iintro ⟨%g, H⟩; iexists g
    rw [← outP_pt (F := F) c off inb (chP c n) h fullShare g]; iexact H
  iapply (w_copy m ρ K c (dm 14) n (by show n < 16; exact hn) rfl rfl (src := Memref.whole cc0_scratch2) (dst := outM off inb) rfl (hsrc := hsrc) (hdst := hdst) (hsem := hsem) hN (q := fullShare) hs hd (fun fd => ?_)) $$ [Hs Hd Hi]
  · show _ ⊢ iprop(pt c main_v1 (setP (chP c n)) fullShare (outF m ρ c) ∗ ptAny c cc0_scratch2 Finset.univ)
    refine BIClass.sep_mono (outP_write m ρ c off inb (chP c n) h fd _ ?_) ((pt_of_whole c cc0_scratch2 fullShare f).trans (pt_any c cc0_scratch2 _ _))
    exact hf
  · isplitr; · iexact HC
    isplitl [Hs]; · iexact Hs
    isplitl [Hd]; · iexact Hd
    iexact Hi
  iintro Hb
  iapply Hk
  unfold todoP
  isplitl [Hb]; · iexact Hb
  isplitl [Hdn]; · iexact Hdn
  iexact Htd

/-- Waiting for the copy in flight. -/
theorem cwP (c : Dev nD) (n N : ℕ) (hn : n < 16) {off : Fin 2 → ℕ} {inb} {h1} {h2} {k : PUnit → Prog (TpuEff nD τ sig (Elt F) Λ₀ .tc) α} :
    iprop(Ctx m ρ K ∗ stBP m ρ c n ∗ Ow c N)
      ⊢ iprop(((stAP m ρ c (n + 1) ∗ Ow c N) -∗ WP c (k ⟨⟩) Q)
        -∗ WP c (.op (.waitDma2 (14 : Fin 47) (Memref.whole cc0_scratch2) (outM off inb) h1 h2) k) Q) := by
  unfold stBP
  iintro ⟨#HC, ⟨Hb, Hdn, Htd⟩, HO⟩ Hk
  iapply (w_own m ρ K c (dm 14) n N (sm' := dm 14) (wpE_waitDma2_eq 𝒱₀ (c : Thread nD τ) none Set.univ) rfl rfl (by show n < 16; exact hn) rfl (by omega)
    (Or.inr (by rw [lv_own _ _ _ (by omega)]; exact evLv_pos N)) rfl (P := iprop(pt c main_v1 (setP (chP c n)) fullShare (outF m ρ c) ∗ ptAny c cc0_scratch2 Finset.univ)) .rfl) $$ [Hb HO]
  · iframe Hb HO; iexact HC
  iintro ⟨Hi, HO, ⟨Hp, Hs⟩⟩
  iapply Hk
  isplitr [HO]
  · unfold stAP doneP
    rw [bigSep_range_succ]
    isplitl [Hi]; · iexact Hi
    isplitl [Hs]; · iexact Hs
    isplitr [Htd]
    · isplitl [Hp]; · iexact Hp
      iexact Hdn
    iexact Htd
  iexact HO

/-- The chunks still to be written: right half. -/
def todoN (c : Dev nD) (n : ℕ) : sProp 𝕄 := bigSep (Finset.Ico n 16) fun r => ptAny c main_v1 (setN (chN c r))
/-- The chunks written: right half. -/
def doneN (c : Dev nD) (n : ℕ) : sProp 𝕄 := bigSep (Finset.range n) fun r => pt c main_v1 (setN (chN c r)) fullShare (outF m ρ c)
/-- No copy in flight, `n` chunks written. -/
def stAN (c : Dev nD) (n : ℕ) : sProp 𝕄 := iprop(Idle c (dm 15) n ∗ ptAny c cc0_scratch3 Finset.univ ∗ doneN m ρ c n ∗ todoN c n)
/-- The copy of chunk `n` in flight. -/
def stBN (c : Dev nD) (n : ℕ) : sProp 𝕄 := iprop(Busy c (dm 15) n ∗ doneN m ρ c n ∗ todoN c (n + 1))

/-- The copy of a finished chunk. -/
theorem cpN (c : Dev nD) (n : ℕ) (hn : n < 16) (f : FVec F S256x4096 .f32) (hf : blkN m ρ c (chN c n) = f)
    {off : Fin 2 → ℕ} {inb} (h : off = ![256 * (chN c n).val, 4096]) {hsrc} {hdst} {hsem} {k : PUnit → Prog (TpuEff nD τ sig (Elt F) Λ₀ .tc) α} :
    iprop(Ctx m ρ K ∗ pt c cc0_scratch3 Finset.univ fullShare f ∗ Idle c (dm 15) n ∗ doneN m ρ c n ∗ todoN c n)
      ⊢ iprop((stBN m ρ c n -∗ WP c (k ⟨⟩) Q)
        -∗ WP c (.op (.enqueueDma (Memref.whole cc0_scratch3) (.here (outM off inb)) (.dma (15 : Fin 47)) hsrc hdst hsem) k) Q) := by
  unfold todoN stBN
  rw [bigSep_Ico_succ_bot hn]
  iintro ⟨#HC, Hs, Hi, Hdn, ⟨Hd, Htd⟩⟩ Hk
  have hN : (outM off inb).view.amount (dm 15) = am (dm 15) := rfl
  have hs := (pt_whole c cc0_scratch3 fullShare f)
  have hd : (ptAny c main_v1 (setN (chN c n)) : sProp 𝕄) ⊢ iprop(∃ fd, (outM off inb).view.loc (c : Thread nD τ) ↦[(outM off inb).view.set]{fullShare} fd) := by
    unfold ptAny
    iintro ⟨%g, H⟩; iexists g
    rw [← outN_pt (F := F) c off inb (chN c n) h fullShare g]; iexact H
  iapply (w_copy m ρ K c (dm 15) n (by show n < 16; exact hn) rfl rfl (src := Memref.whole cc0_scratch3) (dst := outM off inb) rfl (hsrc := hsrc) (hdst := hdst) (hsem := hsem) hN (q := fullShare) hs hd (fun fd => ?_)) $$ [Hs Hd Hi]
  · show _ ⊢ iprop(pt c main_v1 (setN (chN c n)) fullShare (outF m ρ c) ∗ ptAny c cc0_scratch3 Finset.univ)
    refine BIClass.sep_mono (outN_write m ρ c off inb (chN c n) h fd _ ?_) ((pt_of_whole c cc0_scratch3 fullShare f).trans (pt_any c cc0_scratch3 _ _))
    exact hf
  · isplitr; · iexact HC
    isplitl [Hs]; · iexact Hs
    isplitl [Hd]; · iexact Hd
    iexact Hi
  iintro Hb
  iapply Hk
  unfold todoN
  isplitl [Hb]; · iexact Hb
  isplitl [Hdn]; · iexact Hdn
  iexact Htd

/-- Waiting for the copy in flight. -/
theorem cwN (c : Dev nD) (n N : ℕ) (hn : n < 16) {off : Fin 2 → ℕ} {inb} {h1} {h2} {k : PUnit → Prog (TpuEff nD τ sig (Elt F) Λ₀ .tc) α} :
    iprop(Ctx m ρ K ∗ stBN m ρ c n ∗ Ow c N)
      ⊢ iprop(((stAN m ρ c (n + 1) ∗ Ow c N) -∗ WP c (k ⟨⟩) Q)
        -∗ WP c (.op (.waitDma2 (15 : Fin 47) (Memref.whole cc0_scratch3) (outM off inb) h1 h2) k) Q) := by
  unfold stBN
  iintro ⟨#HC, ⟨Hb, Hdn, Htd⟩, HO⟩ Hk
  iapply (w_own m ρ K c (dm 15) n N (sm' := dm 15) (wpE_waitDma2_eq 𝒱₀ (c : Thread nD τ) none Set.univ) rfl rfl (by show n < 16; exact hn) rfl (by omega)
    (Or.inr (by rw [lv_own _ _ _ (by omega)]; exact evLv_pos N)) rfl (P := iprop(pt c main_v1 (setN (chN c n)) fullShare (outF m ρ c) ∗ ptAny c cc0_scratch3 Finset.univ)) .rfl) $$ [Hb HO]
  · iframe Hb HO; iexact HC
  iintro ⟨Hi, HO, ⟨Hp, Hs⟩⟩
  iapply Hk
  isplitr [HO]
  · unfold stAN doneN
    rw [bigSep_range_succ]
    isplitl [Hi]; · iexact Hi
    isplitl [Hs]; · iexact Hs
    isplitr [Htd]
    · isplitl [Hp]; · iexact Hp
      iexact Hdn
    iexact Htd
  iexact HO

/-! ## The opening -/

/-- The first entry signal goes to the left neighbour. -/
theorem dev1_dv (c : Dev nD) (h) : (⟨k0_dev1 c, h⟩ : Dev nD) = dv c 15 := Fin.ext (k0_dev1_eq c)
/-- The second entry signal goes to the right neighbour. -/
theorem dev2_dv (c : Dev nD) (h) : (⟨k0_dev2 c, h⟩ : Dev nD) = dv c 1 := Fin.ext (k0_dev2_eq c)
/-- The first closing signal goes to the left neighbour. -/
theorem dev12_dv (c : Dev nD) (h) : (⟨k0_dev12 c, h⟩ : Dev nD) = dv c 15 := Fin.ext (k0_dev12_eq c)
/-- The second closing signal goes to the right neighbour. -/
theorem dev13_dv (c : Dev nD) (h) : (⟨k0_dev13 c, h⟩ : Dev nD) = dv c 1 := Fin.ext (k0_dev13_eq c)
/-- The first product takes the rows of `x` of the device's own chunk. -/
theorem x_off1 (c : Dev nD) (X) (h) : xat (F := F) X (k0_off1 c) h = xat X ![256 * c.val, 0] (xat_inb c) := xat_congr X (k0_off1_eq c) _ _

/-- A semaphore two neighbours raise once, before they do. -/
def Two (c : Dev nD) (sm : SemLoc sig) : sProp 𝕄 := iprop(atPos ER (cell c sm) 0 ∅ 0 ∗ cred (tallyAt (cell c sm) 0 (2 * am sm)))

set_option maxHeartbeats 2000000 in
/-- The opening: both neighbours are there, the first product on the left is made. -/
theorem part5_ok (c : Dev nD) :
    iprop(Ctx m ρ K ∗ Xs m ρ c ∗ ptAny c cc0_scratch0 Finset.univ ∗ payBR (dv c 15) ∗ payBL (dv c 1) ∗ Two c (rg 2) ∗ Ow c 0)
    ⊢ WP c (k0_part5 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0) fun r =>
      iprop(∃ v2 v5 v7 v26 v28, ⌜r = ⟨c, v2, v5, v7, v26, v28⟩ ∧ k0_pay9 v26 v28 = gN m ρ c c⌝ ∗ Xs m ρ c
        ∗ pt c cc0_scratch0 Finset.univ fullShare (accP m ρ 0 c) ∗ payBR c ∗ payBL c ∗ atPos ER (cell c (rg 2)) 1 ∅ 0 ∗ Ow c 2) := by
  rw [k0_part5_eq_skeleton]
  unfold k0_part5_skel
  simp only [semSignalWord, semWaitWord, Prog.lift, Prog.bind_op, Prog.bind_ret, Prog.pure_eq_ret]
  refine BIBase.Entails.trans ?_ (Entails.of_eq (wp_deviceId ..).symm)
  unfold Xs
  iintro ⟨#HC, ⟨HX, HW⟩, HaP, HbR, HbL, HT, HO⟩
  ihave #Hr0 := (Ctx_reached m ρ K (dv c 15) (rg 2) rfl) $$ HC
  ihave #Hr1 := (Ctx_reached m ρ K (dv c 1) (rg 2) rfl) $$ HC
  iapply (w_signal m ρ K c 0 15 (rg 2) 0 false (ev_barL c) (dev1_dv c (k0_dev1_lt c)) (sem := (2 : Fin 4)) rfl
    (k' := 1) rfl (P := payBR (dv c 15)) .rfl) $$ [HO HbR]
  · iframe HO HbR
    isplitr; · iexact HC
    iexact Hr0
  iintro HO
  iapply (w_signal m ρ K c 1 1 (rg 2) 0 true (ev_barR c) (dev2_dv c (k0_dev2_lt c)) (sem := (2 : Fin 4)) rfl
    (k' := 1) rfl (P := payBL (dv c 1)) .rfl) $$ [HO HbL]
  · iframe HO HbL
    isplitr; · iexact HC
    iexact Hr1
  iintro HO
  iapply (w_both m ρ K c (rg 2) 2 (wpE_semWait_eq 𝒱₀ (c : Thread nD τ) none Set.univ) rfl rfl (show 0 < 1 from Nat.one_pos) rfl (Or.inr (by decide)) rfl
    (P := iprop(payBR c ∗ payBL c)) .rfl) $$ [HT HO]
  · unfold Two
    iframe HT HO
    iexact HC
  iintro ⟨Hat, HO, ⟨HR, HL⟩⟩
  iapply (ldx c (xstg m ρ c)) $$ HX; iintro HX
  iapply (ldw c (wstg m ρ c)) $$ HW; iintro HW
  iapply (ldA0 c) $$ HaP; iintro %g0 HaP
  iapply (st0 c) $$ HaP; iintro HaP
  iapply (ldx c (xstg m ρ c)) $$ HX; iintro HX
  iapply (ldw c (wstg m ρ c)) $$ HW; iintro HW
  iapply (WP_ret c)
  iexists _, _, _, _, _
  isplitr
  · ipureintro
    refine ⟨rfl, ?_⟩
    rw [x_off1]; rfl
  isplitl [HX HW]
  · isplitl [HX]; · iexact HX
    iexact HW
  isplitl [HaP]
  · rw [x_off1]; iexact HaP
  isplitl [HR]; · iexact HR
  isplitl [HL]; · iexact HL
  isplitl [Hat]; · iexact Hat
  iexact HO

/-! ## Scaling the own chunk -/

set_option maxHeartbeats 2000000 in
/-- The left half is scaled, rounded and put into the first slot, and its copy to the result is under way. -/
theorem part7_ok (c : Dev nD) (v2 : BitVec 32) :
    iprop(Ctx m ρ K ∗ pt c cc0_scratch0 Finset.univ fullShare (accP m ρ 15 c) ∗ ptAny c cc0_scratch6 (slotSet 0) ∗ stAP m ρ c 0)
    ⊢ WP c (k0_part7 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 (amx m ρ)) fun r =>
      iprop(⌜r = ⟨k0_pay13 (amx m ρ), k0_pay14 (amx m ρ)⟩⌝ ∗ pt c cc0_scratch0 Finset.univ fullShare (accP m ρ 15 c)
        ∗ pt c cc0_scratch6 (slotSet 0) fullShare (SBP (qP m ρ c)) ∗ stBP m ρ c 0) := by
  rw [k0_part7_eq_skeleton]
  unfold k0_part7_skel
  simp only [Prog.lift, Prog.bind_op, Prog.bind_ret, Prog.pure_eq_ret]
  unfold stAP
  iintro ⟨#HC, HaP, Hsl, ⟨Hi, Hg, Hdn, Htd⟩⟩
  have hz3 : (![0, 0, 0] : Fin 3 → ℕ) = ![0, 0, 0] := rfl
  iapply (ld0 c fullShare (accP m ρ 15 c)) $$ HaP; iintro HaP
  iapply (ldA2 c) $$ Hg; iintro %g0 Hg
  iapply (st2 c (w := qsP m ρ c)) $$ Hg; iintro Hg
  iapply (ld2 c fullShare (qsP m ρ c)) $$ Hg; iintro Hg
  iapply (ldslAP c 0 rfl) $$ Hsl; iintro %g1 Hsl
  iapply (stslP c 0 (q := qP m ρ c) rfl) $$ Hsl; iintro Hsl
  iapply (ld2 c fullShare (qsP m ρ c)) $$ Hg; iintro Hg
  iapply (ld2 c fullShare (qsP m ρ c)) $$ Hg; iintro Hg
  ihave Hg := (pt_any c cc0_scratch2 _ _) $$ Hg
  iapply (st2 c (w := k0_pay17 (amx m ρ) (qsP m ρ c))) $$ Hg; iintro Hg
  have hoff : k0_off12 c = ![256 * (chP c 0).val, 0] := k0_off12_eq c
  iapply (cpP m ρ K c 0 (by decide) (k0_pay17 (amx m ρ) (qsP m ρ c)) (if_pos rfl) (off := k0_off12 c) (inb := k0_off12_inb c) hoff) $$ [Hg Hi Hdn Htd]
  · isplitr; · iexact HC
    isplitl [Hg]; · iexact Hg
    isplitl [Hi]; · iexact Hi
    isplitl [Hdn]; · iexact Hdn
    iexact Htd
  iintro Hst
  iapply (WP_ret c)
  isplitr; · ipureintro; rfl
  isplitl [HaP]; · iexact HaP
  isplitl [Hsl]; · iexact Hsl
  iexact Hst

set_option maxHeartbeats 2000000 in
/-- The right half is scaled, rounded and put into the first slot, and both first copies to the result have finished. -/
theorem part8_ok (c : Dev nD) (v2 : BitVec 32) :
    iprop(Ctx m ρ K ∗ pt c cc0_scratch1 Finset.univ fullShare (accN m ρ 15 c) ∗ ptAny c cc0_scratch7 (slotSet 0) ∗ stAN m ρ c 0 ∗ stBP m ρ c 0 ∗ Ow c 75)
    ⊢ WP c (k0_part8 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 (k0_pay13 (amx m ρ)) (k0_pay14 (amx m ρ))) fun r =>
      iprop(⌜r = ⟨0#32, 1#32⟩⌝ ∗ pt c cc0_scratch1 Finset.univ fullShare (accN m ρ 15 c)
        ∗ pt c cc0_scratch7 (slotSet 0) fullShare (SBN (qN m ρ c)) ∗ stAN m ρ c 1 ∗ stAP m ρ c 1 ∗ Ow c 75) := by
  rw [k0_part8_eq_skeleton]
  unfold k0_part8_skel
  simp only [Prog.lift, Prog.bind_op, Prog.bind_ret, Prog.pure_eq_ret]
  iintro ⟨#HC, HaP, Hsl, Hst, HstP, HO⟩
  ihave Hst := (Entails.of_eq (show stAN m ρ c 0 = iprop(Idle c (dm 15) 0 ∗ ptAny c cc0_scratch3 Finset.univ ∗ doneN m ρ c 0 ∗ todoN c 0) from rfl)) $$ Hst
  icases Hst with ⟨Hi, Hg, Hdn, Htd⟩
  iapply (ld1 c fullShare (accN m ρ 15 c)) $$ HaP; iintro HaP
  iapply (ldA3 c) $$ Hg; iintro %g0 Hg
  iapply (st3 c (w := qsN m ρ c)) $$ Hg; iintro Hg
  iapply (ld3 c fullShare (qsN m ρ c)) $$ Hg; iintro Hg
  iapply (ldslAN c 0 rfl) $$ Hsl; iintro %g1 Hsl
  iapply (stslN c 0 (q := qN m ρ c) rfl) $$ Hsl; iintro Hsl
  iapply (ld3 c fullShare (qsN m ρ c)) $$ Hg; iintro Hg
  iapply (ld3 c fullShare (qsN m ρ c)) $$ Hg; iintro Hg
  ihave Hg := (pt_any c cc0_scratch3 _ _) $$ Hg
  iapply (st3 c (w := k0_pay20 (k0_pay13 (amx m ρ)) (qsN m ρ c))) $$ Hg; iintro Hg
  have hoff : k0_off13 c = ![256 * (chN c 0).val, 4096] := k0_off13_eq c
  iapply (cpN m ρ K c 0 (by decide) (k0_pay20 (k0_pay13 (amx m ρ)) (qsN m ρ c)) (if_pos rfl) (off := k0_off13 c) (inb := k0_off13_inb c) hoff) $$ [Hg Hi Hdn Htd]
  · isplitr; · iexact HC
    isplitl [Hg]; · iexact Hg
    isplitl [Hi]; · iexact Hi
    isplitl [Hdn]; · iexact Hdn
    iexact Htd
  iintro Hst
  iapply (cwP m ρ K c 0 75 (by decide) (off := k0_off12 c) (inb := k0_off12_inb c)) $$ [HstP HO]
  · iframe HstP HO
    iexact HC
  iintro ⟨HstP, HO⟩
  iapply (cwN m ρ K c 0 75 (by decide) (off := k0_off13 c) (inb := k0_off13_inb c)) $$ [Hst HO]
  · iframe Hst HO
    iexact HC
  iintro ⟨Hst, HO⟩
  iapply (WP_ret c)
  isplitr; · ipureintro; rfl
  isplitl [HaP]; · iexact HaP
  isplitl [Hsl]; · iexact Hsl
  isplitl [Hst]; · iexact Hst
  isplitl [HstP]; · iexact HstP
  iexact HO

/-! ## Sums and maxima -/

/-- What a device needs for the sums and the exchange of maxima. -/
def Pre6 (c : Dev nD) : sProp 𝕄 :=
  iprop(ptAny c cc0_scratch2 Finset.univ ∗ ptAny c cc0_scratch3 Finset.univ ∗ Idle c (dm 2) 0 ∗ Idle c (dm 4) 0 ∗ Rcv c (dm 3) 0 ∗ Rcv c (dm 5) 0
    ∗ Rcv c (rg 0) 0 ∗ Rcv c (rg 1) 0 ∗ pend c 0 ∗ rowAny c c
    ∗ (bigSep (Finset.range 15) fun j => Idle c (sS j) 0) ∗ (bigSep (Finset.range 15) fun j => Rcv c (sR (dv c (j + 1))) 0) ∗ Ow c 2)
/-- What it has afterwards. -/
def Post6 (c : Dev nD) : sProp 𝕄 :=
  iprop(ptAny c cc0_scratch2 Finset.univ ∗ ptAny c cc0_scratch3 Finset.univ ∗ Idle c (dm 2) 15 ∗ Idle c (dm 4) 15 ∗ Rcv c (dm 3) 15 ∗ Rcv c (dm 5) 15
    ∗ Rcv c (rg 0) 14 ∗ Rcv c (rg 1) 14 ∗ ptAny c cc0_scratch4 Finset.univ ∗ ptAny c cc0_scratch5 Finset.univ
    ∗ pt c cc0_scratch8 Finset.univ fullShare (MB m ρ)
    ∗ (bigSep (Finset.range 15) fun j => Idle c (sS j) 1) ∗ (bigSep (Finset.range 15) fun j => Rcv c (sR (dv c (j + 1))) 1) ∗ Ow c 75)

/-- A loop in front of the rest of a program. -/
theorem WP_loop {β : Type} (c : Dev nD) {P : sProp 𝕄} {p : Prog (TpuEff nD τ sig (Elt F) Λ₀ .tc) β} {R : sProp 𝕄} (h : P ⊢ WP c p fun _ => R)
    {k : β → Prog (TpuEff nD τ sig (Elt F) Λ₀ .tc) α} : P ⊢ iprop((∀ a, R -∗ WP c (k a) Q) -∗ WP c (p >>= k) Q) := WP_call c h

set_option maxHeartbeats 2000000 in
/-- From the entry to the shared maximum: both sums finished, and the maximum over all devices known. -/
theorem part6_ok (c : Dev nD) (v2 v5 v7 : BitVec 32) (v26 : FVec F S256x256 .f32) (v28 : FVec F S256x4096 .f32) (hv : k0_pay9 v26 v28 = gN m ρ c c) :
    iprop(Ctx m ρ K ∗ Xs m ρ c ∗ pt c cc0_scratch0 Finset.univ fullShare (accP m ρ 0 c) ∗ ptAny c cc0_scratch1 Finset.univ ∗ Pre6 c)
    ⊢ WP c (k0_part6 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 v26 v28) fun r =>
      iprop(⌜r = amx m ρ⌝ ∗ Xs m ρ c ∗ pt c cc0_scratch0 Finset.univ fullShare (accP m ρ 15 c) ∗ pt c cc0_scratch1 Finset.univ fullShare (accN m ρ 15 c) ∗ Post6 m ρ c) := by
  rw [k0_part6_eq_skeleton]
  unfold k0_part6_skel
  simp only [Prog.lift, Prog.bind_op, Prog.bind_ret, Prog.pure_eq_ret]
  unfold Pre6
  iintro ⟨#HC, HX, HaP, HaN, Hg2, Hg3, Hi2, Hi4, Hr3, Hr5, H0, H1, Hpend, Hrow, HsS, HsR, HO⟩
  iapply (ldA1 c) $$ HaN; iintro %g1 HaN
  iapply (st1 c (w := k0_pay9 v26 v28)) $$ HaN; iintro HaN
  have eN : (pt c cc0_scratch1 Finset.univ fullShare (k0_pay9 v26 v28) : sProp 𝕄) ⊢ pt c cc0_scratch1 Finset.univ fullShare (accN m ρ 0 c) :=
    Entails.of_eq (congrArg (fun f : FVec F S256x4096 .f32 => (pt c cc0_scratch1 Finset.univ fullShare f : sProp 𝕄)) hv)
  ihave HaN := eN $$ HaN
  iapply (WP_loop c (t1_loop m ρ K c v2 v5 v7 v26 v28)) $$ [HX HaP HaN Hg2 Hg3 Hi2 Hi4 Hr3 Hr5 H0 H1 Hpend HO]
  · isplitr; · iexact HC
    unfold I1
    rw [if_neg (show (0 : ℕ) ≠ 15 by decide), if_neg (show (0 : ℕ) ≠ 15 by decide)]
    iframe HX HaP HaN Hg2 Hg3 Hi2 Hi4 Hr3 Hr5 H0 H1 Hpend HO
    unfold kept; rw [Finset.range_zero, bigSep_empty]
    iempintro
  iintro %u ⟨-, HI⟩
  unfold I1
  rw [if_pos (show (15 : ℕ) = 15 from rfl), if_pos (show (15 : ℕ) = 15 from rfl)]
  icases HI with ⟨HX, HaP, HaN, Hg2, Hg3, Hi2, Hi4, Hr3, Hr5, H0, H1, -, Hkept, ⟨H4, H5⟩, HO⟩
  iapply (ld0 c fullShare (accP m ρ 15 c)) $$ HaP; iintro HaP
  iapply (ld1 c fullShare (accN m ρ 15 c)) $$ HaN; iintro HaN
  iapply (ldrow c c (k0_off4_eq c)) $$ Hrow; iintro %g4 Hrow
  iapply (strow m ρ c c (w := mrow m ρ c) rfl (k0_off4_eq c)) $$ Hrow; iintro Hrow
  iapply (WP_loop c (t2_loop m ρ K c v2 v5 v7 v26 v28)) $$ [Hrow Hkept HsS HO]
  · isplitr; · iexact HC
    unfold I2 kept
    rw [Finset.range_zero, bigSep_empty, ← Finset.range_eq_Ico]
    iframe Hrow Hkept HsS HO
    iempintro
  iintro %u2 ⟨-, HI⟩
  unfold I2
  icases HI with ⟨Hrow, -, HsS, -, HO⟩
  iapply (WP_loop c (t3_loop m ρ K c v2 v5 v7 v26 v28)) $$ [Hrow HsS HsR HO]
  · isplitr; · iexact HC
    unfold I3
    rw [Finset.range_zero, bigSep_empty, bigSep_empty, bigSep_empty, bigSep_empty, ← Finset.range_eq_Ico]
    iframe Hrow HsS HsR HO
    isplitr; · iempintro
    isplitr; · iempintro
    isplitr; · iempintro
    iempintro
  iintro %u3 ⟨-, HI⟩
  ihave HI := (I3_done m ρ c) $$ HI
  icases HI with ⟨HM, HsS, HsR, HO⟩
  iapply (s_loadw (mi := 10) c fullShare (MB m ρ) hz2 inb_S16x128_S16x128_0_0) $$ HM
  iintro HM
  iapply (WP_ret c)
  isplitr; · ipureintro; rfl
  unfold Post6
  isplitl [HX]; · iexact HX
  isplitl [HaP]; · iexact HaP
  isplitl [HaN]; · iexact HaN
  isplitl [Hg2]; · iexact Hg2
  isplitl [Hg3]; · iexact Hg3
  iframe Hi2 Hi4 Hr3 Hr5 H0 H1 H4 H5 HsS HsR HO
  iexact HM

end Cert.Talk

end
-- ==== Proof.Gather.lean ====
module

public import proofs.«01_k».proof.Proof.Ends

/-!
# Sending the scaled chunks around

One hop: the chunk in hand travels on, the next one lands, and the one that landed is written to the result.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

variable {α : Type} {Q : α → sProp (MT nD τ sig ℕ (Elt F) ℕ UU ℕ)}

/-- The left half's gathering copy goes to the right neighbour. -/
theorem dev8_dv (c : Dev nD) (h) : (⟨k0_dev8 c, h⟩ : Dev nD) = dv c 1 := Fin.ext (k0_dev8_eq c)
/-- The right half's gathering copy goes to the left neighbour. -/
theorem dev9_dv (c : Dev nD) (h) : (⟨k0_dev9 c, h⟩ : Dev nD) = dv c 15 := Fin.ext (k0_dev9_eq c)
/-- The left half's credit goes to the left neighbour. -/
theorem dev10_dv (c : Dev nD) (h) : (⟨k0_dev10 c, h⟩ : Dev nD) = dv c 15 := Fin.ext (k0_dev10_eq c)
/-- The right half's credit goes to the right neighbour. -/
theorem dev11_dv (c : Dev nD) (h) : (⟨k0_dev11 c, h⟩ : Dev nD) = dv c 1 := Fin.ext (k0_dev11_eq c)
/-- The wait for credits at the head of a gathering hop happens from the second hop on. -/
theorem h3_iff : ∀ k : Fin k0_t4_loop.trips, Scalar.cmpi .ne (Scalar.extui (Scalar.cmpi .sge (Scf.iv 0#32 1#32 k) 1#32)) 0#32 = 1#1 ↔ 1 ≤ k.val := by decide +kernel
/-- The wait for the last copies to the result happens from the second hop on. -/
theorem h4_iff : ∀ k : Fin k0_t4_loop.trips, k0_cond4 k = 1#1 ↔ 1 ≤ k.val := by decide +kernel
/-- Credits are given in every gathering hop but the last. -/
theorem h5_iff : ∀ k : Fin k0_t4_loop.trips, k0_cond5 k = 1#1 ↔ k.val < 14 := by decide +kernel
/-- A wait in gathering hop `t` is below everything owed from the hop's credits on. -/
theorem lv77 (t : ℕ) (h : t < 15) : 200 + 2 * t < evLv (77 + 4 * t) := by unfold evLv; split_ifs <;> omega
/-- A wait for the credit of gathering hop `t` is below everything owed from the hop on. -/
theorem lv75 (t : ℕ) (h : t < 15) : 200 + 2 * t - 1 < evLv (75 + 4 * t) := by unfold evLv; split_ifs <;> omega
/-- Gathering hop `k` sends the slot that the hop before filled. -/
theorem off16_slot (k : Fin k0_t4_loop.trips) : k0_off16 k = ![k.val % 2, 0, 0] :=
  (k0_off16_eq k).trans (congrArg (fun n : ℕ => (![n, 0, 0] : Fin 3 → ℕ)) (by omega))
/-- Copy semaphores with equal numbers are equal. -/
theorem dm_congr {a b : ℕ} (h : a = b) (ha : a < 47) (hb : b < 47) : (dm a ha : SemLoc sig) = dm b hb := by subst h; rfl
/-- The level of the semaphore that gathering hop `t` receives on. -/
theorem lv_recv (B t : ℕ) (hB : B = 8 ∨ B = 12) (h : B + (t + 1) % 2 < 47) : lvS (dm (B + (t + 1) % 2) h) (t / 2) = 200 + 2 * t := by
  rcases Nat.even_or_odd' t with ⟨s, rfl | rfl⟩
  · rw [lv_ag1 _ _ _ (by omega)]; omega
  · rw [lv_ag0 _ _ _ (by omega)]; omega

/-! ## Left half -/

/-- The semaphore hop `t` sends on. -/
def sQP (t : ℕ) : SemLoc sig := dm (6 + (t + 1) % 2)  (by omega)
/-- The semaphore hop `t` receives on. -/
def rQP (t : ℕ) : SemLoc sig := dm (8 + (t + 1) % 2) (by omega)
/-- The device whose chunk is in hand before hop `t`. -/
def ixP (c : Dev nD) (t : ℕ) : Dev nD := dv c (15 * t)

/-- The left half's send semaphore is one of the kernel's own. -/
theorem own_sQP (t : ℕ) : own (sQP t) = true := decide_eq_true (show 2 ≤ 6 + (t + 1) % 2 by omega)
/-- The left half's receive semaphore is one of the kernel's own. -/
theorem own_rQP (t : ℕ) : own (rQP t) = true := decide_eq_true (show 2 ≤ 8 + (t + 1) % 2 by omega)
/-- Hop `t` is one of the rounds of the semaphore that the left half is sent on. -/
theorem nr_sQP (c : Dev nD) (t : ℕ) (h : t < 15) : t / 2 < nr c.val (sQP t) := by
  show t / 2 < nrD c.val (6 + (t + 1) % 2)
  unfold nrD; split_ifs <;> omega
/-- Hop `t` is one of the rounds of the semaphore that the left half is received on. -/
theorem nr_rQP (c : Dev nD) (t : ℕ) (h : t < 15) : t / 2 < nr c.val (rQP t) := by
  show t / 2 < nrD c.val (8 + (t + 1) % 2)
  unfold nrD; split_ifs <;> omega
/-- The left half's send semaphore is raised by one slot's worth. -/
theorem am_sQP (t : ℕ) : am (sQP t) = cc0_scratch6.dmaCredit S256x4096 .fp8e4m3 := by
  show amD (6 + (t + 1) % 2) = _
  unfold amD; split_ifs <;> first | rfl | omega
/-- The left half's receive semaphore is raised by one slot's worth. -/
theorem am_rQP (t : ℕ) : am (rQP t) = cc0_scratch6.dmaCredit S256x4096 .fp8e4m3 := by
  show amD (8 + (t + 1) % 2) = _
  unfold amD; split_ifs <;> first | rfl | omega
/-- The end of the left half's sending hands back the slot that was sent. -/
theorem pay_sQP (c : Dev nD) (t r : ℕ) : paySm m ρ c (sQP t) r false = ptAny c cc0_scratch6 (slotSet (t % 2)) := by
  show payD m ρ c (6 + (t + 1) % 2) r = _
  rcases Nat.even_or_odd' t with ⟨s, rfl | rfl⟩
  · rw [show 6 + (2 * s + 1) % 2 = 6 + 1 by omega, show 2 * s % 2 = 0 by omega]; rfl
  · rw [show 6 + (2 * s + 1 + 1) % 2 = 6 by omega, show (2 * s + 1) % 2 = 1 by omega]; rfl
/-- The left half's landing hands over the slot it filled, with the contents sent. -/
theorem pay_rQP (c : Dev nD) (t : ℕ) : paySm m ρ c (rQP t) (t / 2) false
    = iprop(pt c cc0_scratch6 (slotSet ((t + 1) % 2)) fullShare (SBP (qP m ρ (ixP c (t + 1)))) ∗ reached ER (cell (dv c 15) (rg 0)) (14 + t)) := by
  show payD m ρ c (8 + (t + 1) % 2) (t / 2) = _
  unfold ixP
  rcases Nat.even_or_odd' t with ⟨s, rfl | rfl⟩
  · rw [show 8 + (2 * s + 1) % 2 = 8 + 1 by omega, show (2 * s + 1) % 2 = 1 by omega, show 2 * s / 2 = s by omega]; rfl
  · rw [show 8 + (2 * s + 1 + 1) % 2 = 8 by omega, show (2 * s + 1 + 1) % 2 = 0 by omega, show (2 * s + 1) / 2 = s by omega]; rfl
/-- The left half's credit for a later hop hands over the neighbour's free slot. -/
theorem pay_crP (c : Dev nD) (t : ℕ) (h : 1 ≤ t) : payCP (F := F) c (13 + t)
    = iprop(ptAny (dv c 1) cc0_scratch6 (slotSet ((t + 1) % 2)) ∗ reached ER (cell (dv c 1) (rQP t)) (t / 2)) := by
  unfold payCP rQP
  rw [if_neg (by omega)]
  rcases Nat.even_or_odd' t with ⟨s, rfl | rfl⟩
  · rw [if_neg (by omega), show (13 + 2 * s - 13) / 2 = s by omega, show 2 * s / 2 = s by omega]
    simp only [show (2 * s + 1) % 2 = 1 by omega]
  · rw [if_pos (by omega), show (13 + (2 * s + 1) - 13) / 2 = s by omega, show (2 * s + 1) / 2 = s by omega]
    simp only [show (2 * s + 1 + 1) % 2 = 0 by omega]
/-- The left half's send semaphore, as the program names it. -/
theorem semSP (k : Fin k0_t4_loop.trips) : (SemLoc.dma (((cc0_scratch11.slice (Rect.unit (s := S2) (k0_off14 k) S1.size (k0_off14_inb k))).squeeze S_ squeezes_S1_S_).sem) : SemLoc sig) = sQP k.val :=
  congrArg SemLoc.dma (sem_at 47 6 2 hcc0_scratch11 (k0_off14 k) (k0_off14_inb k) squeezes_S1_S_ ((k.val + 1) % 2) (k0_off14_eq k) (by omega))
/-- The left half's receive semaphore, as the program names it. -/
theorem semRP (k : Fin k0_t4_loop.trips) : (SemLoc.dma (((cc0_scratch12.slice (Rect.unit (s := S2) (k0_off14 k) S1.size (k0_off14_inb k))).squeeze S_ squeezes_S1_S_).sem) : SemLoc sig) = rQP k.val :=
  congrArg SemLoc.dma (sem_at 47 8 2 hcc0_scratch12 (k0_off14 k) (k0_off14_inb k) squeezes_S1_S_ ((k.val + 1) % 2) (k0_off14_eq k) (by omega))

set_option maxHeartbeats 2000000 in
/-- The chunk in hand travels on. -/
theorem sendP (c : Dev nD) (k : Fin k0_t4_loop.trips) {hsc} {hsrc} {hdst} {hsem} {K' : PUnit → Prog (TpuEff nD τ sig (Elt F) Λ₀ .tc) α} :
    iprop(Ctx m ρ K ∗ pt c cc0_scratch6 (slotSet (k.val % 2)) fullShare (SBP (qP m ρ (ixP c k.val)))
        ∗ ptAny (dv c 1) cc0_scratch6 (slotSet ((k.val + 1) % 2)) ∗ reached ER (cell c (rg 0)) (14 + k.val) ∗ Ow c (75 + 4 * k.val) ∗ Idle c (sQP k.val) (k.val / 2)
        ∗ reached ER (cell (dv c 1) (rQP k.val)) (k.val / 2))
      ⊢ iprop(((Busy c (sQP k.val) (k.val / 2) ∗ Ow c (75 + 4 * k.val + 1)) -∗ WP c (K' ⟨⟩) Q)
        -∗ WP c (.op (.enqueueDma (slotMP (k0_off16 k) (k0_off16_inb k) squeezes_S1x256x4096_S256x4096)
            (.remote (Dev.tc (⟨k0_dev8 c, k0_dev8_lt c⟩ : Dev nD)) (slotMP (k0_off15 k) (k0_off15_inb k) squeezes_S1x256x4096_S256x4096)
              (.dma (((cc0_scratch11.slice (Rect.unit (s := S2) (k0_off14 k) S1.size (k0_off14_inb k))).squeeze S_ squeezes_S1_S_).sem)) hsc)
            (.dma (((cc0_scratch12.slice (Rect.unit (s := S2) (k0_off14 k) S1.size (k0_off14_inb k))).squeeze S_ squeezes_S1_S_).sem)) hsrc hdst hsem) K') Q) := by
  have hk := t4_lt k
  have ham : am (sQP k.val) = am (rQP k.val) := (am_sQP _).trans (am_rQP _).symm
  have hN : (slotMP (k0_off15 k) (k0_off15_inb k) squeezes_S1x256x4096_S256x4096).view.amount (rQP k.val) = am (rQP k.val) := (am_rQP _).symm
  have hs := Entails.of_eq (slotMP_pt (F := F) c (k0_off16 k) (k0_off16_inb k) squeezes_S1x256x4096_S256x4096 (k.val % 2) (off16_slot k) fullShare (SBP (qP m ρ (ixP c k.val))))
  have hd : (ptAny (dv c 1) cc0_scratch6 (slotSet ((k.val + 1) % 2)) : sProp 𝕄) ⊢ iprop(∃ fd, (slotMP (k0_off15 k) (k0_off15_inb k) squeezes_S1x256x4096_S256x4096).view.loc (dv c 1 : Thread nD τ)
      ↦[(slotMP (k0_off15 k) (k0_off15_inb k) squeezes_S1x256x4096_S256x4096).view.set]{fullShare} fd) := by
    unfold ptAny
    iintro ⟨%f, H⟩; iexists f
    rw [← slotMP_pt (F := F) (dv c 1) (k0_off15 k) (k0_off15_inb k) squeezes_S1x256x4096_S256x4096 ((k.val + 1) % 2) (k0_off15_eq k) fullShare f]; iexact H
  have hp1 : _ ⊢ paySm m ρ c (sQP k.val) (k.val / 2) false := (Entails.of_eq (slotMP_pt (F := F) c (k0_off16 k) (k0_off16_inb k) squeezes_S1x256x4096_S256x4096 (k.val % 2) (off16_slot k) fullShare (SBP (qP m ρ (ixP c k.val)))).symm).trans
    ((pt_any c cc0_scratch6 _ _).trans (Entails.of_eq (pay_sQP m ρ c k.val (k.val / 2)).symm))
  iintro ⟨#HC, Hs, Hd, Hx, HO, Hi, Hr⟩ Hk
  iapply (w_send m ρ K c (75 + 4 * k.val) 1 (rQP k.val) (k.val / 2) false (ev_agP c k.val hk) (dev8_dv c (k0_dev8_lt c)) (sQP k.val) (k.val / 2) (nr_sQP c k.val hk) rfl (own_sQP _) ham
    (src := slotMP (k0_off16 k) (k0_off16_inb k) squeezes_S1x256x4096_S256x4096) (dst := slotMP (k0_off15 k) (k0_off15_inb k) squeezes_S1x256x4096_S256x4096)
    (dst' := slotMP (k0_off15 k) (k0_off15_inb k) squeezes_S1x256x4096_S256x4096) HEq.rfl (semSP k) (semRP k)
    (hsc := hsc) (hsrc := hsrc) (hdst := hdst) (hsem := hsem) hN (q := fullShare)
    (X := reached ER (cell c (rg 0)) (14 + k.val)) hs hd hp1 (fun fd => ?_)) $$ [Hs Hd Hx HO Hi Hr]
  · rw [pay_rQP, slotMP_read (F := F) (k0_off16 k) (k0_off16_inb k) squeezes_S1x256x4096_S256x4096 (k.val % 2) (off16_slot k)]
    have e1 : ixP (dv c 1) (k.val + 1) = ixP c k.val := by unfold ixP; rw [dv_dv]; exact dv_congr c (by omega)
    rw [e1, dv_dv, dv_zero (a := 1 + 15) c rfl]
    exact BIClass.sep_mono (slotMP_write (F := F) (dv c 1) (k0_off15 k) (k0_off15_inb k) squeezes_S1x256x4096_S256x4096 ((k.val + 1) % 2) (k0_off15_eq k) fd (qP m ρ (ixP c k.val)) _ rfl) .rfl
  · isplitr; · iexact HC
    isplitl [Hs]; · iexact Hs
    isplitl [Hd]; · iexact Hd
    isplitl [Hx]; · iexact Hx
    isplitl [HO]; · iexact HO
    isplitl [Hi]; · iexact Hi
    iexact Hr
  iexact Hk

/-- Waiting until the chunk in hand has left. -/
theorem waitSP (c : Dev nD) (k : Fin k0_t4_loop.trips) (n : ℕ) {src : Memref sig .tc .vmem S256x4096 .fp8e4m3} {h1} {h2} {K' : PUnit → Prog (TpuEff nD τ sig (Elt F) Λ₀ .tc) α} :
    iprop(Ctx m ρ K ∗ Busy c (sQP k.val) (k.val / 2) ∗ Ow c n)
      ⊢ iprop(((Idle c (sQP k.val) (k.val / 2 + 1) ∗ Ow c n ∗ ptAny c cc0_scratch6 (slotSet (k.val % 2))) -∗ WP c (K' ⟨⟩) Q)
        -∗ WP c (.op (.waitDma2 (((cc0_scratch11.slice (Rect.unit (s := S2) (k0_off14 k) S1.size (k0_off14_inb k))).squeeze S_ squeezes_S1_S_).sem)
            src (slotMP (k0_off16 k) (k0_off16_inb k) squeezes_S1x256x4096_S256x4096) h1 h2) K') Q) :=
  w_own m ρ K c (sQP k.val) (k.val / 2) n (wpE_waitDma2_eq 𝒱₀ (c : Thread nD τ) none Set.univ) (semSP k) (am_sQP _).symm (nr_sQP c k.val (t4_lt k)) rfl (by have := t4_lt k; omega)
    (Or.inr (by unfold sQP; rw [lv_own _ _ _ (by omega)]; exact evLv_pos n)) (own_sQP _) (Entails.of_eq (pay_sQP m ρ c k.val (k.val / 2)))

/-- Waiting until the next chunk has landed. -/
theorem waitRP (c : Dev nD) (k : Fin k0_t4_loop.trips) {src : Memref sig .tc .vmem S256x4096 .fp8e4m3} {h1} {h2} {K' : PUnit → Prog (TpuEff nD τ sig (Elt F) Λ₀ .tc) α} :
    iprop(Ctx m ρ K ∗ Rcv c (rQP k.val) (k.val / 2) ∗ Ow c (77 + 4 * k.val))
      ⊢ iprop(((Rcv c (rQP k.val) (k.val / 2 + 1) ∗ Ow c (77 + 4 * k.val)
          ∗ pt c cc0_scratch6 (slotSet ((k.val + 1) % 2)) fullShare (SBP (qP m ρ (ixP c (k.val + 1)))) ∗ reached ER (cell (dv c 15) (rg 0)) (14 + k.val)) -∗ WP c (K' ⟨⟩) Q)
        -∗ WP c (.op (.waitDma2 (((cc0_scratch12.slice (Rect.unit (s := S2) (k0_off14 k) S1.size (k0_off14_inb k))).squeeze S_ squeezes_S1_S_).sem)
            src (slotMP (k0_off15 k) (k0_off15_inb k) squeezes_S1x256x4096_S256x4096) h1 h2) K') Q) :=
  w_rcv m ρ K c (rQP k.val) (k.val / 2) (77 + 4 * k.val) (wpE_waitDma2_eq 𝒱₀ (c : Thread nD τ) none Set.univ) (semRP k) (am_rQP _).symm (nr_rQP c k.val (t4_lt k)) rfl (by have := t4_lt k; omega)
    (Or.inr (by unfold rQP; rw [lv_recv _ _ (by omega)]; exact lv77 _ (t4_lt k))) (own_rQP _) (Entails.of_eq (pay_rQP m ρ c k.val))

/-- Waiting for the landing place on the next device. -/
theorem creditP (c : Dev nD) (t : ℕ) (h : 1 ≤ t) (ht : t < 15) {K' : PUnit → Prog (TpuEff nD τ sig (Elt F) Λ₀ .tc) α} :
    iprop(Ctx m ρ K ∗ Rcv c (rg 0) (14 + (t - 1)) ∗ Ow c (75 + 4 * t))
      ⊢ iprop(((Rcv c (rg 0) (14 + t) ∗ Ow c (75 + 4 * t)
          ∗ ptAny (dv c 1) cc0_scratch6 (slotSet ((t + 1) % 2)) ∗ reached ER (cell (dv c 1) (rQP t)) (t / 2)) -∗ WP c (K' ⟨⟩) Q)
        -∗ WP c (.op (.semWait (0 : Fin 4) 1) K') Q) := by
  have e : paySm m ρ c (rg 0) (14 + (t - 1)) false = payCP c (13 + t) := congrArg (payCP c) (show 14 + (t - 1) = 13 + t by omega)
  have h' := w_rcv (k := K') (Q := Q) m ρ K c (rg 0) (14 + (t - 1)) (75 + 4 * t) (wpE_semWait_eq 𝒱₀ (c : Thread nD τ) none Set.univ (sem := (0 : Fin 4))) rfl rfl (show 14 + (t - 1) < 28 by omega) rfl (by omega)
    (Or.inr (by rw [lv_crd0, if_neg (by omega)]; exact lt_of_le_of_lt (by omega) (lv75 t ht))) rfl (Entails.of_eq (e.trans (pay_crP c t h)))
  rw [show 14 + (t - 1) + 1 = 14 + t by omega] at h'
  exact h'

/-- Handing the slot just emptied to the device behind. -/
theorem crsigP (c : Dev nD) (k : Fin k0_t4_loop.trips) (h : k.val < 14) (h5 : k0_cond5 k = 1#1) {K' : PUnit → Prog (TpuEff nD τ sig (Elt F) Λ₀ .tc) α} :
    iprop(Ctx m ρ K ∗ Ow c (77 + 4 * k.val) ∗ ptAny c cc0_scratch6 (slotSet (k.val % 2)) ∗ Rcv c (rQP (k.val + 1)) ((k.val + 1) / 2) ∗ reached ER (cell (dv c 15) (rg 0)) (14 + k.val))
      ⊢ iprop(((Ow c (77 + 4 * k.val + 1) ∗ Rcv c (rQP (k.val + 1)) ((k.val + 1) / 2)) -∗ WP c (K' ⟨⟩) Q)
        -∗ WP c (.op (.semSignal ((⟨k0_dev10 c, k0_dev10_lt c k h5⟩ : Dev nD) : Thread nD τ) (0 : Fin 4) 1) K') Q) := by
  iintro ⟨#HC, HO, Hs, Hr, Hx⟩ Hk
  ihave #Hre := (Rcv_reached (F := F) c (rQP (k.val + 1)) ((k.val + 1) / 2)) $$ Hr
  iapply (w_signal m ρ K c (77 + 4 * k.val) 15 (rg 0) (14 + k.val) false (ev_agcP c k.val h) (dev10_dv c (k0_dev10_lt c k h5)) (sem := (0 : Fin 4)) rfl
    (k' := 1) rfl (P := iprop(ptAny c cc0_scratch6 (slotSet (k.val % 2)) ∗ reached ER (cell c (rQP (k.val + 1))) ((k.val + 1) / 2))) ?_) $$ [HO Hs Hx]
  · have e : paySm m ρ (dv c 15) (rg 0) (14 + k.val) false = payCP (dv c 15) (13 + (k.val + 1)) := congrArg (payCP (dv c 15)) (show 14 + k.val = 13 + (k.val + 1) by omega)
    rw [e, pay_crP _ _ (by omega), dv_dv, dv_zero (a := 15 + 1) c rfl, show (k.val + 1 + 1) % 2 = k.val % 2 by omega]
  · isplitr; · iexact HC
    isplitl [HO]; · iexact HO
    isplitl [Hs]
    · isplitl [Hs]; · iexact Hs
      iexact Hre
    iexact Hx
  iintro HO
  iapply Hk
  isplitl [HO]; · iexact HO
  iexact Hr

/-! ## Right half -/

/-- The semaphore hop `t` sends on. -/
def sQN (t : ℕ) : SemLoc sig := dm (10 + (t + 1) % 2)  (by omega)
/-- The semaphore hop `t` receives on. -/
def rQN (t : ℕ) : SemLoc sig := dm (12 + (t + 1) % 2) (by omega)
/-- The device whose chunk is in hand before hop `t`. -/
def ixN (c : Dev nD) (t : ℕ) : Dev nD := dv c (t)

/-- The right half's send semaphore is one of the kernel's own. -/
theorem own_sQN (t : ℕ) : own (sQN t) = true := decide_eq_true (show 2 ≤ 10 + (t + 1) % 2 by omega)
/-- The right half's receive semaphore is one of the kernel's own. -/
theorem own_rQN (t : ℕ) : own (rQN t) = true := decide_eq_true (show 2 ≤ 12 + (t + 1) % 2 by omega)
/-- Hop `t` is one of the rounds of the semaphore that the right half is sent on. -/
theorem nr_sQN (c : Dev nD) (t : ℕ) (h : t < 15) : t / 2 < nr c.val (sQN t) := by
  show t / 2 < nrD c.val (10 + (t + 1) % 2)
  unfold nrD; split_ifs <;> omega
/-- Hop `t` is one of the rounds of the semaphore that the right half is received on. -/
theorem nr_rQN (c : Dev nD) (t : ℕ) (h : t < 15) : t / 2 < nr c.val (rQN t) := by
  show t / 2 < nrD c.val (12 + (t + 1) % 2)
  unfold nrD; split_ifs <;> omega
/-- The right half's send semaphore is raised by one slot's worth. -/
theorem am_sQN (t : ℕ) : am (sQN t) = cc0_scratch7.dmaCredit S256x4096 .fp8e4m3 := by
  show amD (10 + (t + 1) % 2) = _
  unfold amD; split_ifs <;> first | rfl | omega
/-- The right half's receive semaphore is raised by one slot's worth. -/
theorem am_rQN (t : ℕ) : am (rQN t) = cc0_scratch7.dmaCredit S256x4096 .fp8e4m3 := by
  show amD (12 + (t + 1) % 2) = _
  unfold amD; split_ifs <;> first | rfl | omega
/-- The end of the right half's sending hands back the slot that was sent. -/
theorem pay_sQN (c : Dev nD) (t r : ℕ) : paySm m ρ c (sQN t) r false = ptAny c cc0_scratch7 (slotSet (t % 2)) := by
  show payD m ρ c (10 + (t + 1) % 2) r = _
  rcases Nat.even_or_odd' t with ⟨s, rfl | rfl⟩
  · rw [show 10 + (2 * s + 1) % 2 = 10 + 1 by omega, show 2 * s % 2 = 0 by omega]; rfl
  · rw [show 10 + (2 * s + 1 + 1) % 2 = 10 by omega, show (2 * s + 1) % 2 = 1 by omega]; rfl
/-- The right half's landing hands over the slot it filled, with the contents sent. -/
theorem pay_rQN (c : Dev nD) (t : ℕ) : paySm m ρ c (rQN t) (t / 2) false
    = iprop(pt c cc0_scratch7 (slotSet ((t + 1) % 2)) fullShare (SBN (qN m ρ (ixN c (t + 1)))) ∗ reached ER (cell (dv c 1) (rg 1)) (14 + t)) := by
  show payD m ρ c (12 + (t + 1) % 2) (t / 2) = _
  unfold ixN
  rcases Nat.even_or_odd' t with ⟨s, rfl | rfl⟩
  · rw [show 12 + (2 * s + 1) % 2 = 12 + 1 by omega, show (2 * s + 1) % 2 = 1 by omega, show 2 * s / 2 = s by omega]; rfl
  · rw [show 12 + (2 * s + 1 + 1) % 2 = 12 by omega, show (2 * s + 1 + 1) % 2 = 0 by omega, show (2 * s + 1) / 2 = s by omega]; rfl
/-- The right half's credit for a later hop hands over the neighbour's free slot. -/
theorem pay_crN (c : Dev nD) (t : ℕ) (h : 1 ≤ t) : payCN (F := F) c (13 + t)
    = iprop(ptAny (dv c 15) cc0_scratch7 (slotSet ((t + 1) % 2)) ∗ reached ER (cell (dv c 15) (rQN t)) (t / 2)) := by
  unfold payCN rQN
  rw [if_neg (by omega)]
  rcases Nat.even_or_odd' t with ⟨s, rfl | rfl⟩
  · rw [if_neg (by omega), show (13 + 2 * s - 13) / 2 = s by omega, show 2 * s / 2 = s by omega]
    simp only [show (2 * s + 1) % 2 = 1 by omega]
  · rw [if_pos (by omega), show (13 + (2 * s + 1) - 13) / 2 = s by omega, show (2 * s + 1) / 2 = s by omega]
    simp only [show (2 * s + 1 + 1) % 2 = 0 by omega]
/-- The right half's send semaphore, as the program names it. -/
theorem semSN (k : Fin k0_t4_loop.trips) : (SemLoc.dma (((cc0_scratch13.slice (Rect.unit (s := S2) (k0_off14 k) S1.size (k0_off14_inb k))).squeeze S_ squeezes_S1_S_).sem) : SemLoc sig) = sQN k.val :=
  congrArg SemLoc.dma (sem_at 47 10 2 hcc0_scratch13 (k0_off14 k) (k0_off14_inb k) squeezes_S1_S_ ((k.val + 1) % 2) (k0_off14_eq k) (by omega))
/-- The right half's receive semaphore, as the program names it. -/
theorem semRN (k : Fin k0_t4_loop.trips) : (SemLoc.dma (((cc0_scratch14.slice (Rect.unit (s := S2) (k0_off14 k) S1.size (k0_off14_inb k))).squeeze S_ squeezes_S1_S_).sem) : SemLoc sig) = rQN k.val :=
  congrArg SemLoc.dma (sem_at 47 12 2 hcc0_scratch14 (k0_off14 k) (k0_off14_inb k) squeezes_S1_S_ ((k.val + 1) % 2) (k0_off14_eq k) (by omega))

set_option maxHeartbeats 2000000 in
/-- The chunk in hand travels on. -/
theorem sendN (c : Dev nD) (k : Fin k0_t4_loop.trips) {hsc} {hsrc} {hdst} {hsem} {K' : PUnit → Prog (TpuEff nD τ sig (Elt F) Λ₀ .tc) α} :
    iprop(Ctx m ρ K ∗ pt c cc0_scratch7 (slotSet (k.val % 2)) fullShare (SBN (qN m ρ (ixN c k.val)))
        ∗ ptAny (dv c 15) cc0_scratch7 (slotSet ((k.val + 1) % 2)) ∗ reached ER (cell c (rg 1)) (14 + k.val) ∗ Ow c (76 + 4 * k.val) ∗ Idle c (sQN k.val) (k.val / 2)
        ∗ reached ER (cell (dv c 15) (rQN k.val)) (k.val / 2))
      ⊢ iprop(((Busy c (sQN k.val) (k.val / 2) ∗ Ow c (76 + 4 * k.val + 1)) -∗ WP c (K' ⟨⟩) Q)
        -∗ WP c (.op (.enqueueDma (slotMN (k0_off16 k) (k0_off16_inb k) squeezes_S1x256x4096_S256x4096)
            (.remote (Dev.tc (⟨k0_dev9 c, k0_dev9_lt c⟩ : Dev nD)) (slotMN (k0_off15 k) (k0_off15_inb k) squeezes_S1x256x4096_S256x4096)
              (.dma (((cc0_scratch13.slice (Rect.unit (s := S2) (k0_off14 k) S1.size (k0_off14_inb k))).squeeze S_ squeezes_S1_S_).sem)) hsc)
            (.dma (((cc0_scratch14.slice (Rect.unit (s := S2) (k0_off14 k) S1.size (k0_off14_inb k))).squeeze S_ squeezes_S1_S_).sem)) hsrc hdst hsem) K') Q) := by
  have hk := t4_lt k
  have ham : am (sQN k.val) = am (rQN k.val) := (am_sQN _).trans (am_rQN _).symm
  have hN : (slotMN (k0_off15 k) (k0_off15_inb k) squeezes_S1x256x4096_S256x4096).view.amount (rQN k.val) = am (rQN k.val) := (am_rQN _).symm
  have hs := Entails.of_eq (slotMN_pt (F := F) c (k0_off16 k) (k0_off16_inb k) squeezes_S1x256x4096_S256x4096 (k.val % 2) (off16_slot k) fullShare (SBN (qN m ρ (ixN c k.val))))
  have hd : (ptAny (dv c 15) cc0_scratch7 (slotSet ((k.val + 1) % 2)) : sProp 𝕄) ⊢ iprop(∃ fd, (slotMN (k0_off15 k) (k0_off15_inb k) squeezes_S1x256x4096_S256x4096).view.loc (dv c 15 : Thread nD τ)
      ↦[(slotMN (k0_off15 k) (k0_off15_inb k) squeezes_S1x256x4096_S256x4096).view.set]{fullShare} fd) := by
    unfold ptAny
    iintro ⟨%f, H⟩; iexists f
    rw [← slotMN_pt (F := F) (dv c 15) (k0_off15 k) (k0_off15_inb k) squeezes_S1x256x4096_S256x4096 ((k.val + 1) % 2) (k0_off15_eq k) fullShare f]; iexact H
  have hp1 : _ ⊢ paySm m ρ c (sQN k.val) (k.val / 2) false := (Entails.of_eq (slotMN_pt (F := F) c (k0_off16 k) (k0_off16_inb k) squeezes_S1x256x4096_S256x4096 (k.val % 2) (off16_slot k) fullShare (SBN (qN m ρ (ixN c k.val)))).symm).trans
    ((pt_any c cc0_scratch7 _ _).trans (Entails.of_eq (pay_sQN m ρ c k.val (k.val / 2)).symm))
  iintro ⟨#HC, Hs, Hd, Hx, HO, Hi, Hr⟩ Hk
  iapply (w_send m ρ K c (76 + 4 * k.val) 15 (rQN k.val) (k.val / 2) false (ev_agN c k.val hk) (dev9_dv c (k0_dev9_lt c)) (sQN k.val) (k.val / 2) (nr_sQN c k.val hk) rfl (own_sQN _) ham
    (src := slotMN (k0_off16 k) (k0_off16_inb k) squeezes_S1x256x4096_S256x4096) (dst := slotMN (k0_off15 k) (k0_off15_inb k) squeezes_S1x256x4096_S256x4096)
    (dst' := slotMN (k0_off15 k) (k0_off15_inb k) squeezes_S1x256x4096_S256x4096) HEq.rfl (semSN k) (semRN k)
    (hsc := hsc) (hsrc := hsrc) (hdst := hdst) (hsem := hsem) hN (q := fullShare)
    (X := reached ER (cell c (rg 1)) (14 + k.val)) hs hd hp1 (fun fd => ?_)) $$ [Hs Hd Hx HO Hi Hr]
  · rw [pay_rQN, slotMN_read (F := F) (k0_off16 k) (k0_off16_inb k) squeezes_S1x256x4096_S256x4096 (k.val % 2) (off16_slot k)]
    have e1 : ixN (dv c 15) (k.val + 1) = ixN c k.val := by unfold ixN; rw [dv_dv]; exact dv_congr c (by omega)
    rw [e1, dv_dv, dv_zero (a := 15 + 1) c rfl]
    exact BIClass.sep_mono (slotMN_write (F := F) (dv c 15) (k0_off15 k) (k0_off15_inb k) squeezes_S1x256x4096_S256x4096 ((k.val + 1) % 2) (k0_off15_eq k) fd (qN m ρ (ixN c k.val)) _ rfl) .rfl
  · isplitr; · iexact HC
    isplitl [Hs]; · iexact Hs
    isplitl [Hd]; · iexact Hd
    isplitl [Hx]; · iexact Hx
    isplitl [HO]; · iexact HO
    isplitl [Hi]; · iexact Hi
    iexact Hr
  iexact Hk

/-- Waiting until the chunk in hand has left. -/
theorem waitSN (c : Dev nD) (k : Fin k0_t4_loop.trips) (n : ℕ) {src : Memref sig .tc .vmem S256x4096 .fp8e4m3} {h1} {h2} {K' : PUnit → Prog (TpuEff nD τ sig (Elt F) Λ₀ .tc) α} :
    iprop(Ctx m ρ K ∗ Busy c (sQN k.val) (k.val / 2) ∗ Ow c n)
      ⊢ iprop(((Idle c (sQN k.val) (k.val / 2 + 1) ∗ Ow c n ∗ ptAny c cc0_scratch7 (slotSet (k.val % 2))) -∗ WP c (K' ⟨⟩) Q)
        -∗ WP c (.op (.waitDma2 (((cc0_scratch13.slice (Rect.unit (s := S2) (k0_off14 k) S1.size (k0_off14_inb k))).squeeze S_ squeezes_S1_S_).sem)
            src (slotMN (k0_off16 k) (k0_off16_inb k) squeezes_S1x256x4096_S256x4096) h1 h2) K') Q) :=
  w_own m ρ K c (sQN k.val) (k.val / 2) n (wpE_waitDma2_eq 𝒱₀ (c : Thread nD τ) none Set.univ) (semSN k) (am_sQN _).symm (nr_sQN c k.val (t4_lt k)) rfl (by have := t4_lt k; omega)
    (Or.inr (by unfold sQN; rw [lv_own _ _ _ (by omega)]; exact evLv_pos n)) (own_sQN _) (Entails.of_eq (pay_sQN m ρ c k.val (k.val / 2)))

/-- Waiting until the next chunk has landed. -/
theorem waitRN (c : Dev nD) (k : Fin k0_t4_loop.trips) {src : Memref sig .tc .vmem S256x4096 .fp8e4m3} {h1} {h2} {K' : PUnit → Prog (TpuEff nD τ sig (Elt F) Λ₀ .tc) α} :
    iprop(Ctx m ρ K ∗ Rcv c (rQN k.val) (k.val / 2) ∗ Ow c (77 + 4 * k.val))
      ⊢ iprop(((Rcv c (rQN k.val) (k.val / 2 + 1) ∗ Ow c (77 + 4 * k.val)
          ∗ pt c cc0_scratch7 (slotSet ((k.val + 1) % 2)) fullShare (SBN (qN m ρ (ixN c (k.val + 1)))) ∗ reached ER (cell (dv c 1) (rg 1)) (14 + k.val)) -∗ WP c (K' ⟨⟩) Q)
        -∗ WP c (.op (.waitDma2 (((cc0_scratch14.slice (Rect.unit (s := S2) (k0_off14 k) S1.size (k0_off14_inb k))).squeeze S_ squeezes_S1_S_).sem)
            src (slotMN (k0_off15 k) (k0_off15_inb k) squeezes_S1x256x4096_S256x4096) h1 h2) K') Q) :=
  w_rcv m ρ K c (rQN k.val) (k.val / 2) (77 + 4 * k.val) (wpE_waitDma2_eq 𝒱₀ (c : Thread nD τ) none Set.univ) (semRN k) (am_rQN _).symm (nr_rQN c k.val (t4_lt k)) rfl (by have := t4_lt k; omega)
    (Or.inr (by unfold rQN; rw [lv_recv _ _ (by omega)]; exact lv77 _ (t4_lt k))) (own_rQN _) (Entails.of_eq (pay_rQN m ρ c k.val))

/-- Waiting for the landing place on the next device. -/
theorem creditN (c : Dev nD) (t : ℕ) (h : 1 ≤ t) (ht : t < 15) {K' : PUnit → Prog (TpuEff nD τ sig (Elt F) Λ₀ .tc) α} :
    iprop(Ctx m ρ K ∗ Rcv c (rg 1) (14 + (t - 1)) ∗ Ow c (75 + 4 * t))
      ⊢ iprop(((Rcv c (rg 1) (14 + t) ∗ Ow c (75 + 4 * t)
          ∗ ptAny (dv c 15) cc0_scratch7 (slotSet ((t + 1) % 2)) ∗ reached ER (cell (dv c 15) (rQN t)) (t / 2)) -∗ WP c (K' ⟨⟩) Q)
        -∗ WP c (.op (.semWait (1 : Fin 4) 1) K') Q) := by
  have e : paySm m ρ c (rg 1) (14 + (t - 1)) false = payCN c (13 + t) := congrArg (payCN c) (show 14 + (t - 1) = 13 + t by omega)
  have h' := w_rcv (k := K') (Q := Q) m ρ K c (rg 1) (14 + (t - 1)) (75 + 4 * t) (wpE_semWait_eq 𝒱₀ (c : Thread nD τ) none Set.univ (sem := (1 : Fin 4))) rfl rfl (show 14 + (t - 1) < 28 by omega) rfl (by omega)
    (Or.inr (by rw [lv_crd1, if_neg (by omega)]; exact lt_of_le_of_lt (by omega) (lv75 t ht))) rfl (Entails.of_eq (e.trans (pay_crN c t h)))
  rw [show 14 + (t - 1) + 1 = 14 + t by omega] at h'
  exact h'

/-- Handing the slot just emptied to the device behind. -/
theorem crsigN (c : Dev nD) (k : Fin k0_t4_loop.trips) (h : k.val < 14) (h5 : k0_cond5 k = 1#1) {K' : PUnit → Prog (TpuEff nD τ sig (Elt F) Λ₀ .tc) α} :
    iprop(Ctx m ρ K ∗ Ow c (78 + 4 * k.val) ∗ ptAny c cc0_scratch7 (slotSet (k.val % 2)) ∗ Rcv c (rQN (k.val + 1)) ((k.val + 1) / 2) ∗ reached ER (cell (dv c 1) (rg 1)) (14 + k.val))
      ⊢ iprop(((Ow c (78 + 4 * k.val + 1) ∗ Rcv c (rQN (k.val + 1)) ((k.val + 1) / 2)) -∗ WP c (K' ⟨⟩) Q)
        -∗ WP c (.op (.semSignal ((⟨k0_dev11 c, k0_dev11_lt c k h5⟩ : Dev nD) : Thread nD τ) (1 : Fin 4) 1) K') Q) := by
  iintro ⟨#HC, HO, Hs, Hr, Hx⟩ Hk
  ihave #Hre := (Rcv_reached (F := F) c (rQN (k.val + 1)) ((k.val + 1) / 2)) $$ Hr
  iapply (w_signal m ρ K c (78 + 4 * k.val) 1 (rg 1) (14 + k.val) false (ev_agcN c k.val h) (dev11_dv c (k0_dev11_lt c k h5)) (sem := (1 : Fin 4)) rfl
    (k' := 1) rfl (P := iprop(ptAny c cc0_scratch7 (slotSet (k.val % 2)) ∗ reached ER (cell c (rQN (k.val + 1))) ((k.val + 1) / 2))) ?_) $$ [HO Hs Hx]
  · have e : paySm m ρ (dv c 1) (rg 1) (14 + k.val) false = payCN (dv c 1) (13 + (k.val + 1)) := congrArg (payCN (dv c 1)) (show 14 + k.val = 13 + (k.val + 1) by omega)
    rw [e, pay_crN _ _ (by omega), dv_dv, dv_zero (a := 1 + 15) c rfl, show (k.val + 1 + 1) % 2 = k.val % 2 by omega]
  · isplitr; · iexact HC
    isplitl [HO]; · iexact HO
    isplitl [Hs]
    · isplitl [Hs]; · iexact Hs
      iexact Hre
    iexact Hx
  iintro HO
  iapply Hk
  isplitl [HO]; · iexact HO
  iexact Hr

end Cert.Talk

end
-- ==== Proof.Gather2.lean ====
module

public import proofs.«01_k».proof.Proof.Gather

/-!
# The loop that sends the chunks around
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

/-- What the landing place on the next device is before the first hop. -/
def land (c : Dev nD) (t : ℕ) : sProp 𝕄 :=
  if t = 0 then iprop(ptAny (dv c 1) cc0_scratch6 (slotSet 1) ∗ ptAny (dv c 15) cc0_scratch7 (slotSet 1)) else iprop(emp)
/-- The slots nobody needs any more after the last hop. -/
def leftover (c : Dev nD) (t : ℕ) : sProp 𝕄 :=
  if t = 15 then iprop(ptAny c cc0_scratch6 (slotSet 0) ∗ ptAny c cc0_scratch7 (slotSet 0)) else iprop(emp)
/-- The copies to the result, left half, before hop `t`. -/
def st4P (c : Dev nD) (t : ℕ) : sProp 𝕄 := if t = 0 then stAP m ρ c 1 else stBP m ρ c t
/-- The copies to the result, right half, before hop `t`. -/
def st4N (c : Dev nD) (t : ℕ) : sProp 𝕄 := if t = 0 then stAN m ρ c 1 else stBN m ρ c t
/-- The chunk in hand, left half. -/
def inP (c : Dev nD) (t : ℕ) : sProp 𝕄 := pt c cc0_scratch6 (slotSet (t % 2)) fullShare (SBP (qP m ρ (ixP c t)))
/-- The chunk in hand, right half. -/
def inN (c : Dev nD) (t : ℕ) : sProp 𝕄 := pt c cc0_scratch7 (slotSet (t % 2)) fullShare (SBN (qN m ρ (ixN c t)))

set_option maxHeartbeats 2000000 in
/-- The opening of a hop: the credits are there, and both chunks travel on. -/
theorem part3_ok (c : Dev nD) (v5 v7 : BitVec 32) (k : Fin k0_t4_loop.trips) :
    iprop(Ctx m ρ K ∗ inP m ρ c k.val ∗ inN m ρ c k.val ∗ Rcv c (rg 0) (14 + (k.val - 1)) ∗ Rcv c (rg 1) (14 + (k.val - 1)) ∗ land c k.val
      ∗ Idle c (sQP k.val) (k.val / 2) ∗ Idle c (sQN k.val) (k.val / 2) ∗ Ow c (75 + 4 * k.val))
    ⊢ WP c (k0_part3 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v5 v7 0#32 1#32 k) fun _ =>
      iprop(Rcv c (rg 0) (14 + k.val) ∗ Rcv c (rg 1) (14 + k.val) ∗ Idle c (sQP k.val) (k.val / 2 + 1) ∗ ptAny c cc0_scratch6 (slotSet (k.val % 2))
        ∗ Busy c (sQN k.val) (k.val / 2) ∗ Ow c (77 + 4 * k.val)) := by
  have hk := t4_lt k
  rw [k0_part3_eq_skeleton]
  unfold k0_part3_skel inP inN land
  simp only [semWaitWord, Prog.lift, Prog.bind_op, Prog.bind_ret, Prog.pure_eq_ret]
  by_cases h1 : 1 ≤ k.val
  · rw [dif_pos ((h3_iff k).mpr h1)]
    iintro ⟨#HC, HP, HN, H0, H1, -, HsP, HsN, HO⟩
    iapply (creditP m ρ K c k.val h1 hk) $$ [H0 HO]
    · isplitr; · iexact HC
      isplitl [H0]; · iexact H0
      iexact HO
    iintro ⟨H0, HO, HlP, HrP⟩
    iapply (creditN m ρ K c k.val h1 hk) $$ [H1 HO]
    · isplitr; · iexact HC
      isplitl [H1]; · iexact H1
      iexact HO
    iintro ⟨H1, HO, HlN, HrN⟩
    ihave #Hx0 := (Rcv_reached0 (F := F) c (14 + k.val)) $$ H0
    ihave #Hx1 := (Rcv_reached1 (F := F) c (14 + k.val)) $$ H1
    iapply (sendP m ρ K c k) $$ [HP HlP HrP HO HsP]
    · isplitr; · iexact HC
      isplitl [HP]; · iexact HP
      isplitl [HlP]; · iexact HlP
      isplitr; · iexact Hx0
      isplitl [HO]; · iexact HO
      isplitl [HsP]; · iexact HsP
      iexact HrP
    iintro ⟨HsP, HO⟩
    iapply (sendN m ρ K c k) $$ [HN HlN HrN HO HsN]
    · isplitr; · iexact HC
      isplitl [HN]; · iexact HN
      isplitl [HlN]; · iexact HlN
      isplitr; · iexact Hx1
      isplitl [HO]; · rw [show 76 + 4 * k.val = 75 + 4 * k.val + 1 by omega]; iexact HO
      isplitl [HsN]; · iexact HsN
      iexact HrN
    iintro ⟨HsN, HO⟩
    iapply (waitSP m ρ K c k (76 + 4 * k.val + 1)) $$ [HsP HO]
    · isplitr; · iexact HC
      isplitl [HsP]; · iexact HsP
      iexact HO
    iintro ⟨HsP, HO, HP⟩
    iapply (WP_ret c)
    isplitl [H0]; · iexact H0
    isplitl [H1]; · iexact H1
    isplitl [HsP]; · iexact HsP
    isplitl [HP]; · iexact HP
    isplitl [HsN]; · iexact HsN
    rw [show 77 + 4 * k.val = 76 + 4 * k.val + 1 by omega]; iexact HO
  · rw [dif_neg fun h => h1 ((h3_iff k).mp h), if_pos (show k.val = 0 by omega), show 14 + (k.val - 1) = 14 + k.val by omega]
    iintro ⟨#HC, HP, HN, H0, H1, ⟨HlP, HlN⟩, HsP, HsN, HO⟩
    ihave HlP := (Entails.of_eq (show ptAny (F := F) (dv c 1) cc0_scratch6 (slotSet 1) = ptAny (dv c 1) cc0_scratch6 (slotSet ((k.val + 1) % 2)) by
      rw [show (k.val + 1) % 2 = 1 by omega])) $$ HlP
    ihave HlN := (Entails.of_eq (show ptAny (F := F) (dv c 15) cc0_scratch7 (slotSet 1) = ptAny (dv c 15) cc0_scratch7 (slotSet ((k.val + 1) % 2)) by
      rw [show (k.val + 1) % 2 = 1 by omega])) $$ HlN
    have eP := Ctx_reached m ρ K (dv c 1) (rQP k.val) (own_rQP _)
    have eN := Ctx_reached m ρ K (dv c 15) (rQN k.val) (own_rQN _)
    rw [show (0 : ℕ) = k.val / 2 by omega] at eP eN
    ihave #HrP := eP $$ HC
    ihave #HrN := eN $$ HC
    ihave #Hx0 := (Rcv_reached0 (F := F) c (14 + k.val)) $$ H0
    ihave #Hx1 := (Rcv_reached1 (F := F) c (14 + k.val)) $$ H1
    iapply (sendP m ρ K c k) $$ [HP HlP HO HsP]
    · isplitr; · iexact HC
      isplitl [HP]; · iexact HP
      isplitl [HlP]; · iexact HlP
      isplitr; · iexact Hx0
      isplitl [HO]; · iexact HO
      isplitl [HsP]; · iexact HsP
      iexact HrP
    iintro ⟨HsP, HO⟩
    iapply (sendN m ρ K c k) $$ [HN HlN HO HsN]
    · isplitr; · iexact HC
      isplitl [HN]; · iexact HN
      isplitl [HlN]; · iexact HlN
      isplitr; · iexact Hx1
      isplitl [HO]; · rw [show 76 + 4 * k.val = 75 + 4 * k.val + 1 by omega]; iexact HO
      isplitl [HsN]; · iexact HsN
      iexact HrN
    iintro ⟨HsN, HO⟩
    iapply (waitSP m ρ K c k (76 + 4 * k.val + 1)) $$ [HsP HO]
    · isplitr; · iexact HC
      isplitl [HsP]; · iexact HsP
      iexact HO
    iintro ⟨HsP, HO, HP⟩
    iapply (WP_ret c)
    isplitl [H0]; · iexact H0
    isplitl [H1]; · iexact H1
    isplitl [HsP]; · iexact HsP
    isplitl [HP]; · iexact HP
    isplitl [HsN]; · iexact HsN
    rw [show 77 + 4 * k.val = 76 + 4 * k.val + 1 by omega]; iexact HO

set_option maxHeartbeats 2000000 in
/-- The rest of a hop's waits, and the credits for the next. -/
theorem part4_ok (c : Dev nD) (v2 v5 v7 a b e : BitVec 32) (k : Fin k0_t4_loop.trips) :
    iprop(Ctx m ρ K ∗ Rcv c (rQP k.val) (k.val / 2) ∗ Busy c (sQN k.val) (k.val / 2) ∗ Rcv c (rQN k.val) (k.val / 2)
      ∗ Rcv c (rQP (k.val + 1)) ((k.val + 1) / 2) ∗ Rcv c (rQN (k.val + 1)) ((k.val + 1) / 2) ∗ ptAny c cc0_scratch6 (slotSet (k.val % 2))
      ∗ st4P m ρ c k.val ∗ st4N m ρ c k.val ∗ Ow c (77 + 4 * k.val))
    ⊢ WP c (k0_part4 (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 k a b e) fun _ =>
      iprop(inP m ρ c (k.val + 1) ∗ inN m ρ c (k.val + 1) ∗ Idle c (sQN k.val) (k.val / 2 + 1) ∗ Rcv c (rQP k.val) (k.val / 2 + 1) ∗ Rcv c (rQN k.val) (k.val / 2 + 1)
        ∗ Rcv c (rQP (k.val + 1)) ((k.val + 1) / 2) ∗ Rcv c (rQN (k.val + 1)) ((k.val + 1) / 2)
        ∗ stAP m ρ c (k.val + 1) ∗ stAN m ρ c (k.val + 1) ∗ leftover c (k.val + 1) ∗ Ow c (if k.val + 1 = 15 then 133 else 75 + 4 * (k.val + 1))) := by
  have hk := t4_lt k
  rw [k0_part4_eq_skeleton]
  unfold k0_part4_skel inP inN st4P st4N leftover
  simp only [semSignalWord, Prog.lift, Prog.bind_op, Prog.bind_ret, Prog.pure_eq_ret]
  rcases (by omega : k.val = 0 ∨ (1 ≤ k.val ∧ k.val < 14) ∨ k.val = 14) with h | h | h
  · rw [dif_neg fun h' => absurd ((h4_iff k).mp h') (by omega), dif_pos ((h5_iff k).mpr (by omega)), if_pos h, if_pos h]
    iintro ⟨#HC, HrP, HsN, HrN, HrP', HrN', HP, HstP, HstN, HO⟩
    iapply (waitRP m ρ K c k) $$ [HrP HO]
    · isplitr; · iexact HC
      isplitl [HrP]; · iexact HrP
      iexact HO
    iintro ⟨HrP, HO, HiP, #HcP⟩
    iapply (waitSN m ρ K c k (77 + 4 * k.val)) $$ [HsN HO]
    · isplitr; · iexact HC
      isplitl [HsN]; · iexact HsN
      iexact HO
    iintro ⟨HsN, HO, HN⟩
    iapply (waitRN m ρ K c k) $$ [HrN HO]
    · isplitr; · iexact HC
      isplitl [HrN]; · iexact HrN
      iexact HO
    iintro ⟨HrN, HO, HiN, #HcN⟩
    iapply (crsigP m ρ K c k (by omega) ((h5_iff k).mpr (by omega))) $$ [HO HP HrP']
    · isplitr; · iexact HC
      isplitl [HO]; · iexact HO
      isplitl [HP]; · iexact HP
      isplitl [HrP']; · iexact HrP'
      iexact HcP
    iintro ⟨HO, HrP'⟩
    iapply (crsigN m ρ K c k (by omega) ((h5_iff k).mpr (by omega))) $$ [HO HN HrN']
    · isplitr; · iexact HC
      isplitl [HO]; · rw [show 78 + 4 * k.val = 77 + 4 * k.val + 1 by omega]; iexact HO
      isplitl [HN]; · iexact HN
      isplitl [HrN']; · iexact HrN'
      iexact HcN
    iintro ⟨HO, HrN'⟩
    iapply (WP_ret c)
    isplitl [HiP]; · iexact HiP
    isplitl [HiN]; · iexact HiN
    isplitl [HsN]; · iexact HsN
    isplitl [HrP]; · iexact HrP
    isplitl [HrN]; · iexact HrN
    isplitl [HrP']; · iexact HrP'
    isplitl [HrN']; · iexact HrN'
    isplitl [HstP]; · rw [show k.val + 1 = 1 by omega]; iexact HstP
    isplitl [HstN]; · rw [show k.val + 1 = 1 by omega]; iexact HstN
    rw [if_neg (show k.val + 1 ≠ 15 by omega), if_neg (show k.val + 1 ≠ 15 by omega), show 75 + 4 * (k.val + 1) = 78 + 4 * k.val + 1 by omega]
    isplitr; · iempintro
    iexact HO
  · rw [dif_pos ((h4_iff k).mpr (by omega)), dif_pos ((h5_iff k).mpr (by omega)), if_neg (show k.val ≠ 0 by omega), if_neg (show k.val ≠ 0 by omega)]
    iintro ⟨#HC, HrP, HsN, HrN, HrP', HrN', HP, HstP, HstN, HO⟩
    iapply (waitRP m ρ K c k) $$ [HrP HO]
    · isplitr; · iexact HC
      isplitl [HrP]; · iexact HrP
      iexact HO
    iintro ⟨HrP, HO, HiP, #HcP⟩
    iapply (waitSN m ρ K c k (77 + 4 * k.val)) $$ [HsN HO]
    · isplitr; · iexact HC
      isplitl [HsN]; · iexact HsN
      iexact HO
    iintro ⟨HsN, HO, HN⟩
    iapply (waitRN m ρ K c k) $$ [HrN HO]
    · isplitr; · iexact HC
      isplitl [HrN]; · iexact HrN
      iexact HO
    iintro ⟨HrN, HO, HiN, #HcN⟩
    iapply (cwP m ρ K c k.val (77 + 4 * k.val) (by omega)) $$ [HstP HO]
    · isplitr; · iexact HC
      isplitl [HstP]; · iexact HstP
      iexact HO
    iintro ⟨HstP, HO⟩
    iapply (cwN m ρ K c k.val (77 + 4 * k.val) (by omega)) $$ [HstN HO]
    · isplitr; · iexact HC
      isplitl [HstN]; · iexact HstN
      iexact HO
    iintro ⟨HstN, HO⟩
    iapply (crsigP m ρ K c k (by omega) ((h5_iff k).mpr (by omega))) $$ [HO HP HrP']
    · isplitr; · iexact HC
      isplitl [HO]; · iexact HO
      isplitl [HP]; · iexact HP
      isplitl [HrP']; · iexact HrP'
      iexact HcP
    iintro ⟨HO, HrP'⟩
    iapply (crsigN m ρ K c k (by omega) ((h5_iff k).mpr (by omega))) $$ [HO HN HrN']
    · isplitr; · iexact HC
      isplitl [HO]; · rw [show 78 + 4 * k.val = 77 + 4 * k.val + 1 by omega]; iexact HO
      isplitl [HN]; · iexact HN
      isplitl [HrN']; · iexact HrN'
      iexact HcN
    iintro ⟨HO, HrN'⟩
    iapply (WP_ret c)
    isplitl [HiP]; · iexact HiP
    isplitl [HiN]; · iexact HiN
    isplitl [HsN]; · iexact HsN
    isplitl [HrP]; · iexact HrP
    isplitl [HrN]; · iexact HrN
    isplitl [HrP']; · iexact HrP'
    isplitl [HrN']; · iexact HrN'
    isplitl [HstP]; · iexact HstP
    isplitl [HstN]; · iexact HstN
    rw [if_neg (show k.val + 1 ≠ 15 by omega), if_neg (show k.val + 1 ≠ 15 by omega), show 75 + 4 * (k.val + 1) = 78 + 4 * k.val + 1 by omega]
    isplitr; · iempintro
    iexact HO
  · rw [dif_pos ((h4_iff k).mpr (by omega)), dif_neg fun h' => absurd ((h5_iff k).mp h') (by omega), if_neg (show k.val ≠ 0 by omega), if_neg (show k.val ≠ 0 by omega)]
    iintro ⟨#HC, HrP, HsN, HrN, HrP', HrN', HP, HstP, HstN, HO⟩
    iapply (waitRP m ρ K c k) $$ [HrP HO]
    · isplitr; · iexact HC
      isplitl [HrP]; · iexact HrP
      iexact HO
    iintro ⟨HrP, HO, HiP, #HcP⟩
    iapply (waitSN m ρ K c k (77 + 4 * k.val)) $$ [HsN HO]
    · isplitr; · iexact HC
      isplitl [HsN]; · iexact HsN
      iexact HO
    iintro ⟨HsN, HO, HN⟩
    iapply (waitRN m ρ K c k) $$ [HrN HO]
    · isplitr; · iexact HC
      isplitl [HrN]; · iexact HrN
      iexact HO
    iintro ⟨HrN, HO, HiN, #HcN⟩
    iapply (cwP m ρ K c k.val (77 + 4 * k.val) (by omega)) $$ [HstP HO]
    · isplitr; · iexact HC
      isplitl [HstP]; · iexact HstP
      iexact HO
    iintro ⟨HstP, HO⟩
    iapply (cwN m ρ K c k.val (77 + 4 * k.val) (by omega)) $$ [HstN HO]
    · isplitr; · iexact HC
      isplitl [HstN]; · iexact HstN
      iexact HO
    iintro ⟨HstN, HO⟩
    iapply (WP_ret c)
    isplitl [HiP]; · iexact HiP
    isplitl [HiN]; · iexact HiN
    isplitl [HsN]; · iexact HsN
    isplitl [HrP]; · iexact HrP
    isplitl [HrN]; · iexact HrN
    isplitl [HrP']; · iexact HrP'
    isplitl [HrN']; · iexact HrN'
    isplitl [HstP]; · iexact HstP
    isplitl [HstN]; · iexact HstN
    rw [if_pos (show k.val + 1 = 15 by omega), if_pos (show k.val + 1 = 15 by omega), show 133 = 77 + 4 * k.val by omega]
    isplitl [HP HN]
    · rw [show k.val % 2 = 0 by omega]
      isplitl [HP]; · iexact HP
      iexact HN
    iexact HO

/-- What device `c` holds before hop `t`. -/
def I4 (c : Dev nD) (t : ℕ) : sProp 𝕄 :=
  iprop(inP m ρ c t ∗ inN m ρ c t ∗ Rcv c (rg 0) (14 + (t - 1)) ∗ Rcv c (rg 1) (14 + (t - 1)) ∗ land c t
    ∗ Idle c (sQP t) (t / 2) ∗ Idle c (sQP (t + 1)) ((t + 1) / 2) ∗ Idle c (sQN t) (t / 2) ∗ Idle c (sQN (t + 1)) ((t + 1) / 2)
    ∗ Rcv c (rQP t) (t / 2) ∗ Rcv c (rQP (t + 1)) ((t + 1) / 2) ∗ Rcv c (rQN t) (t / 2) ∗ Rcv c (rQN (t + 1)) ((t + 1) / 2)
    ∗ st4P m ρ c t ∗ st4N m ρ c t ∗ leftover c t ∗ Ow c (if t = 15 then 133 else 75 + 4 * t))

/-- Every other hop sends on the same semaphore. -/
theorem sQP_two (t : ℕ) : sQP (t + 1 + 1) = sQP t := dm_congr (by omega) _ _
/-- Every other hop sends on the same semaphore. -/
theorem sQN_two (t : ℕ) : sQN (t + 1 + 1) = sQN t := dm_congr (by omega) _ _
/-- Every other hop receives on the same semaphore. -/
theorem rQP_two (t : ℕ) : rQP (t + 1 + 1) = rQP t := dm_congr (by omega) _ _
/-- Every other hop receives on the same semaphore. -/
theorem rQN_two (t : ℕ) : rQN (t + 1 + 1) = rQN t := dm_congr (by omega) _ _
/-- The chunk of the result that hop `t` writes is the landed slot, scaled: left half. -/
theorem blkP_hop (c : Dev nD) (t : ℕ) (h : t < 15) : blkP m ρ c (chP c (t + 1)) = k0_pay1 (k0_pay13 (amx m ρ)) (qP m ρ (ixP c (t + 1))) := by
  unfold blkP chP
  have hne : dv c (1 + 15 * (t + 1)) ≠ dv c 1 := by
    intro h'
    have := congrArg Fin.val h'
    rw [dv_val, dv_val] at this
    have := c.isLt
    omega
  rw [if_neg hne, dv_dv]
  unfold ixP
  rw [dv_congr c (show (1 + 15 * (t + 1) + 15) % 16 = (15 * (t + 1)) % 16 by omega)]
  rfl
/-- The chunk of the result that hop `t` writes is the landed slot, scaled: right half. -/
theorem blkN_hop (c : Dev nD) (t : ℕ) (h : t < 15) : blkN m ρ c (chN c (t + 1)) = k0_pay2 (k0_pay13 (amx m ρ)) (qN m ρ (ixN c (t + 1))) := by
  unfold blkN chN
  have hne : dv c (15 + (t + 1)) ≠ dv c 15 := by
    intro h'
    have := congrArg Fin.val h'
    rw [dv_val, dv_val] at this
    have := c.isLt
    omega
  rw [if_neg hne, dv_dv]
  unfold ixN
  rw [dv_congr c (show (15 + (t + 1) + 1) % 16 = (t + 1) % 16 by omega)]
  rfl
/-- Where in the result hop `k` writes the left half. -/
theorem off20_ch (c : Dev nD) (k : Fin k0_t4_loop.trips) : k0_off20 c k = ![256 * (chP c (k.val + 1)).val, 0] :=
  (k0_off20_eq c k).trans (congrArg (fun n : ℕ => (![256 * n, 0] : Fin 2 → ℕ)) (by
    have := t4_lt k; have := c.isLt
    show _ = (c.val + (1 + 15 * (k.val + 1))) % 16
    omega))
/-- Where in the result hop `k` writes the right half. -/
theorem off21_ch (c : Dev nD) (k : Fin k0_t4_loop.trips) : k0_off21 c k = ![256 * (chN c (k.val + 1)).val, 4096] :=
  (k0_off21_eq c k).trans (congrArg (fun n : ℕ => (![256 * n, 4096] : Fin 2 → ℕ)) (by
    have := t4_lt k; have := c.isLt
    show _ = (c.val + (15 + (k.val + 1))) % 16
    omega))

set_option maxHeartbeats 2000000 in
/-- One hop. -/
theorem t4_step (c : Dev nD) (v2 v5 v7 : BitVec 32) (k : Fin k0_t4_loop.trips) (a : Unit) :
    iprop(Ctx m ρ K ∗ I4 m ρ c k.val) ⊢ WP c (k0_t4_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 (k0_pay13 (amx m ρ)) 0#32 1#32 k a) fun _ => iprop(Ctx m ρ K ∗ I4 m ρ c (k.val + 1)) := by
  have hk := t4_lt k
  unfold k0_t4_body I4
  rw [if_neg (show k.val ≠ 15 by omega), sQP_two, sQN_two, rQP_two, rQN_two, show (k.val + 1 + 1) / 2 = k.val / 2 + 1 by omega]
  simp only [Prog.lift]
  iintro ⟨#HC, HP, HN, H0, H1, Hl, HsP, HsP', HsN, HsN', HrP, HrP', HrN, HrN', HstP, HstN, -, HO⟩
  iapply (WP_call c (part3_ok m ρ K c v5 v7 k)) $$ [HP HN H0 H1 Hl HsP HsN HO]
  · iframe HP HN H0 H1 Hl HsP HsN HO
    iexact HC
  iintro %r ⟨H0, H1, HsP, HP, HsN, HO⟩
  obtain ⟨r1, r2, r3⟩ := r
  iapply (WP_call c (part4_ok m ρ K c v2 v5 v7 r1 r2 r3 k)) $$ [HrP HsN HrN HrP' HrN' HP HstP HstN HO]
  · iframe HrP HsN HrN HrP' HrN' HP HstP HstN HO
    iexact HC
  iintro %r' ⟨HP, HN, HsN, HrP, HrN, HrP', HrN', HstP, HstN, Hlo, HO⟩
  simp only [Prog.bind_op, Prog.bind_ret, Prog.pure_eq_ret]
  ihave HstP := (Entails.of_eq (show stAP m ρ c (k.val + 1) = iprop(Idle c (dm 14) (k.val + 1) ∗ ptAny c cc0_scratch2 Finset.univ ∗ doneP m ρ c (k.val + 1) ∗ todoP c (k.val + 1)) from rfl)) $$ HstP
  icases HstP with ⟨Hi, Hg, Hdn, Htd⟩
  ihave HstN := (Entails.of_eq (show stAN m ρ c (k.val + 1) = iprop(Idle c (dm 15) (k.val + 1) ∗ ptAny c cc0_scratch3 Finset.univ ∗ doneN m ρ c (k.val + 1) ∗ todoN c (k.val + 1)) from rfl)) $$ HstN
  icases HstN with ⟨Hi', Hg', Hdn', Htd'⟩
  unfold inP inN
  iapply (ldslP c ((k.val + 1) % 2) fullShare (qP m ρ (ixP c (k.val + 1))) (k0_off19_eq k)) $$ HP; iintro HP
  iapply (ldA2 c) $$ Hg; iintro %g0 Hg
  iapply (st2 c (w := k0_pay1 (k0_pay13 (amx m ρ)) (qP m ρ (ixP c (k.val + 1))))) $$ Hg; iintro Hg
  iapply (cpP m ρ K c (k.val + 1) (by omega) _ (blkP_hop m ρ c k.val hk) (off := k0_off20 c k) (inb := k0_off20_inb c k) (off20_ch c k)) $$ [Hg Hi Hdn Htd]
  · isplitr; · iexact HC
    isplitl [Hg]; · iexact Hg
    isplitl [Hi]; · iexact Hi
    isplitl [Hdn]; · iexact Hdn
    iexact Htd
  iintro HstP
  iapply (ldslN c ((k.val + 1) % 2) fullShare (qN m ρ (ixN c (k.val + 1))) (k0_off19_eq k)) $$ HN; iintro HN
  iapply (ldA3 c) $$ Hg'; iintro %g1 Hg'
  iapply (st3 c (w := k0_pay2 (k0_pay13 (amx m ρ)) (qN m ρ (ixN c (k.val + 1))))) $$ Hg'; iintro Hg'
  iapply (cpN m ρ K c (k.val + 1) (by omega) _ (blkN_hop m ρ c k.val hk) (off := k0_off21 c k) (inb := k0_off21_inb c k) (off21_ch c k)) $$ [Hg' Hi' Hdn' Htd']
  · isplitr; · iexact HC
    isplitl [Hg']; · iexact Hg'
    isplitl [Hi']; · iexact Hi'
    isplitl [Hdn']; · iexact Hdn'
    iexact Htd'
  iintro HstN
  iapply (WP_ret c)
  isplitr; · iexact HC
  isplitl [HP]; · iexact HP
  isplitl [HN]; · iexact HN
  isplitl [H0]; · rw [show k.val + 1 - 1 = k.val by omega]; iexact H0
  isplitl [H1]; · rw [show k.val + 1 - 1 = k.val by omega]; iexact H1
  isplitr; · unfold land; rw [if_neg (Nat.succ_ne_zero _)]; iempintro
  isplitl [HsP']; · iexact HsP'
  isplitl [HsP]; · iexact HsP
  isplitl [HsN']; · iexact HsN'
  isplitl [HsN]; · iexact HsN
  isplitl [HrP']; · iexact HrP'
  isplitl [HrP]; · iexact HrP
  isplitl [HrN']; · iexact HrN'
  isplitl [HrN]; · iexact HrN
  isplitl [HstP]; · unfold st4P; rw [if_neg (Nat.succ_ne_zero _)]; iexact HstP
  isplitl [HstN]; · unfold st4N; rw [if_neg (Nat.succ_ne_zero _)]; iexact HstN
  isplitl [Hlo]; · iexact Hlo
  iexact HO

/-- All fifteen hops. -/
theorem t4_loop (c : Dev nD) (v2 v5 v7 : BitVec 32) :
    iprop(Ctx m ρ K ∗ I4 m ρ c 0)
    ⊢ WP c (Scf.Loop.for k0_t4_loop k0_t4_ok ⟨⟩ (k0_t4_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 (k0_pay13 (amx m ρ)) 0#32 1#32)) fun _ => iprop(Ctx m ρ K ∗ I4 m ρ c 15) := by
  have h := Scf.wp_for frame (wpE (defs₀ (F := F)) 𝒱₀ (c : Thread nD τ) none) Set.univ k0_t4_loop.lb k0_t4_loop.ub k0_t4_loop.st k0_t4_ok ⟨⟩
    (k0_t4_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0 c v2 v5 v7 (k0_pay13 (amx m ρ)) 0#32 1#32) (fun k _ => iprop(Ctx m ρ K ∗ I4 m ρ c k)) (fun k a => t4_step m ρ K c v2 v5 v7 k a)
    (Q := fun _ => iprop(Ctx m ρ K ∗ I4 m ρ c 15))
  refine BIBase.Entails.trans ?_ h
  iintro H
  isplitl [H]; · iexact H
  iintro %a H
  have e' : Scf.trips k0_t4_loop.lb k0_t4_loop.ub k0_t4_loop.st = 15 := by decide +kernel
  rw [e']
  iexact H

end Cert.Talk

end
-- ==== Proof.Whole.lean ====
module

public import proofs.«01_k».proof.Proof.Gather2
public import Idealize.ShloMosaic.Lib.Ring

/-!
# What the kernel holds as it starts and as it ends

The semaphores one by one, the buffers cut and joined.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

/-! ## Semaphores -/

/-- The kernel's semaphores by number. -/
def cs (n : ℕ) : SemLoc sig := if h : n < 49 then csem ⟨n, h⟩ else rg 2

/-- A collection over an interval, counted from nought. -/
theorem bigSep_at (A : ℕ → sProp 𝕄) (a n : ℕ) : bigSep (Finset.Ico a (a + n)) A = bigSep (Finset.range n) fun j => A (a + j) := by
  have h : Finset.Ico a (a + n) = (Finset.range n).map ⟨fun i => a + i, fun _ _ h => Nat.add_left_cancel h⟩ := by
    ext x; simp only [Finset.mem_Ico, Finset.mem_map, Finset.mem_range, Function.Embedding.coeFn_mk]
    exact ⟨fun ⟨h1, h2⟩ => ⟨x - a, by omega, Nat.add_sub_cancel' h1⟩, fun ⟨b, h1, h2⟩ => by have h2 : a + b = x := h2; omega⟩
  rw [h, bigSep_map]; rfl
/-- A collection over an interval, cut in two. -/
theorem bigSep_cut (A : ℕ → sProp 𝕄) {a b c : ℕ} (hab : a ≤ b) (hbc : b ≤ c) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]
  rfl

/-- All devices, counted to the right from `c`. -/
theorem by_right (c : Dev nD) (A : Dev nD → sProp 𝕄) : bigSep Finset.univ A = bigSep (Finset.range 16) fun j => A (dv c j) := by
  rw [bigSep_univ_equiv (dvEquiv c.val) A]
  exact Ring.bigSep_fin_eq_range 16 _ _ fun t h => congrArg A (Fin.ext (by show (c.val + t) % 16 = (t + c.val) % 16; rw [Nat.add_comm]))
/-- Reflecting at `c`. -/
def mirror (c : Dev nD) : Dev nD ≃ Dev nD :=
  have h : ∀ r : Dev nD, dv c (15 * (dv c (15 * r.val)).val) = r := fun r => Fin.ext (by
    have := r.isLt; have := c.isLt
    show (c.val + 15 * ((c.val + 15 * r.val) % 16)) % 16 = r.val
    simp only [nD] at *
    omega)
  ⟨fun r => dv c (15 * r.val), fun r => dv c (15 * r.val), h, h⟩
/-- All devices, counted to the left from `c`. -/
theorem by_left (c : Dev nD) (A : Dev nD → sProp 𝕄) : bigSep Finset.univ A = bigSep (Finset.range 16) fun j => A (dv c (15 * j)) := by
  rw [bigSep_univ_equiv (mirror c) A]
  exact Ring.bigSep_fin_eq_range 16 _ _ fun t h => rfl

/-- Where the semaphores for sent maxima are among the 49. -/
theorem cs_sS : ∀ j : Fin 15, cs (14 + j.val) = sS j.val := by decide +kernel
/-- Where the semaphores for received maxima are among the 49. -/
theorem cs_sR : ∀ j : Fin 16, cs (29 + j.val) = sR j := by decide +kernel
/-- All 49 semaphores are the kernel's own. -/
theorem own_csem' : ∀ i : Fin 49, own (csem i) = true := by decide +kernel

/-- The semaphores one by one. -/
theorem all49 (Φ : SemLoc sig → sProp 𝕄) (c : Dev nD) : (bigSep Finset.univ fun i : Fin 49 => Φ (csem i))
    = iprop((Φ (dm 2) ∗ Φ (dm 3) ∗ Φ (dm 4) ∗ Φ (dm 5) ∗ Φ (dm 6) ∗ Φ (dm 7) ∗ Φ (dm 8) ∗ Φ (dm 9) ∗ Φ (dm 10) ∗ Φ (dm 11) ∗ Φ (dm 12) ∗ Φ (dm 13) ∗ Φ (dm 14) ∗ Φ (dm 15))
      ∗ (bigSep (Finset.range 15) fun j => Φ (sS j)) ∗ (Φ (sR c) ∗ bigSep (Finset.range 15) fun j => Φ (sR (dv c (j + 1)))) ∗ (Φ (rg 0) ∗ Φ (rg 1) ∗ Φ (rg 3) ∗ Φ (rg 2))) := by
  have h1 : bigSep (Finset.Ico 0 14) (fun n => Φ (cs n)) = iprop(Φ (dm 2) ∗ Φ (dm 3) ∗ Φ (dm 4) ∗ Φ (dm 5) ∗ Φ (dm 6) ∗ Φ (dm 7) ∗ Φ (dm 8) ∗ Φ (dm 9) ∗ Φ (dm 10) ∗ Φ (dm 11) ∗ Φ (dm 12) ∗ Φ (dm 13) ∗ Φ (dm 14) ∗ Φ (dm 15)) :=
    bigSep_eq_bigSepL_of_eq [0, 1, 2, 3, 4, 5, 6, 7, 8, 9, 10, 11, 12, 13] (by decide) (by decide) fun n => Φ (cs n)
  have h4 : bigSep (Finset.Ico 45 49) (fun n => Φ (cs n)) = iprop(Φ (rg 0) ∗ Φ (rg 1) ∗ Φ (rg 3) ∗ Φ (rg 2)) :=
    bigSep_eq_bigSepL_of_eq [45, 46, 47, 48] (by decide) (by decide) fun n => Φ (cs n)
  have h2 : bigSep (Finset.Ico 14 29) (fun n => Φ (cs n)) = bigSep (Finset.range 15) fun j => Φ (sS j) := by
    rw [show (29 : ℕ) = 14 + 15 from rfl, bigSep_at]
    exact bigSep_congr fun j hj => congrArg Φ (cs_sS ⟨j, Finset.mem_range.mp hj⟩)
  have h3 : bigSep (Finset.Ico 29 45) (fun n => Φ (cs n)) = iprop(Φ (sR c) ∗ bigSep (Finset.range 15) fun j => Φ (sR (dv c (j + 1)))) := by
    rw [show (45 : ℕ) = 29 + 16 from rfl, bigSep_at]
    have h : bigSep (Finset.univ : Finset (Dev nD)) (fun d => Φ (sR d)) = bigSep (Finset.range 16) fun j => Φ (cs (29 + j)) :=
      Ring.bigSep_fin_eq_range 16 _ _ fun t h => congrArg Φ (cs_sR ⟨t, h⟩)
    rw [← h, by_right c, Finset.range_eq_Ico, bigSep_Ico_succ_bot (show 0 < 16 by decide), ← bigSep_shift (fun j => Φ (sR (dv c j))) 15, dv_zero c (a := 0) rfl]
  rw [Ring.bigSep_fin_eq_range 49 _ (fun n => Φ (cs n)) (fun t h => by unfold cs; rw [dif_pos h]), Finset.range_eq_Ico,
    bigSep_cut _ (show 0 ≤ 14 by decide) (show 14 ≤ 49 by decide), bigSep_cut _ (show 14 ≤ 29 by decide) (show 29 ≤ 49 by decide),
    bigSep_cut _ (show 29 ≤ 45 by decide) (show 45 ≤ 49 by decide), h1, h2, h3, h4]

/-- Whether a semaphore is raised by its owner's own transfers. -/
def sendS : SemLoc sig → Bool
  | .reg _ => false
  | .dma s => decide (s.val = 2 ∨ s.val = 4 ∨ s.val = 6 ∨ s.val = 7 ∨ s.val = 10 ∨ s.val = 11 ∨ s.val = 14 ∨ s.val = 15 ∨ (16 ≤ s.val ∧ s.val < 31))
/-- What device `c` holds of semaphore `sm` as the kernel starts. -/
def St0 (c : Dev nD) (sm : SemLoc sig) : sProp 𝕄 := if sendS sm then Idle c sm 0 else if twoPay sm then Two c sm else Rcv c sm 0
/-- What device `c` holds of semaphore `sm` once all its rounds are over. -/
def FinPos (c : Dev nD) (sm : SemLoc sig) : sProp 𝕄 := iprop(∃ r, ⌜nr c.val sm ≤ r⌝ ∗ atPos ER (cell c sm) r ∅ 0)

/-- A semaphore past its last round is finished. -/
theorem fin_pos (c : Dev nD) (sm : SemLoc sig) (r : ℕ) (h : nr c.val sm ≤ r) : (atPos ER (cell c sm) r ∅ 0 : sProp 𝕄) ⊢ FinPos c sm := by
  unfold FinPos; iintro H; iexists r
  isplitr; · ipureintro; exact h
  iexact H
/-- A send semaphore past its last round is finished. -/
theorem fin_idle (c : Dev nD) (sm : SemLoc sig) (r : ℕ) (h : nr c.val sm ≤ r) : (Idle c sm r : sProp 𝕄) ⊢ FinPos c sm := by
  refine BIBase.Entails.trans ?_ (fin_pos c sm r h)
  unfold Idle; iintro ⟨H, -⟩; iexact H
/-- A receive semaphore past its last round is finished. -/
theorem fin_rcv (c : Dev nD) (sm : SemLoc sig) (r : ℕ) (h : nr c.val sm ≤ r) : (Rcv c sm r : sProp 𝕄) ⊢ FinPos c sm := by
  refine BIBase.Entails.trans ?_ (fin_pos c sm r h)
  unfold Rcv; iintro ⟨H, -⟩; iexact H
/-- All semaphores are back at zero. -/
theorem close_all (c : Dev nD) :
    iprop(Ctx m ρ K ∗ bigSep Finset.univ fun i : Fin 49 => FinPos c (csem i)) ⊢ iprop(|={Set.univ}=> bigSep Finset.univ fun i : Fin 49 => semVal (cell c (csem i)) 0) := by
  refine BIBase.Entails.trans ?_ (bigSep_fupd Finset.univ fun i : Fin 49 => (semVal (cell c (csem i)) 0 : sProp 𝕄))
  refine (BIClass.sep_mono (BI.bigSep_of_persistent (Finset.univ : Finset (Fin 49)) (Ctx m ρ K)) .rfl).trans ?_
  rw [← bigSep_sep']
  refine bigSep_mono fun i _ => ?_
  show iprop(Ctx m ρ K ∗ FinPos c (csem i)) ⊢ iprop(|={Set.univ}=> semVal (cell c (csem i)) 0)
  unfold FinPos
  iintro ⟨HC, %r, %h, H⟩
  iapply (close_pos m ρ K c (csem i) r h (own_csem' i))
  isplitl [HC]; · iexact HC
  iexact H

/-! ## Buffers -/

/-- A buffer cut into two parts. -/
theorem slots_cut (c : Dev nD) (b : Ref sig .tc) (S T : Finset b.ty.shape.Idx) (h : Disjoint S T) (hu : S ∪ T = Finset.univ) :
    (ptAny c b Finset.univ : sProp 𝕄) ⊢ iprop(ptAny c b S ∗ ptAny c b T) := by
  unfold ptAny
  iintro ⟨%f, H⟩
  have e : (pt c b Finset.univ fullShare f : sProp 𝕄) ⊢ iprop(pt c b S fullShare f ∗ pt c b T fullShare f) := by
    rw [← hu]
    exact (pointsTo_union (nD := nD) (τ := τ) (sig := sig) (Ix := ℕ) (Val := Elt F) (Name := ℕ) (U := UU) (Lvl := ℕ) (ℓ := (c : Thread nD τ).loc b) (q := fullShare) (f := f) h).1
  ihave H := e $$ H
  icases H with ⟨H1, H2⟩
  isplitl [H1]
  · iexists f; iexact H1
  · iexists f; iexact H2
/-- Two parts put together to the buffer. -/
theorem slots_join (c : Dev nD) (b : Ref sig .tc) (S T : Finset b.ty.shape.Idx) (h : Disjoint S T) (hu : S ∪ T = Finset.univ) :
    iprop(ptAny c b S ∗ ptAny c b T) ⊢ (ptAny c b Finset.univ : sProp 𝕄) := by
  unfold ptAny
  iintro ⟨⟨%f, H1⟩, ⟨%g, H2⟩⟩
  have e : iprop(pt c b S fullShare f ∗ pt c b T fullShare g) ⊢ (pt c b (S ∪ T) fullShare (T.piecewise g f) : sProp 𝕄) :=
    pointsTo_join (nD := nD) (τ := τ) (sig := sig) (Ix := ℕ) (Val := Elt F) (Name := ℕ) (U := UU) (Lvl := ℕ) (ℓ := (c : Thread nD τ).loc b) (q := fullShare) (f := f) (g := g) h
  rw [hu] at e
  iexists T.piecewise g f
  iapply e
  isplitl [H1]; · iexact H1
  iexact H2
/-- The two slots don't overlap. -/
theorem slot_disj : Disjoint (slotSet 0) (slotSet 1) := by
  rw [Finset.disjoint_left]
  intro i h0 h1
  have a := (Finset.mem_filter.mp h0).2
  have b := (Finset.mem_filter.mp h1).2
  omega
/-- The two slots are the whole buffer. -/
theorem slot_cover : slotSet 0 ∪ slotSet 1 = Finset.univ := by
  ext i
  simp only [Finset.mem_union, Finset.mem_univ, iff_true, slotSet, Finset.mem_filter, true_and]
  have : (i 0).val < 2 := (i 0).isLt
  omega

/-- The rows of maxima: the device's own, and the others counted to the left. -/
theorem rows_cut (c : Dev nD) : (ptAny c cc0_scratch8 Finset.univ : sProp 𝕄) ⊢ iprop(rowAny c c ∗ bigSep (Finset.range 15) fun i => rowAny c (dv (dv c 15) (15 * i))) := by
  unfold ptAny
  iintro ⟨%f, H⟩
  have e : (pt c cc0_scratch8 Finset.univ fullShare f : sProp 𝕄) ⊢ iprop(rowAny c c ∗ bigSep (Finset.range 15) fun i => rowAny c (dv (dv c 15) (15 * i))) := by
    rw [← rows_all c f, ← by_right c (fun d => pt c cc0_scratch8 (rowSet d) fullShare f), by_left c, Finset.range_eq_Ico, bigSep_Ico_succ_bot (show 0 < 16 by decide),
      ← bigSep_shift (fun j => pt c cc0_scratch8 (rowSet (dv c (15 * j))) fullShare f) 15, dv_zero c (a := 15 * 0) rfl]
    refine BIClass.sep_mono (pt_any c cc0_scratch8 _ f) (bigSep_mono fun i _ => ?_)
    rw [dv_dv, show 15 + 15 * i = 15 * (i + 1) by omega]
    exact pt_any c cc0_scratch8 _ f
  iapply e; iexact H

/-- The left and right halves of a chunk don't overlap. -/
theorem PN_disj (d : Dev nD) : Disjoint (setP d) (setN d) := by
  rw [Finset.disjoint_left]
  intro i h0 h1
  exact (Finset.mem_filter.mp h1).2.2 (Finset.mem_filter.mp h0).2.2
/-- An element of a chunk's halves belongs to that chunk. -/
theorem PN_chunk (d : Dev nD) (i) (h : i ∈ setP d ∪ setN d) : chunkOf i = d := by
  rcases Finset.mem_union.mp h with h | h
  · exact (Finset.mem_filter.mp h).2.1
  · exact (Finset.mem_filter.mp h).2.1
/-- The result, cut into its chunks. -/
theorem main_cut (c : Dev nD) (f : main_v1.ty.Contents (Elt F)) : (pt c main_v1 Finset.univ fullShare f : sProp 𝕄)
    = iprop((bigSep (Finset.range 16) fun r => pt c main_v1 (setP (chP c r)) fullShare f) ∗ bigSep (Finset.range 16) fun r => pt c main_v1 (setN (chN c r)) fullShare f) := by
  have h := (pointsTo_biUnion (nD := nD) (τ := τ) (sig := sig) (Ix := ℕ) (Val := Elt F) (Name := ℕ) (U := UU) (Lvl := ℕ) (ℓ := (c : Thread nD τ).loc main_v1) (q := fullShare) (f := f)
    (Finset.univ : Finset (Dev nD)) (fun d => setP d ∪ setN d) (fun a _ b _ hab => Finset.disjoint_left.mpr fun i h1 h2 => hab ((PN_chunk a i h1).symm.trans (PN_chunk b i h2))))
  have hu : (Finset.univ : Finset (Dev nD)).biUnion (fun d => setP d ∪ setN d) = (Finset.univ : Finset S4096x8192.Idx) := by
    ext i
    refine ⟨fun _ => Finset.mem_univ _, fun _ => Finset.mem_biUnion.mpr ⟨chunkOf i, Finset.mem_univ _, ?_⟩⟩
    by_cases hi : (i 1).val < 4096
    · exact Finset.mem_union_left _ (Finset.mem_filter.mpr ⟨Finset.mem_univ _, rfl, hi⟩)
    · exact Finset.mem_union_right _ (Finset.mem_filter.mpr ⟨Finset.mem_univ _, rfl, hi⟩)
  rw [hu] at h
  have h2 : ∀ d : Dev nD, (pt c main_v1 (setP d ∪ setN d) fullShare f : sProp 𝕄) = iprop(pt c main_v1 (setP d) fullShare f ∗ pt c main_v1 (setN d) fullShare f) := fun d =>
    have h := pointsTo_union (nD := nD) (τ := τ) (sig := sig) (Ix := ℕ) (Val := Elt F) (Name := ℕ) (U := UU) (Lvl := ℕ) (ℓ := (c : Thread nD τ).loc main_v1) (q := fullShare) (f := f) (PN_disj d)
    h.1.antisymm h.2
  have h3 : (pt c main_v1 Finset.univ fullShare f : sProp 𝕄) = bigSep Finset.univ fun d : Dev nD => pt c main_v1 (setP d ∪ setN d) fullShare f := h
  rw [h3, bigSep_congr fun d _ => h2 d, bigSep_sep', by_left (dv c 1) (fun d => pt c main_v1 (setP d) fullShare f), by_right (dv c 15) (fun d => pt c main_v1 (setN d) fullShare f)]
  unfold chP chN
  simp only [dv_dv]
/-- The whole result, unwritten, is all its chunks still to be written. -/
theorem main_todo (c : Dev nD) : (ptAny c main_v1 Finset.univ : sProp 𝕄) ⊢ iprop(todoP c 0 ∗ todoN c 0) := by
  unfold ptAny todoP todoN
  iintro ⟨%f, H⟩
  have e := Entails.of_eq (main_cut c f)
  rw [Finset.range_eq_Ico] at e
  ihave H := e.trans (BIClass.sep_mono (bigSep_mono fun r _ => pt_any c main_v1 _ f) (bigSep_mono fun r _ => pt_any c main_v1 _ f)) $$ H
  iexact H
/-- All chunks written are the whole result. -/
theorem main_done (c : Dev nD) : iprop(doneP m ρ c 16 ∗ doneN m ρ c 16) ⊢ (pt c main_v1 Finset.univ fullShare (outF m ρ c) : sProp 𝕄) := by
  unfold doneP doneN
  exact Entails.of_eq (main_cut c (outF m ρ c)).symm

/-- The buffers as the kernel starts. -/
def BufIn (c : Dev nD) : sProp 𝕄 :=
  iprop(ptAny c cc0_scratch0 Finset.univ ∗ ptAny c cc0_scratch1 Finset.univ ∗ ptAny c cc0_scratch2 Finset.univ ∗ ptAny c cc0_scratch3 Finset.univ
    ∗ ptAny c cc0_scratch4 Finset.univ ∗ ptAny c cc0_scratch5 Finset.univ ∗ ptAny c cc0_scratch6 Finset.univ ∗ ptAny c cc0_scratch7 Finset.univ ∗ ptAny c cc0_scratch8 Finset.univ)
/-- What device `c` starts with. -/
def Start (c : Dev nD) : sProp 𝕄 :=
  iprop(Xs m ρ c ∗ BufIn c ∗ ptAny c main_v1 Finset.univ ∗ (bigSep Finset.univ fun i : Fin 49 => St0 c (csem i)) ∗ Ow c 0)
/-- What device `c` ends with. -/
def Finish (c : Dev nD) : sProp 𝕄 :=
  iprop(Xs m ρ c ∗ BufIn c ∗ pt c main_v1 Finset.univ fullShare (outF m ρ c) ∗ (bigSep Finset.univ fun i : Fin 49 => semVal (cell c (csem i)) 0) ∗ Ow c 135)

end Cert.Talk

end
-- ==== Proof.Body.lean ====
module

public import proofs.«01_k».proof.Proof.Whole

/-!
# The kernel on one device

From what device `c` starts with to what it ends with.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

/-- A semaphore for sent maxima has at most one round. -/
theorem nrS_le (c : Dev nD) (j : ℕ) (hj : j < 15) : nr c.val (sS j) ≤ 1 := by
  show nrD c.val (16 + j % 15) ≤ 1
  unfold nrD; split_ifs <;> omega
/-- A semaphore for received maxima has at most one round. -/
theorem nrR_le (c d : Dev nD) : nr c.val (sR d) ≤ 1 := by
  show nrD c.val (31 + d.val) ≤ 1
  have := d.isLt
  unfold nrD; split_ifs <;> omega
/-- The semaphore for a device's own maximum has no round: nobody sends it. -/
theorem nrRc_le (c : Dev nD) : nr c.val (sR c) ≤ 0 := by
  show nrD c.val (31 + c.val) ≤ 0
  unfold nrD; split_ifs <;> omega

/-- How many rounds each of the first sixteen copy semaphores has, at most. -/
theorem nr_at (c : Dev nD) (s r : ℕ) (hs : s < 16 := by decide) (h : (if s < 2 then 0 else if s < 6 then 15 else if s < 14 then (if s % 2 = 0 then 7 else 8) else 16) ≤ r := by decide) :
    nr c.val (dm s (by omega)) ≤ r := by
  show nrD c.val s ≤ r
  unfold nrD
  rw [if_pos hs]; exact h

/-- A return, after an update. -/
theorem WP_retF (c : Dev nD) {α : Type} (a : α) {Q : α → sProp 𝕄} : iprop(|={Set.univ}=> Q a) ⊢ WP c (Prog.ret a) Q := Entails.of_eq (wp_ret _ _ _ _ _).symm

/-- The slot in hand after the last hop, its contents forgotten: left half. -/
theorem inP_any (c : Dev nD) : inP m ρ c 15 ⊢ (ptAny c cc0_scratch6 (slotSet 1) : sProp 𝕄) := pt_any c cc0_scratch6 (slotSet 1) _
/-- The slot in hand after the last hop, its contents forgotten: right half. -/
theorem inN_any (c : Dev nD) : inN m ρ c 15 ⊢ (ptAny c cc0_scratch7 (slotSet 1) : sProp 𝕄) := pt_any c cc0_scratch7 (slotSet 1) _

/-- What a device lends to its neighbours at the barrier, and what it keeps. -/
theorem open_bufs (c : Dev nD) : (BufIn c : sProp 𝕄) ⊢ iprop(ptAny c cc0_scratch0 Finset.univ ∗ ptAny c cc0_scratch1 Finset.univ ∗ ptAny c cc0_scratch2 Finset.univ ∗ ptAny c cc0_scratch3 Finset.univ
    ∗ payBR (dv c 15) ∗ payBL (dv c 1) ∗ ptAny c cc0_scratch6 (slotSet 0) ∗ ptAny c cc0_scratch7 (slotSet 0) ∗ rowAny c c) := by
  unfold BufIn payBR payBL
  rw [dv_lr, dv_rl]
  iintro ⟨H0, H1, H2, H3, H4, H5, H6, H7, H8⟩
  ihave H6 := (slots_cut c cc0_scratch6 (slotSet 0) (slotSet 1) slot_disj slot_cover) $$ H6
  ihave H7 := (slots_cut c cc0_scratch7 (slotSet 0) (slotSet 1) slot_disj slot_cover) $$ H7
  ihave H8 := (rows_cut c) $$ H8
  icases H6 with ⟨H60, H61⟩
  icases H7 with ⟨H70, H71⟩
  icases H8 with ⟨H80, H81⟩
  iframe H0 H1 H2 H3 H60 H70 H80
  isplitl [H4 H61 H81]
  · iframe H4 H61 H81
  iframe H5 H71
/-- What the neighbours lent, as the loops want it. -/
theorem lent (c : Dev nD) : iprop(payBR c ∗ payBL c) ⊢ (iprop(pend c 0 ∗ land c 0) : sProp 𝕄) := by
  unfold payBR payBL pend land rows
  rw [if_pos rfl, if_pos rfl]
  iintro ⟨⟨H4, H6, H8⟩, H5, H7⟩
  isplitl [H4 H8 H5]
  · isplitl [H4]; · iexact H4
    isplitl [H8]; · iexact H8
    iexact H5
  isplitl [H6]; · iexact H6
  iexact H7

/-- The semaphores as the kernel starts, one by one. -/
theorem sems_in (c : Dev nD) : (bigSep Finset.univ fun i : Fin 49 => St0 c (csem i) : sProp 𝕄)
    ⊢ iprop((Idle c (dm 2) 0 ∗ Rcv c (dm 3) 0 ∗ Idle c (dm 4) 0 ∗ Rcv c (dm 5) 0 ∗ Idle c (dm 6) 0 ∗ Idle c (dm 7) 0 ∗ Rcv c (dm 8) 0 ∗ Rcv c (dm 9) 0
        ∗ Idle c (dm 10) 0 ∗ Idle c (dm 11) 0 ∗ Rcv c (dm 12) 0 ∗ Rcv c (dm 13) 0 ∗ Idle c (dm 14) 0 ∗ Idle c (dm 15) 0)
      ∗ (bigSep (Finset.range 15) fun j => Idle c (sS j) 0) ∗ (Rcv c (sR c) 0 ∗ bigSep (Finset.range 15) fun j => Rcv c (sR (dv c (j + 1))) 0)
      ∗ (Rcv c (rg 0) 0 ∗ Rcv c (rg 1) 0 ∗ Two c (rg 3) ∗ Two c (rg 2))) := by
  have hS : ∀ j ∈ Finset.range 15, (St0 c (sS j) : sProp 𝕄) ⊢ Idle c (sS j) 0 := fun j hj => by
    have h := Finset.mem_range.mp hj
    have e : sendS (sS j) = true := by unfold sS sendS; exact decide_eq_true (by
      show 16 + j % 15 = 2 ∨ 16 + j % 15 = 4 ∨ 16 + j % 15 = 6 ∨ 16 + j % 15 = 7 ∨ 16 + j % 15 = 10 ∨ 16 + j % 15 = 11 ∨ 16 + j % 15 = 14 ∨ 16 + j % 15 = 15 ∨ (16 ≤ 16 + j % 15 ∧ 16 + j % 15 < 31)
      omega)
    unfold St0; rw [if_pos e]
  have hR : ∀ d : Dev nD, (St0 c (sR d) : sProp 𝕄) ⊢ Rcv c (sR d) 0 := fun d => by
    have h := d.isLt
    have e : ¬ sendS (sR d) = true := by
      unfold sR sendS
      exact fun h => by
        have h : (31 + d.val = 2 ∨ 31 + d.val = 4 ∨ 31 + d.val = 6 ∨ 31 + d.val = 7 ∨ 31 + d.val = 10 ∨ 31 + d.val = 11 ∨ 31 + d.val = 14 ∨ 31 + d.val = 15 ∨ (16 ≤ 31 + d.val ∧ 31 + d.val < 31)) := of_decide_eq_true h
        omega
    have e2 : ¬ twoPay (sR d) = true := by unfold sR twoPay; exact Bool.false_ne_true
    unfold St0; rw [if_neg e, if_neg e2]
  rw [all49 (St0 c) c]
  refine BIClass.sep_mono ?_ (BIClass.sep_mono (bigSep_mono hS) (BIClass.sep_mono (BIClass.sep_mono (hR c) (bigSep_mono fun j _ => hR _)) ?_))
  · exact .rfl
  · exact .rfl

/-- The semaphores as the kernel ends. -/
theorem sems_out (c : Dev nD) : iprop((Idle c (dm 2) 15 ∗ Rcv c (dm 3) 15 ∗ Idle c (dm 4) 15 ∗ Rcv c (dm 5) 15 ∗ Idle c (dm 6) 7 ∗ Idle c (dm 7) 8 ∗ Rcv c (dm 8) 7 ∗ Rcv c (dm 9) 8 ∗ Idle c (dm 10) 7 ∗ Idle c (dm 11) 8 ∗ Rcv c (dm 12) 7 ∗ Rcv c (dm 13) 8 ∗ Idle c (dm 14) 16 ∗ Idle c (dm 15) 16)
      ∗ (bigSep (Finset.range 15) fun j => Idle c (sS j) 1) ∗ (Rcv c (sR c) 0 ∗ bigSep (Finset.range 15) fun j => Rcv c (sR (dv c (j + 1))) 1)
      ∗ (Rcv c (rg 0) 28 ∗ Rcv c (rg 1) 28 ∗ atPos ER (cell c (rg 3)) 1 ∅ 0 ∗ atPos ER (cell c (rg 2)) 1 ∅ 0)) ⊢ (bigSep Finset.univ fun i : Fin 49 => FinPos c (csem i) : sProp 𝕄) := by
  rw [all49 (FinPos c) c]
  exact BIClass.sep_mono (BIClass.sep_mono (fin_idle c (dm 2) 15 (nr_at c 2 15)) (BIClass.sep_mono (fin_rcv c (dm 3) 15 (nr_at c 3 15)) (BIClass.sep_mono (fin_idle c (dm 4) 15 (nr_at c 4 15)) (BIClass.sep_mono (fin_rcv c (dm 5) 15 (nr_at c 5 15)) (BIClass.sep_mono (fin_idle c (dm 6) 7 (nr_at c 6 7)) (BIClass.sep_mono (fin_idle c (dm 7) 8 (nr_at c 7 8)) (BIClass.sep_mono (fin_rcv c (dm 8) 7 (nr_at c 8 7)) (BIClass.sep_mono (fin_rcv c (dm 9) 8 (nr_at c 9 8)) (BIClass.sep_mono (fin_idle c (dm 10) 7 (nr_at c 10 7)) (BIClass.sep_mono (fin_idle c (dm 11) 8 (nr_at c 11 8)) (BIClass.sep_mono (fin_rcv c (dm 12) 7 (nr_at c 12 7)) (BIClass.sep_mono (fin_rcv c (dm 13) 8 (nr_at c 13 8)) (BIClass.sep_mono (fin_idle c (dm 14) 16 (nr_at c 14 16)) (fin_idle c (dm 15) 16 (nr_at c 15 16)))))))))))))))
    (BIClass.sep_mono (bigSep_mono fun j hj => fin_idle c (sS j) 1 (nrS_le c j (Finset.mem_range.mp hj)))
    (BIClass.sep_mono (BIClass.sep_mono (fin_rcv c (sR c) 0 (nrRc_le c)) (bigSep_mono fun j _ => fin_rcv c (sR (dv c (j + 1))) 1 (nrR_le c _)))
    (BIClass.sep_mono (fin_rcv c (rg 0) 28 (le_refl 28)) (BIClass.sep_mono (fin_rcv c (rg 1) 28 (le_refl 28)) (BIClass.sep_mono (fin_pos c (rg 3) 1 (le_refl 1)) (fin_pos c (rg 2) 1 (le_refl 1)))))))

set_option maxHeartbeats 4000000 in
/-- The kernel on device `c`. -/
theorem body_ok (c : Dev nD) :
    iprop(Ctx m ρ K ∗ Start m ρ c) ⊢ WP c (cc0__body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0) fun _ => Finish m ρ c := by
  rw [cc0__body_eq_skeleton]
  unfold cc0__body_skel Start
  simp only [semSignalWord, semWaitWord, Prog.lift, Prog.bind_op, Prog.bind_ret, Prog.pure_eq_ret]
  iintro ⟨#HC, HX, HB, HM, HS, HO⟩
  ihave HB := (open_bufs c) $$ HB
  icases HB with ⟨H0, H1, H2, H3, HbR, HbL, H6, H7, Hrow⟩
  ihave HM := (main_todo c) $$ HM
  icases HM with ⟨HtP, HtN⟩
  ihave HS := (sems_in c) $$ HS
  icases HS with ⟨⟨D2, D3, D4, D5, D6, D7, D8, D9, D10, D11, D12, D13, D14, D15⟩, HsS, ⟨HsRc, HsR⟩, R0, R1, R3, R2⟩
  iapply (WP_call c (part5_ok m ρ K c)) $$ [HX H0 HbR HbL R2 HO]
  · iframe HX H0 HbR HbL R2 HO; iexact HC
  iintro %r ⟨%v2, %v5, %v7, %v26, %v28, %hr, HX, H0, HbR, HbL, R2, HO⟩
  obtain ⟨rfl, hv⟩ := hr
  ihave HL := (lent c) $$ [HbR HbL]
  · isplitl [HbR]; · iexact HbR
    iexact HbL
  icases HL with ⟨Hpend, Hland⟩
  iapply (WP_call c (part6_ok m ρ K c v2 v5 v7 v26 v28 hv)) $$ [HX H0 H1 H2 H3 D2 D4 D3 D5 R0 R1 Hpend Hrow HsS HsR HO]
  · unfold Pre6
    iframe HX H0 H1 H2 H3 D2 D4 D3 D5 R0 R1 Hpend Hrow HsS HsR HO; iexact HC
  unfold Post6
  iintro %r ⟨%hr, HX, H0, H1, H2, H3, D2, D4, D3, D5, R0, R1, H4, H5, H8, HsS, HsR, HO⟩
  subst hr
  iapply (WP_call c (part7_ok m ρ K c v2)) $$ [H0 H6 D14 H2 HtP]
  · isplitr; · iexact HC
    isplitl [H0]; · iexact H0
    isplitl [H6]; · iexact H6
    unfold stAP doneP
    rw [Finset.range_zero, bigSep_empty]
    isplitl [D14]; · iexact D14
    isplitl [H2]; · iexact H2
    isplitr; · iempintro
    iexact HtP
  iintro %r ⟨%hr, H0, H6, HstP⟩
  subst hr
  iapply (WP_call c (part8_ok m ρ K c v2)) $$ [H1 H7 D15 H3 HtN HstP HO]
  · isplitr; · iexact HC
    isplitl [H1]; · iexact H1
    isplitl [H7]; · iexact H7
    isplitl [D15 H3 HtN]
    · unfold stAN doneN
      rw [Finset.range_zero, bigSep_empty]
      isplitl [D15]; · iexact D15
      isplitl [H3]; · iexact H3
      isplitr; · iempintro
      iexact HtN
    isplitl [HstP]; · iexact HstP
    iexact HO
  iintro %r ⟨%hr, H1, H7, HstN, HstP, HO⟩
  subst hr
  iapply (WP_loop c (t4_loop m ρ K c v2 v5 v7)) $$ [H6 H7 R0 R1 Hland D6 D7 D8 D9 D10 D11 D12 D13 HstP HstN HO]
  · isplitr; · iexact HC
    unfold I4 inP inN ixP ixN st4P st4N leftover
    rw [dv_zero c (a := 15 * 0) rfl, if_pos rfl, if_pos rfl, if_neg (show ¬ (0 = 15) by omega), if_neg (show ¬ (0 = 15) by omega)]
    isplitl [H6]; · iexact H6
    isplitl [H7]; · iexact H7
    isplitl [R0]; · iexact R0
    isplitl [R1]; · iexact R1
    isplitl [Hland]; · iexact Hland
    isplitl [D7]; · iexact D7
    isplitl [D6]; · iexact D6
    isplitl [D11]; · iexact D11
    isplitl [D10]; · iexact D10
    isplitl [D9]; · iexact D9
    isplitl [D8]; · iexact D8
    isplitl [D13]; · iexact D13
    isplitl [D12]; · iexact D12
    isplitl [HstP]; · iexact HstP
    isplitl [HstN]; · iexact HstN
    isplitr; · iempintro
    iexact HO
  iintro %a ⟨-, HI⟩
  ihave HI := (Entails.of_eq (show I4 m ρ c 15 = iprop(inP m ρ c 15 ∗ inN m ρ c 15 ∗ Rcv c (rg 0) 28 ∗ Rcv c (rg 1) 28 ∗ land c 15
    ∗ Idle c (dm 6) 7 ∗ Idle c (dm 7) 8 ∗ Idle c (dm 10) 7 ∗ Idle c (dm 11) 8 ∗ Rcv c (dm 8) 7 ∗ Rcv c (dm 9) 8 ∗ Rcv c (dm 12) 7 ∗ Rcv c (dm 13) 8
    ∗ stBP m ρ c 15 ∗ stBN m ρ c 15 ∗ (ptAny c cc0_scratch6 (slotSet 0) ∗ ptAny c cc0_scratch7 (slotSet 0)) ∗ Ow c 133) from rfl)) $$ HI
  icases HI with ⟨H6, H7, R0, R1, -, D6, D7, D10, D11, D8, D9, D12, D13, HstP, HstN, ⟨H60, H70⟩, HO⟩
  iapply (cwP m ρ K c 15 133 (by decide)) $$ [HstP HO]
  · iframe HstP HO; iexact HC
  iintro ⟨HstP, HO⟩
  iapply (cwN m ρ K c 15 133 (by decide)) $$ [HstN HO]
  · iframe HstN HO; iexact HC
  iintro ⟨HstN, HO⟩
  ihave #HL := (Ctx_reached m ρ K (dv c 15) (rg 3) rfl) $$ HC
  ihave #HR := (Ctx_reached m ρ K (dv c 1) (rg 3) rfl) $$ HC
  iapply (w_signal m ρ K c 133 15 (rg 3) 0 false (ev_finL c) (dev12_dv c (k0_dev12_lt c)) (sem := (3 : Fin 4)) rfl
    (k' := 1) rfl (P := iprop(emp)) .rfl) $$ [HO]
  · isplitr; · iexact HC
    isplitl [HO]; · iexact HO
    isplitr; · iempintro
    iexact HL
  iintro HO
  iapply (w_signal m ρ K c 134 1 (rg 3) 0 true (ev_finR c) (dev13_dv c (k0_dev13_lt c)) (sem := (3 : Fin 4)) rfl
    (k' := 1) rfl (P := iprop(emp)) .rfl) $$ [HO]
  · isplitr; · iexact HC
    isplitl [HO]; · iexact HO
    isplitr; · iempintro
    iexact HR
  iintro HO
  iapply (w_both m ρ K c (rg 3) 135 (wpE_semWait_eq 𝒱₀ (c : Thread nD τ) none Set.univ) rfl rfl (show 0 < 1 from Nat.one_pos) rfl (Or.inl rfl) rfl
    (P := iprop(emp ∗ emp)) .rfl) $$ [R3 HO]
  · isplitr; · iexact HC
    unfold Two
    isplitl [R3]; · iexact R3
    iexact HO
  iintro ⟨R3, HO, -⟩
  iapply (WP_retF c)
  ihave HstP := (Entails.of_eq (show stAP m ρ c 16 = iprop(Idle c (dm 14) 16 ∗ ptAny c cc0_scratch2 Finset.univ ∗ doneP m ρ c 16 ∗ todoP c 16) from rfl)) $$ HstP
  ihave HstN := (Entails.of_eq (show stAN m ρ c 16 = iprop(Idle c (dm 15) 16 ∗ ptAny c cc0_scratch3 Finset.univ ∗ doneN m ρ c 16 ∗ todoN c 16) from rfl)) $$ HstN
  icases HstP with ⟨D14, H2, HdP, -⟩
  icases HstN with ⟨D15, H3, HdN, -⟩
  imod (close_all m ρ K c) $$ [D2 D3 D4 D5 D6 D7 D8 D9 D10 D11 D12 D13 D14 D15 HsS HsRc HsR R0 R1 R2 R3] with HS
  · isplitr; · iexact HC
    iapply (sems_out c)
    isplitl [D2 D3 D4 D5 D6 D7 D8 D9 D10 D11 D12 D13 D14 D15]
    · iframe D2 D3 D4 D5 D6 D7 D8 D9 D10 D11 D12 D13 D14 D15
    isplitl [HsS]; · iexact HsS
    isplitl [HsRc HsR]
    · iframe HsRc HsR
    iframe R0 R1 R3 R2
  imodintro
  unfold Finish BufIn
  isplitl [HX]; · iexact HX
  isplitl [H0 H1 H2 H3 H4 H5 H6 H7 H60 H70 H8]
  · isplitl [H0]; · iapply (pt_any c cc0_scratch0 _ _); iexact H0
    isplitl [H1]; · iapply (pt_any c cc0_scratch1 _ _); iexact H1
    isplitl [H2]; · iexact H2
    isplitl [H3]; · iexact H3
    isplitl [H4]; · iexact H4
    isplitl [H5]; · iexact H5
    isplitl [H6 H60]
    · iapply (slots_join c cc0_scratch6 (slotSet 0) (slotSet 1) slot_disj slot_cover)
      isplitl [H60]; · iexact H60
      iapply (inP_any m ρ c); iexact H6
    isplitl [H7 H70]
    · iapply (slots_join c cc0_scratch7 (slotSet 0) (slotSet 1) slot_disj slot_cover)
      isplitl [H70]; · iexact H70
      iapply (inN_any m ρ c); iexact H7
    iapply (pt_any c cc0_scratch8 _ _); iexact H8
  isplitl [HdP HdN]
  · iapply (main_done m ρ c)
    isplitl [HdP]; · iexact HdP
    iexact HdN
  isplitl [HS]; · iexact HS
  iexact HO

end Cert.Talk

end
-- ==== Proof.Deal.lean ====
module

public import proofs.«01_k».proof.Proof.Body

/-!
# Dealing out tokens and credits at launch

The payments device `c` receives, numbered by the payer's program order, are the duties of `c`'s receiving semaphores.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

/-! ## The received payments by semaphore -/

/-- The number of a semaphore. -/
def semIx : SemLoc sig → ℕ
  | .reg s => if s.val < 2 then 45 + s.val else if s.val = 2 then 48 else 47
  | .dma s => s.val - 2
/-- The semaphore, round and duty of the `i`-th received payment. -/
def key (c : Dev nD) (i : Fin 135) : Fin 49 × Fin 28 × Bool :=
  (⟨semIx (evSm (evSrc c i.val) i.val) % 49, Nat.mod_lt _ (by decide)⟩, ⟨evRd i.val % 28, Nat.mod_lt _ (by decide)⟩, evDt i.val)
/-- Which received payment a semaphore, round and duty belong to. -/
def unkey (c : Dev nD) (x : Fin 49 × Fin 28 × Bool) : Fin 135 :=
  ⟨(if x.1.val = 48 then (if x.2.2 then 1 else 0) else if x.1.val = 47 then (if x.2.2 then 134 else 133)
    else if x.1.val = 45 then (if x.2.1.val < 14 then 4 + 4 * x.2.1.val else 77 + 4 * (x.2.1.val - 14))
    else if x.1.val = 46 then (if x.2.1.val < 14 then 5 + 4 * x.2.1.val else 78 + 4 * (x.2.1.val - 14))
    else if x.1.val = 1 then 2 + 4 * x.2.1.val else if x.1.val = 3 then 3 + 4 * x.2.1.val
    else if x.1.val = 6 then 75 + 4 * (2 * x.2.1.val + 1) else if x.1.val = 7 then 75 + 4 * (2 * x.2.1.val)
    else if x.1.val = 10 then 76 + 4 * (2 * x.2.1.val + 1) else if x.1.val = 11 then 76 + 4 * (2 * x.2.1.val)
    else 60 + (c.val + 16 - (x.1.val - 29) - 1) % 16) % 135, Nat.mod_lt _ (by decide)⟩
/-- Whether a semaphore, round and duty is a received payment. -/
def pk (c : Dev nD) (x : Fin 49 × Fin 28 × Bool) : Bool :=
  !sendS (csem x.1) && decide (x.2.1.val < nr c.val (csem x.1)) && (!x.2.2 || twoPay (csem x.1))

/-- The semaphore, round and duty of a received payment are those of the sender's payment, and `unkey` finds the payment again. -/
theorem key_spec : ∀ (c : Fin 16) (i : Fin 135), csem (key c i).1 = evSm (evSrc c i.val) i.val ∧ (key c i).2.1.val = evRd i.val
    ∧ (key c i).2.2 = evDt i.val ∧ unkey c (key c i) = i ∧ pk c (key c i) = true := by decide +kernel
/-- Every semaphore, round and duty that is a received payment is the one that `unkey` names. -/
theorem unkey_spec : ∀ (c : Fin 16) (x : Fin 49) (r : Fin 28) (d : Bool), pk c (x, r, d) = true → key c (unkey c (x, r, d)) = (x, r, d) := by decide +kernel

/-- Different received payments have different semaphores, rounds or duties. -/
theorem key_inj (c : Dev nD) : Function.Injective (key c) := fun i j h => by
  rw [← (key_spec c i).2.2.2.1, ← (key_spec c j).2.2.2.1, h]

/-- The received payments, gathered by semaphore. -/
theorem deal (c : Dev nD) (Y : SemLoc sig → ℕ → Bool → sProp 𝕄) :
    (bigSep Finset.univ fun i : Fin 135 => Y (evSm (evSrc c i.val) i.val) (evRd i.val) (evDt i.val))
      = bigSep Finset.univ fun x : Fin 49 => bigSep Finset.univ fun r : Fin 28 => bigSep Finset.univ fun d : Bool => if pk c (x, r, d) = true then Y (csem x) r.val d else BI.emp := by
  have h1 : (bigSep Finset.univ fun i : Fin 135 => Y (evSm (evSrc c i.val) i.val) (evRd i.val) (evDt i.val))
      = bigSep Finset.univ fun i : Fin 135 => (fun x : Fin 49 × Fin 28 × Bool => Y (csem x.1) x.2.1.val x.2.2) (key c i) :=
    bigSep_congr fun i _ => by
      obtain ⟨a, b, d, -, -⟩ := key_spec c i
      show _ = Y (csem (key c i).1) (key c i).2.1.val (key c i).2.2
      rw [a, b, d]
  have h2 : (Finset.univ : Finset (Fin 135)).map ⟨key c, key_inj c⟩ = (Finset.univ : Finset (Fin 49 × Fin 28 × Bool)).filter fun x => pk c x = true := by
    ext ⟨x, r, d⟩
    simp only [Finset.mem_map, Finset.mem_univ, _root_.true_and, Finset.mem_filter, Function.Embedding.coeFn_mk]
    exact ⟨fun ⟨i, h⟩ => h ▸ (key_spec c i).2.2.2.2, fun h => ⟨unkey c (x, r, d), unkey_spec c x r d h⟩⟩
  have h3 := bigSep_map (s := (Finset.univ : Finset (Fin 135))) ⟨key c, key_inj c⟩ (Φ := fun x : Fin 49 × Fin 28 × Bool => Y (csem x.1) x.2.1.val x.2.2)
  rw [h2, bigSep_filter, bigSep_univ_prod] at h3
  refine h1.trans (Eq.trans h3.symm ?_)
  exact bigSep_congr fun x _ => by rw [bigSep_univ_prod]

/-- No semaphore has more than 28 rounds. -/
theorem nr_le : ∀ (c : Fin 16) (x : Fin 49), nr c.val (csem x) ≤ 28 := by decide +kernel
/-- A semaphore that two neighbours raise has one round. -/
theorem nr_two : ∀ (c : Fin 16) (x : Fin 49), twoPay (csem x) = true → nr c.val (csem x) = 1 := by decide +kernel
/-- A semaphore that two neighbours raise is not one for sending. -/
theorem send_one : ∀ x : Fin 49, twoPay (csem x) = true → sendS (csem x) = false := by decide +kernel

/-- What holds of the first `n` of 28 rounds, collected over those rounds alone. -/
theorem first_rounds (n : ℕ) (hn : n ≤ 28) (Z : ℕ → sProp 𝕄) (X : Fin 28 → sProp 𝕄) (h : ∀ r : Fin 28, r.val < n → X r ⊢ Z r.val) :
    bigSep Finset.univ X ⊢ bigSep (Finset.Ico 0 n) Z := by
  have e : bigSep Finset.univ X = bigSep (Finset.range 28) fun r => if h : r < 28 then X ⟨r, h⟩ else BI.emp :=
    Ring.bigSep_fin_eq_range 28 _ _ fun t ht => dif_pos ht
  rw [e, ← Finset.range_eq_Ico]
  refine (bigSep_subset (Finset.range_subset_range.mpr hn)).trans (bigSep_mono fun r hr => ?_)
  have hr := Finset.mem_range.mp hr
  rw [dif_pos (show r < 28 by omega)]
  exact h ⟨r, by omega⟩ hr

/-- What device `c` waits with on semaphore `sm`. -/
def Crd (c : Dev nD) (sm : SemLoc sig) : sProp 𝕄 :=
  if sendS sm then iprop(emp) else if twoPay sm then cred (tallyAt (cell c sm) 0 (2 * am sm))
    else bigSep (Finset.Ico 0 (nr c.val sm)) fun j => cred (tallyAt (cell c sm) j (am sm))
/-- What device `c` pays its own transfers with on semaphore `sm`. -/
def Tok (c : Dev nD) (sm : SemLoc sig) : sProp 𝕄 :=
  if sendS sm then bigSep (Finset.Ico 0 (nr c.val sm)) fun j => dutyTok ER (cell c sm) j false else iprop(emp)

/-- The credits of one semaphore's received payments are the credits that its waits need. -/
theorem cell_credits (c : Dev nD) (x : Fin 49) :
    (bigSep Finset.univ fun r : Fin 28 => bigSep Finset.univ fun d : Bool => if pk c (x, r, d) = true then cred (tallyAt (cell c (csem x)) r.val (am (csem x))) else BI.emp : sProp 𝕄)
      ⊢ Crd c (csem x) := by
  unfold Crd
  by_cases hs : sendS (csem x) = true
  · rw [if_pos hs]; iintro -; iempintro
  rw [if_neg hs]
  by_cases h2 : twoPay (csem x) = true
  · rw [if_pos h2]
    refine (BI.bigSep_elim (Finset.mem_univ (0 : Fin 28))).trans ?_
    have p : ∀ d, pk c (x, 0, d) = true := fun d => by
      unfold pk; show (!sendS (csem x) && decide ((0 : Fin 28).val < nr c.val (csem x)) && (!d || twoPay (csem x))) = true
      rw [nr_two c x h2, h2, send_one x h2]; cases d <;> rfl
    rw [bigSep_univ_eq_bigSepL [false, true] (by decide) (by decide), bigSepL_cons_cons, bigSepL_singleton, if_pos (p false), if_pos (p true),
      show 2 * am (csem x) = am (csem x) + am (csem x) by omega, ← tallyAt_add]
    exact (cred_add _ _).2
  · rw [if_neg h2]
    refine first_rounds _ (nr_le c x) _ _ fun r hr => (BI.bigSep_elim (Finset.mem_univ false)).trans ?_
    have p : pk c (x, r, false) = true := by
      show (!sendS (csem x) && decide (r.val < nr c.val (csem x)) && (!false || twoPay (csem x))) = true
      rw [decide_eq_true hr]
      cases h : sendS (csem x)
      · rfl
      · exact absurd h hs
    rw [if_pos p]
    exact BI.Entails.refl _

/-! ## What is owed at launch -/

/-- What comes to device `c`. -/
def T (c : Dev nD) : CellTallies nD τ sig ℕ := ∑ i : Fin 135, tallyAt (inCell c i.val) (evRd i.val) (am (evSm (evSrc c i.val) i.val))

/-- The device from which the receiver of payment `i` gets it is the one that made it. -/
theorem src_dst (c : Dev nD) (i : ℕ) : evSrc (dv c (evOff i)) i = c := by
  unfold evSrc; rw [dv_dv]; exact dv_zero c (by omega)
/-- All that the devices owe together is all that comes to them. -/
theorem O_sum : (∑ d : Dev nD, O d 0) = ∑ d, T d := by
  unfold O T
  rw [Finset.sum_comm, Finset.sum_comm (s := (Finset.univ : Finset (Dev nD)))]
  rw [← Finset.range_eq_Ico, Finset.sum_range]
  refine Finset.sum_congr rfl fun i _ => ?_
  refine Eq.trans ?_ (Equiv.sum_comp (dvEquiv (evOff i.val)) fun d => tallyAt (inCell d i.val) (evRd i.val) (am (evSm (evSrc d i.val) i.val)))
  refine Finset.sum_congr rfl fun d _ => ?_
  show _ = tallyAt (cell (dv d (evOff i.val)) (evSm (evSrc (dv d (evOff i.val)) i.val) i.val)) (evRd i.val) (am (evSm (evSrc (dv d (evOff i.val)) i.val) i.val))
  rw [src_dst]; rfl

/-- What comes to a device comes to its own semaphores. -/
theorem T_own (d : Dev nD) (g : GSem nD τ sig) (h : T d g ≠ 0) : g.1 = (d.tc : Thread nD τ) := by
  by_contra hne
  apply h
  unfold T
  rw [Finset.sum_apply]
  exact Finset.sum_eq_zero fun i _ => tallyAt_ne_cell (g := inCell d i.val) (g' := g) (fun e => hne (congrArg Prod.fst e)) _ _

/-- Credit for a sum is the credits for its terms. -/
theorem cred_sums {I : Type} [DecidableEq I] (S : Finset I) (A : I → CellTallies nD τ sig ℕ) : (cred (∑ i ∈ S, A i) : sProp 𝕄) = bigSep S fun i => cred (A i) := by
  induction S using Finset.induction_on with
  | empty => rw [Finset.sum_empty, cred_zero, bigSep_empty]; rfl
  | insert c S hc ih => rw [Finset.sum_insert hc, bigSep_insert hc, BI.Entails.antisymm (cred_add _ _).1 (cred_add _ _).2, ih]; rfl

/-- The credits a device starts with, by semaphore. -/
theorem credits (c : Dev nD) : (Pipeline.launchCred (fun d => O d 0) c : sProp 𝕄) ⊢ bigSep Finset.univ fun x : Fin 49 => Crd c (csem x) := by
  rw [Pipeline.launchCred_of_sum (fun d => O d 0) T O_sum T_own c]
  unfold T
  rw [cred_sums]
  exact (Entails.of_eq (deal c fun sm r _ => cred (tallyAt (cell c sm) r (am sm)))).trans (bigSep_mono fun x _ => cell_credits c x)

/-! ## Tokens -/

/-- The tokens of received payments. -/
abbrev tokR (x : Dev nD × Fin 135) : GSem nD τ sig × ℕ × Bool := (inCell x.1 x.2.val, evRd x.2.val, evDt x.2.val)
/-- The tokens of own payments. -/
abbrev tokS (x : Dev nD × Fin 49 × Fin 28) : GSem nD τ sig × ℕ × Bool := (cell x.1 (csem x.2.1), x.2.2.val, false)

/-- The 49 semaphores are different. -/
theorem csem_inj : Function.Injective csem := fun a b h => by
  have hx : ∀ a : Fin 49, semIx (csem a) = a.val := by decide +kernel
  exact Fin.ext (by rw [← hx a, ← hx b, h])
/-- Different received payments have different tokens. -/
theorem tokR_inj : Function.Injective tokR := by
  rintro ⟨c, i⟩ ⟨c', j⟩ h
  have h1 : c = c' := congrArg (fun x : GSem nD τ sig × ℕ × Bool => x.1.1.1) h
  subst h1
  obtain ⟨a, b, d, -, -⟩ := key_spec c i
  obtain ⟨a', b', d', -, -⟩ := key_spec c j
  have e1 : evSm (evSrc c i.val) i.val = evSm (evSrc c j.val) j.val := congrArg (fun x : GSem nD τ sig × ℕ × Bool => x.1.2) h
  have e2 : evRd i.val = evRd j.val := congrArg (fun x : GSem nD τ sig × ℕ × Bool => x.2.1) h
  have e3 : evDt i.val = evDt j.val := congrArg (fun x : GSem nD τ sig × ℕ × Bool => x.2.2) h
  rw [← a, ← a'] at e1
  rw [← b, ← b'] at e2
  rw [← d, ← d'] at e3
  rw [key_inj c (Prod.ext (csem_inj e1) (Prod.ext (Fin.ext e2) e3))]
/-- Different own payments have different tokens. -/
theorem tokS_inj : Function.Injective tokS := by
  rintro ⟨c, x, r⟩ ⟨c', x', r'⟩ h
  have h1 : c = c' := congrArg (fun x : GSem nD τ sig × ℕ × Bool => x.1.1.1) h
  have h2 : csem x = csem x' := congrArg (fun x : GSem nD τ sig × ℕ × Bool => x.1.2) h
  have h3 : r.val = r'.val := congrArg (fun x : GSem nD τ sig × ℕ × Bool => x.2.1) h
  rw [h1, csem_inj h2, Fin.ext h3]

/-- The tokens of received payments, all devices. -/
def setR : Finset (GSem nD τ sig × ℕ × Bool) := Finset.univ.map ⟨tokR, tokR_inj⟩
/-- The tokens of own payments, all devices. -/
def setS : Finset (GSem nD τ sig × ℕ × Bool) := (Finset.univ.filter fun x : Dev nD × Fin 49 × Fin 28 => sendS (csem x.2.1) = true).map ⟨tokS, tokS_inj⟩
/-- No payment is both received and a device's own. -/
theorem set_disj : Disjoint setR setS := by
  rw [Finset.disjoint_left]
  intro y h1 h2
  obtain ⟨⟨c, i⟩, -, rfl⟩ := Finset.mem_map.mp h1
  obtain ⟨⟨c', x, r⟩, hx, he⟩ := Finset.mem_map.mp h2
  have hx := (Finset.mem_filter.mp hx).2
  have e : csem x = evSm (evSrc c i.val) i.val := congrArg (fun x : GSem nD τ sig × ℕ × Bool => x.1.2) he
  obtain ⟨a, -, -, -, p⟩ := key_spec c i
  have hx : sendS (csem (key c i).1) = true := by rw [a, ← e]; exact hx
  unfold pk at p
  rw [hx] at p
  exact absurd p (by simp)
/-- All tokens. -/
def ringToks : Finset (GSem nD τ sig × ℕ × Bool) := setR ∪ setS

/-- The tokens of one semaphore's own payments, over its rounds alone. -/
theorem cell_tokens (c : Dev nD) (x : Fin 49) :
    (bigSep Finset.univ fun r : Fin 28 => if sendS (csem x) = true then dutyTok ER (cell c (csem x)) r.val false else BI.emp : sProp 𝕄) ⊢ Tok c (csem x) := by
  unfold Tok
  by_cases h : sendS (csem x) = true
  · rw [if_pos h]
    exact first_rounds _ (nr_le c x) _ _ fun r _ => Entails.of_eq (if_pos h)
  · rw [if_neg h]; iintro -; iempintro

/-- Two nested collections in the other order. -/
theorem swap_univ {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1), bigSep_univ_equiv (Equiv.prodComm B A)]
  rfl

/-- The tokens, dealt to the devices that pay with them. -/
theorem tokens : (bigSep ringToks fun x => dutyTok ER x.1 x.2.1 x.2.2 : sProp 𝕄)
    ⊢ bigSep Finset.univ fun c : Dev nD => iprop((bigSep (Finset.Ico 0 135) (evTok c)) ∗ bigSep Finset.univ fun x : Fin 49 => Tok c (csem x)) := by
  unfold ringToks
  rw [bigSep_union set_disj]
  unfold setR setS
  rw [bigSep_sep', bigSep_map, bigSep_map, bigSep_filter, bigSep_univ_prod, bigSep_univ_prod]
  refine BIClass.sep_mono ?_ (bigSep_mono fun c _ => ?_)
  · rw [swap_univ]
    have h : ∀ c : Dev nD, bigSep (Finset.Ico 0 135) (evTok (F := F) c) = bigSep Finset.univ fun i : Fin 135 => evTok c i.val := fun c => by
      rw [← Finset.range_eq_Ico]; exact (Ring.bigSep_fin_eq_range 135 _ _ fun t h => rfl).symm
    rw [bigSep_congr fun c _ => h c, swap_univ (fun (c : Dev nD) (i : Fin 135) => evTok c i.val)]
    refine bigSep_mono fun i _ => ?_
    rw [bigSep_univ_equiv (dvEquiv (evOff i.val))]
    refine bigSep_mono fun d _ => ?_
    have e : (dutyTok ER (cell (dv d (evOff i.val)) (evSm (evSrc (dv d (evOff i.val)) i.val) i.val)) (evRd i.val) (evDt i.val) : sProp 𝕄) = evTok d i.val := by
      rw [src_dst]; rfl
    show Idealize.SL.BI.Entails (dutyTok ER (cell (dv d (evOff i.val)) (evSm (evSrc (dv d (evOff i.val)) i.val) i.val)) (evRd i.val) (evDt i.val) : sProp 𝕄) _
    rw [e]
    exact BI.Entails.refl _
  · rw [bigSep_univ_prod]
    exact bigSep_mono fun x _ => cell_tokens c x

end Cert.Talk

end
-- ==== Proof.Launch.lean ====
module

public import proofs.«01_k».proof.Proof.Deal
public import Idealize.ShloMosaic.Lib.Pipeline.CollectiveSegs

/-!
# The launch

From what the launch deals each device to the run of the whole program.
-/

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 49 → ℕ)

/-! ## What the launch deals -/

/-- A collection over 49 semaphores: the first 48 and the last. -/
theorem split48 (Φ : Fin 49 → sProp 𝕄) : bigSep Finset.univ Φ = iprop((bigSep Finset.univ fun i : Fin 48 => Φ i.castSucc) ∗ Φ (Fin.last 48)) := by
  have h : (Finset.univ : Finset (Fin 49)) = insert (Fin.last 48) (Finset.univ.map Fin.castSuccEmb) := by
    ext i
    refine ⟨fun _ => ?_, fun _ => Finset.mem_univ _⟩
    rcases Fin.eq_castSucc_or_eq_last i with ⟨j, rfl⟩ | rfl
    · exact Finset.mem_insert_of_mem (Finset.mem_map.mpr ⟨j, Finset.mem_univ _, rfl⟩)
    · exact Finset.mem_insert_self _ _
  have hn : Fin.last 48 ∉ (Finset.univ.map Fin.castSuccEmb : Finset (Fin 49)) := fun h => by
    obtain ⟨j, -, e⟩ := Finset.mem_map.mp h
    exact absurd e (Fin.castSucc_lt_last j).ne
  rw [h, bigSep_insert hn, bigSep_map]
  have hc : ∀ A B : sProp 𝕄, iprop(A ∗ B) ⊢ iprop(B ∗ A) := fun A B => by
    iintro ⟨H1, H2⟩
    isplitl [H2] <;> iassumption
  exact (hc _ _).antisymm (hc _ _)

/-- The first 48 semaphores are the kernel's own ones. -/
theorem csem_cast (i : Fin 48) : csem i.castSucc = osem i := by
  have h : (i.castSucc : Fin 49).val < 48 := i.isLt
  unfold csem; rw [dif_pos h]; rfl
/-- The last one is the barrier semaphore. -/
theorem csem_last : csem (Fin.last 48) = rg 2 := by decide

/-- The 48 own semaphores are those that the call declares, each once. -/
theorem ownSemFacts : Pipeline.OwnSemFacts cfg0.spec osem := by decide +kernel

/-- The only semaphore from outside of the call is the barrier's. -/
theorem unscopedSems0_eq (c : Dev nD) : (unscopedSems0 c : sProp 𝕄) = semVal (cell c (rg 2)) 0 := by
  unfold unscopedSems0; rw [bigSep_eq_bigSepL_of_eq [SemLoc.reg (2 : Fin 4)] (by decide) (by decide)]; rfl

/-- All 49 semaphores at zero: the own ones and the barrier's. -/
theorem sems0_eq (c : Dev nD) :
    iprop(Pipeline.ownSems0 (Ix := ℕ) (Name := ℕ) (U := UU) (Lvl := ℕ) (Val := Elt F) (τ := τ) osem c ∗ unscopedSems0 c)
      = (bigSep Finset.univ fun k : Fin 49 => semVal (cell c (csem k)) 0 : sProp 𝕄) := by
  rw [split48, csem_last, unscopedSems0_eq]
  unfold Pipeline.ownSems0
  simp only [csem_cast]

/-- No two of the devices' semaphores are the same. -/
theorem kcell_inj : Function.Injective (fun ck : Dev nD × Fin 49 => cell ck.1 (csem ck.2)) := by
  rintro ⟨c, k⟩ ⟨c', k'⟩ h
  have h1 : c = c' := congrArg (fun g : GSem nD τ sig => g.1.1) h
  have h2 : csem k = csem k' := congrArg Prod.snd h
  rw [h1, csem_inj h2]
/-- All semaphores of the exchange. -/
def ringCells : Finset (GSem nD τ sig) := Finset.univ.map ⟨fun ck : Dev nD × Fin 49 => cell ck.1 (csem ck.2), kcell_inj⟩

/-- The ghost state at launch. -/
def u₀ : UU := (initOf (Pipeline.cells cfgs cellOf_inj) (Pipeline.launchToks cfgs cellOf_inj), initOf ringCells ringToks)

/-- The tokens device `c` pays with. -/
def toks (c : Dev nD) : sProp 𝕄 := iprop((bigSep (Finset.Ico 0 135) (evTok c)) ∗ bigSep Finset.univ fun x : Fin 49 => Tok c (csem x))

/-- What the ghost state at launch deals device `c`. -/
def G (c : Dev nD) : sProp 𝕄 :=
  iprop((bigSep Finset.univ fun k : Fin 49 => roundState ER (Rd m ρ) (cell c (csem k)) 0)
    ∗ (bigSep Finset.univ fun k : Fin 49 => iprop(atPos ER (cell c (csem k)) 0 ∅ 0 ∗ reached ER (cell c (csem k)) 0)) ∗ toks c)
/-- What stays with device `c`. -/
def linear (c : Dev nD) : sProp 𝕄 := iprop((bigSep Finset.univ fun k : Fin 49 => atPos ER (cell c (csem k)) 0 ∅ 0) ∗ toks c)
/-- What device `c` holds once the semaphores are shared. -/
def G' (c : Dev nD) : sProp 𝕄 := iprop(∃ K, records m ρ K ∗ linear c)

/-- The ghost state at launch gives every device the records of its rounds and its tokens. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 49 => Φ (cell c (csem k)) := by
    unfold ringCells; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (show _ ⊢ (bigSep Finset.univ fun c : Dev nD => toks c : sProp 𝕄) from tokens (F := F)) $$ Htok
  unfold G; simp only [bigSep_sep']
  isplitl [Hst']; · iexact Hst'
  isplitl [Hat' Hr']
  · isplitl [Hat'] <;> iassumption
  iexact Htok'

/-- A device's semaphores at zero become the invariants of its cells. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Fin 49 => iprop(∃ κ : ℕ, cellInv ER (Rd m ρ) κ (cell c (csem k))))
          ∗ (bigSep Finset.univ fun k : Fin 49 => iprop(atPos ER (cell c (csem k)) 0 ∅ 0 ∗ reached ER (cell c (csem k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 49 => semVal (cell c (csem k)) 0) ∗ bigSep Finset.univ fun k : Fin 49 => roundState ER (Rd m ρ) (cell c (csem k)) 0)
      ⊢ (|={Set.univ}=> bigSep Finset.univ fun k : Fin 49 => iprop(∃ κ : ℕ, cellInv ER (Rd m ρ) κ (cell c (csem k))) : sProp 𝕄) from by
        rw [← bigSep_sep']
        exact (bigSep_mono fun k _ => (Rounds.body_intro ER (Rd m ρ) (cell c (csem k))).trans inv_alloc).trans (bigSep_fupd _ _)) $$ [Hv Hst] with Hinv
  · isplitl [Hv] <;> iassumption
  imodintro
  isplitl [Hinv]; · iexact Hinv
  isplitl [Hat]; · iexact Hat
  iexact Htok

/-- A shared fact is available to every member of a collection. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and a device's own part are what it holds. -/
theorem G'_intro (c : Dev nD) : iprop(records m ρ K ∗ linear c) ⊢ G' m ρ c := by
  unfold G'; iintro H; iexists K; iexact H

/-- The invariants of all devices are shared with every device. -/
theorem regroup :
    (bigSep Finset.univ fun c : Dev nD => iprop((bigSep Finset.univ fun k : Fin 49 => iprop(∃ κ : ℕ, cellInv ER (Rd m ρ) κ (cell c (csem k))))
          ∗ (bigSep Finset.univ fun k : Fin 49 => iprop(atPos ER (cell c (csem k)) 0 ∅ 0 ∗ reached ER (cell c (csem k)) 0)) ∗ toks c) : sProp 𝕄)
      ⊢ bigSep Finset.univ (G' m ρ) := by
  rw [bigSep_sep', bigSep_sep', ← bigSep_univ_prod (fun ck : Dev nD × Fin 49 => iprop(∃ κ : ℕ, cellInv ER (Rd m ρ) κ (cell ck.1 (csem ck.2)))),
    bigSep_congr (s := Finset.univ) (fun (c : Dev nD) _ => bigSep_sep' Finset.univ (fun k : Fin 49 => (atPos ER (cell c (csem k)) 0 ∅ 0 : sProp 𝕄)) (fun k => reached ER (cell c (csem k)) 0)),
    bigSep_sep', ← bigSep_univ_prod (fun ck : Dev nD × Fin 49 => (reached ER (cell ck.1 (csem ck.2)) 0 : sProp 𝕄))]
  iintro ⟨HI, ⟨Hat, #HR⟩, Htok⟩
  ihave HK := (BI.bigSep_exists_pi Finset.univ (fun (ck : Dev nD × Fin 49) (κ : ℕ) => (cellInv ER (Rd m ρ) κ (cell ck.1 (csem ck.2)) : sProp 𝕄))) $$ HI
  icases HK with ⟨%K, #HI⟩
  iapply (with_persistent (R := records m ρ K) fun c _ => G'_intro m ρ K c)
  isplitr
  · unfold records; rw [bigSep_sep']
    isplitl; · iexact HI
    iexact HR
  · unfold linear; rw [bigSep_sep']
    isplitl [Hat]; · iexact Hat
    iexact Htok

/-- All devices' semaphores are shared at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The body's obligation -/

/-- What device `c`'s body starts from. -/
def start (c : Dev nD) : sProp 𝕄 :=
  iprop(G' m ρ c ∗ levAts L lv ∗ (bigSep Finset.univ fun x : Fin 49 => Crd c (csem x)) ∗ ptAny c main_v1 Finset.univ)
/-- The same with the kernel's own buffers. -/
def Φ₀ (c : Dev nD) : sProp 𝕄 := iprop(start m ρ c ∗ BufIn c)
/-- What it ends with. -/
def Φ₁ (c : Dev nD) : sProp 𝕄 :=
  iprop(BufIn c ∗ pt c main_v1 Finset.univ fullShare (outF m ρ c) ∗ bigSep Finset.univ fun k : Fin 49 => semVal (cell c (csem k)) 0)

/-- The proof data of the one kernel call. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
  Φ t := match t with
    | ⟨0, _⟩ => Φ₀ m ρ c
    | ⟨_ + 1, _⟩ => Φ₁ m ρ c
  q _ := fullShare
  owed t := match t with
    | ⟨0, _⟩ => O c 0
    | ⟨_ + 1, _⟩ => 0

/-- The grid has one step. -/
theorem cfg0_N : cfg0.N = 1 := by decide
/-- The one point. -/
def t₀ : Fin cfg0.N := ⟨0, by rw [cfg0_N]; decide⟩
/-- Every grid step is the first. -/
theorem fin_N (t : Fin cfg0.N) : t = t₀ := by
  obtain ⟨t, ht⟩ := t; have := cfg0_N; exact Fin.ext (by simp only [t₀]; omega)
/-- A collection over the two input windows. -/
theorem bigSep_W (Φ : Fin cfg0.W → sProp 𝕄) : bigSep Finset.univ Φ = iprop(Φ (0 : Fin 2) ∗ Φ (1 : Fin 2)) := bigSep_W0 Φ
/-- The input is fetched in the one step. -/
theorem fetch_0 (t : Fin cfg0.N) : (cfg0.win (0 : Fin 2)).fetch t = true := by rw [fin_N t]; rfl
/-- The input is fetched in the one step. -/
theorem fetch_1 (t : Fin cfg0.N) : (cfg0.win (1 : Fin 2)).fetch t = true := by rw [fin_N t]; rfl
/-- Owning a whole buffer with given contents, in two ways of writing it. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with. -/
def bodyPre (c : Dev nD) : sProp 𝕄 :=
  iprop(Φ₀ m ρ c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))
/-- What the body is left with. -/
def bodyPost (c : Dev nD) : sProp 𝕄 :=
  iprop(Φ₁ m ρ c ∗ (dats m ρ 0 c).owesAt 0 t₀.succ ∗ stg c cc0_stg0_0 (xstg m ρ c) ∗ stg c cc0_stg1_0 (wstg m ρ c))

/-- A semaphore's position, tokens and credits are what the kernel's start needs of it. -/
theorem St0_intro (c : Dev nD) (k : Fin 49) :
    iprop(Ctx m ρ K ∗ (atPos ER (cell c (csem k)) 0 ∅ 0 ∗ Tok c (csem k) ∗ Crd c (csem k))) ⊢ (St0 c (csem k) : sProp 𝕄) := by
  have ho : own (csem k) = true := (by decide +kernel : ∀ k : Fin 49, own (csem k) = true) k
  have hR := Ctx_reached (F := F) m ρ K c (csem k) ho
  unfold St0 Tok Crd
  by_cases h : sendS (csem k) = true
  · rw [if_pos h, if_pos h, if_pos h]
    unfold Idle
    iintro ⟨#HC, Ha, Ht, -⟩
    isplitl [Ha]; · iexact Ha
    isplitr; · iapply hR; iexact HC
    iexact Ht
  · rw [if_neg h, if_neg h, if_neg h]
    by_cases h2 : twoPay (csem k) = true
    · rw [if_pos h2, if_pos h2]
      unfold Two
      iintro ⟨-, Ha, -, Ht⟩
      isplitl [Ha]; · iexact Ha
      iexact Ht
    · rw [if_neg h2, if_neg h2]
      unfold Rcv
      iintro ⟨#HC, Ha, -, Ht⟩
      isplitl [Ha]; · iexact Ha
      isplitr; · iapply hR; iexact HC
      iexact Ht

/-- The same for all semaphores of a device. -/
theorem Sts_intro (c : Dev nD) :
    iprop(Ctx m ρ K ∗ (bigSep Finset.univ fun k : Fin 49 => atPos ER (cell c (csem k)) 0 ∅ 0)
      ∗ (bigSep Finset.univ fun k : Fin 49 => Tok c (csem k)) ∗ (bigSep Finset.univ fun k : Fin 49 => Crd c (csem k)))
      ⊢ (bigSep Finset.univ fun k : Fin 49 => St0 c (csem k) : sProp 𝕄) := by
  rw [← bigSep_sep', ← bigSep_sep']
  exact with_persistent fun k _ => St0_intro m ρ K c k

/-- What the launch hands the body is what the run starts with. -/
theorem body_pre (c : Dev nD) : bodyPre m ρ c ⊢ iprop(∃ K, Ctx m ρ K ∗ Start m ρ c) := by
  unfold bodyPre Φ₀ start G' linear toks Start Ow
  iintro ⟨⟨⟨⟨%K, #HR, Hat, Hev, Htok⟩, #Hlev, Hcr, Hout⟩, Hbuf⟩, Ho, ⟨%d0, %g0, %hg0, Hx⟩, ⟨%d1, %g1, %hg1, Hw⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx
  subst hw
  unfold Dat.owesAt Pipeline.owesWithin
  icases Ho with ⟨%W, %hW, HO⟩
  rw [show (dats m ρ 0 c).owed t₀.castSucc = O c 0 from rfl]
  iexists K
  isplitr
  · unfold Ctx; isplitl; · iexact HR
    iexact Hlev
  isplitl [Hx Hw]
  · unfold Xs pt
    isplitl [Hx]; · iexact Hx
    iexact Hw
  isplitl [Hbuf]; · iexact Hbuf
  isplitl [Hout]; · iexact Hout
  isplitl [Hat Htok Hcr]
  · iapply (Sts_intro m ρ K c)
    isplitr
    · unfold Ctx; isplitl; · iexact HR
      iexact Hlev
    isplitl [Hat]; · iexact Hat
    isplitl [Htok]; · iexact Htok
    iexact Hcr
  isplitl [HO]; · iexists W; iexact HO
  iexact Hev

/-- What the run ends with is what the body hands back. -/
theorem body_post (c : Dev nD) : Finish m ρ c ⊢ bodyPost m ρ c := by
  unfold bodyPost Φ₁ Finish Xs pt Ow
  unfold Dat.owesAt Pipeline.owesWithin
  rw [show (dats m ρ 0 c).owed t₀.succ = 0 from rfl, O_last]
  iintro ⟨⟨Hx, Hw⟩, Hb, Ho, Hs, ⟨⟨%W, HO⟩, -⟩⟩
  isplitl [Hb Ho Hs]
  · isplitl [Hb]; · iexact Hb
    isplitl [Ho] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hw

/-- The body's run between what the launch hands over and takes back. -/
theorem body_run (c : Dev nD) : bodyPre m ρ c ⊢ WP c (cc0__body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0) fun _ => bodyPost m ρ c := by
  refine (body_pre m ρ c).trans ?_
  iintro ⟨%K, H⟩
  iapply ((body_ok m ρ K c).trans (Idealize.SL.Sem.wp_mono frame (wpE (defs₀ (F := F)) 𝒱₀ (c : Thread nD τ) none) Set.univ fun _ => body_post m ρ c))
  iexact H

set_option maxRecDepth 4000 in
/-- The kernel's body runs from what the call hands it. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ (cc0__body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scoped0) (fun _ => bodyPost m ρ c)
  exact body_run m ρ c

/-! ## The side conditions -/

/-- The inputs are owned in full. -/
theorem share_eq (c : Dev nD) (w : Fin cfg0.W) : (dats m ρ 0 c).share w = fullShare := by unfold Dat.share; split <;> rfl

/-- What the launch leaves outside of the call, with the credits, is the device's start. -/
theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m ρ c)
      ⊢ |={Set.univ}=> iprop(start m ρ c ∗ emp) := by
  rw [Pipeline.unscopedRestP_none, unscopedRest0_eq]
  iintro ⟨Ho, Hlev, Hcr, -, HG⟩
  ihave Hc := (credits (F := F) c) $$ Hcr
  imodintro
  unfold start ptAny pt
  isplitl
  · isplitl [HG]; · iexact HG
    isplitl [Hlev]; · iexact Hlev
    isplitl [Hc]; · iexact Hc
    iexists _; iexact Ho
  · iempintro

/-- The start and the scratch buffers are what holds before the step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ BufIn ptAny pt
  iintro ⟨Hs, -, Hr⟩
  isplitl [Hs]; · iexact Hs
  iexact Hr

/-- What is read off device `c` at the end. -/
def Y (c : Dev nD) : sProp 𝕄 := iprop(pt c main_v1 Finset.univ fullShare (outF m ρ c) ∗ unscopedSems0 c)

/-- After the step the result, the semaphores and the scratch buffers are given back. -/
theorem phi1_exit (c : Dev nD) :
    (dats m ρ 0 c).Φ (Fin.last cfg0.N) ⊢ iprop(Y m ρ c ∗ Pipeline.ownSems0 osem c ∗ Pipeline.scopedRest cfg0.spec c) := by
  rw [show (dats m ρ 0 c).Φ (Fin.last cfg0.N) = Φ₁ m ρ c from rfl, scopedRest0_eq]
  unfold Φ₁ Y
  rw [← sems0_eq]
  unfold BufIn ptAny pt
  iintro ⟨Hb, Ho, Hs, Hu⟩
  isplitl [Ho Hu]
  · isplitl [Ho] <;> iassumption
  isplitl [Hs]; · iexact Hs
  iexact Hb

/-- The waits for the inputs' copies are below everything that a device owes. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | t, ht⟩
    · exact mayWait c _ 0 0 (by decide) (Or.inr (by fin_cases w <;> fin_cases s <;> decide))
    · have h := mayWait (F := F) c (SemLoc.dma (((cfgs 0).win w).sem s)) 0 135 (by decide) (Or.inl rfl)
      rw [O_last] at h
      exact h

/-! ## The run -/

/-- What is read off device `c`'s state at the end. -/
def QY (c : Dev nD) (s : MemSt nD τ sig (Elt F)) : Prop :=
  s.mem ((c : Thread nD τ).loc main_v1) = outF m ρ c ∧ ∀ sm : SemLoc sig, sm.isScoped .tc = false → s.sem ((c.tc : Thread nD τ), sm) = 0

/-- At the end the memory holds the result that the run names. -/
theorem read_Y (c : Dev nD) (s' : Phys nD τ sig (Elt F)) :
    iprop(Y m ρ c ∗ emp ∗ SI s') ⊢ |={Set.univ}=> iprop(⌜QY m ρ c s'.mem⌝ ∗ SI s' : sProp 𝕄) := by
  unfold Y pt
  iintro ⟨⟨Ho, Hu⟩, -, HSI⟩
  ihave %h := (SI_pointsTo_agree (ℓ := (c : Thread nD τ).loc main_v1) (I := Finset.univ) (q := fullShare) (f := outF m ρ c)) $$ [Ho HSI]
  · isplitl [HSI] <;> iassumption
  imod (Pipeline.unscopedSems0_read (X := unscopedSems0 c) (c := c) fupd_intro s') $$ [Hu HSI] with ⟨%h2, HSI⟩
  · isplitl [Hu] <;> iassumption
  imodintro
  isplitr
  · ipureintro; exact ⟨funext fun i => h i (Finset.mem_univ i), h2⟩
  iexact HSI

/-- The windows' arrays at the end. -/
def finalA (c : Dev nD) (w : Fin cfg0.W) : Buf (Elt F) ((cfg0.win w).arr.view.loc (c : Thread nD τ)) := (dats m ρ 0 c).arrAt w cfg0.N

/-- What every run ends in. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outF m ρ c

/-- The first argument is unchanged. -/
theorem finalA_0 (c : Dev nD) : finalA m ρ c (0 : Fin 2) = m ((c : Thread nD τ).loc main_arg0) := (dats (F := F) m ρ 0 c).arrAt_in (0 : Fin 2) rfl _
/-- The second argument is unchanged. -/
theorem finalA_1 (c : Dev nD) : finalA m ρ c (1 : Fin 2) = m ((c : Thread nD τ).loc main_arg1) := (dats (F := F) m ρ 0 c).arrAt_in (1 : Fin 2) rfl _

set_option maxRecDepth 8000 in
/-- For any float values, from any memory with the semaphores at zero: every weakly fair run of the sixteen devices ends, with both operands
    as they were, the result at `outF` on every device and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := Y m ρ) (Z := fun _ => iprop(emp))
    (hX := start_intro m ρ) (hin := phi0_intro m ρ) (hout := phi1_exit m ρ)
    (QY := QY m ρ) (hY := read_Y m ρ)
    (hQ := fun s h hs => ⟨fun c => ⟨((h c).1 (0 : Fin 2)).trans (finalA_0 m ρ c), ((h c).1 (1 : Fin 2)).trans (finalA_1 m ρ c), (h c).2.2.1⟩, sem_eq_zero hs fun c => (h c).2.2.2⟩)

end Cert.Talk

end
-- ==== Proof.FrameK.lean ====
module

public import proofs.«01_k».proof.Defs
public import proofs.«01_k».proof.Proof.Gen.Kernel
public import proofs.«01_k».proof.Proof.Launch

/-!
# The two frames of the kernel

The two printed programs are one text, so the run of the one at bits is the run of the other.
-/

@[expose] public section

noncomputable section

namespace Cert.Talk

open Idealize.ShloMosaic Idealize.SL.Sem

set_option maxRecDepth 65536 in
/-- The two programs' kernels are one. -/
theorem defs₀_same : @Cert.Kernel.defs₀ Bits _ _ = @Cert.KernelIdeal.defs₀ Bits _ _ := by
  unfold Cert.Kernel.defs₀ Cert.KernelIdeal.defs₀
  refine congrArg Defs.onTc (funext fun l => ?_)
  match l with
  | ⟨0, _⟩ => rfl
  | ⟨n + 1, h⟩ => exact absurd h (Nat.not_lt.2 (Nat.le_add_left _ _))
set_option maxRecDepth 65536 in
/-- So are their tables. -/
theorem defs_same : @Cert.Kernel.defs Bits _ _ = @Cert.KernelIdeal.defs Bits _ _ := by
  unfold Cert.Kernel.defs Cert.KernelIdeal.defs
  exact congrArg (Pipeline.defs (Cert.KernelIdeal.pcfgs (F := Bits))) defs₀_same

set_option maxRecDepth 65536 in
/-- The kernel over bits runs, leaves its operands as they were and every semaphore at zero. -/
theorem frame_kernel : Cert.quiescent_Kernel := fun m ρ _ => by
  rw [defs_same]
  exact (θ_run (Cert.KernelIdeal.defs (F := Bits)) (onTc (τ := Cert.KernelIdeal.τ) (Cert.KernelIdeal.main (F := Bits))) (s₀ m ρ)).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) (fun _ h => ⟨fun c => ⟨(h.1 c).1, (h.1 c).2.1⟩, h.2⟩) (run_main (F := Bits) m ρ)

/-- The same over the extended reals. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩) (run_main (F := Ideal) m ρ)

end Cert.Talk

end
-- ==== Proof.Pays.lean ====
module

public import proofs.«01_k».proof.Proof.Gen.KernelIdeal
public import proofs.«01_k».proof.Proof.Gen.KernelIdeal.Skeleton
public import Idealize.ShloMosaic.Lib.Pointwise

/-!
# The payloads at an index

What each pure value of the kernel is, read at an index, when floats are extended reals.
-/

@[expose] public section

noncomputable section

namespace Cert.Talk

open Cert.KernelIdeal Cert.KernelIdeal.Gen Idealize.ShloMosaic

/-- The bit pattern of 448 as an extended real. -/
abbrev top8 : EReal := Ideal.ofBits .f32 0x43E00000#32

/-- The bit pattern of minus infinity. -/
theorem ninf : Ideal.ofBits .f32 4286578688#32 = (⊥ : EReal) := by
  simp [Ideal.ofBits, Ideal.ieee]

/-- The bit pattern of 448 is 448. -/
theorem top8_eq : top8 = ((448 : ℝ) : EReal) := by
  simp [top8, Ideal.ofBits, Ideal.ieee]
  rw [← EReal.coe_mul]; norm_num

/-- A product of a row chunk with the left half's weights. -/
theorem pay3_apply (x : Vec Ideal S256x256 .f32) (w : Vec Ideal S256x4096 .f32) (r : Fin 256) (l : Fin 4096) :
    k0_pay3 x w (ix2 r l) = ∑ k : Fin 256, x (ix2 r k) * w (ix2 k l) := by
  pointwise [k0_pay3]

/-- A product of a row chunk with the right half's weights. -/
theorem pay4_apply (x : Vec Ideal S256x256 .f32) (w : Vec Ideal S256x4096 .f32) (r : Fin 256) (l : Fin 4096) :
    k0_pay4 x w (ix2 r l) = ∑ k : Fin 256, x (ix2 r k) * w (ix2 k l) := by
  pointwise [k0_pay4]

/-- What came from the left plus the own part. -/
theorem pay5_apply (a b : Vec Ideal S256x4096 .f32) (i : S256x4096.Idx) : k0_pay5 a b i = a i + b i := by
  pointwise [k0_pay5]

/-- What came from the right plus the own part. -/
theorem pay10_apply (a b : Vec Ideal S256x4096 .f32) (i : S256x4096.Idx) : k0_pay10 a b i = a i + b i := by
  pointwise [k0_pay10]

/-- The scale. -/
theorem pay13_eq (a : EReal) : k0_pay13 (F := Ideal) a = Ideal.div a top8 := by
  pointwise [k0_pay13]

/-- The inverse scale. -/
theorem pay14_eq (a : EReal) : k0_pay14 (F := Ideal) a = if 0 < a then Ideal.div top8 a else 0 := by
  pointwise [k0_pay14]

/-- The quantised left chunk. -/
theorem pay15_apply (a : EReal) (y : Vec Ideal S256x4096 .f32) (i : S256x4096.Idx) :
    k0_pay15 (F := Ideal) a y i = min (max (y i) 0 * k0_pay14 (F := Ideal) a) top8 := by
  pointwise [k0_pay15]

/-- The quantised right chunk. -/
theorem pay18_apply (s : EReal) (y : Vec Ideal S256x4096 .f32) (i : S256x4096.Idx) :
    k0_pay18 (F := Ideal) s y i = min (max (y i) 0 * s) top8 := by
  pointwise [k0_pay18]

/-- The quantised left chunk as the slot holds it. -/
theorem pay16_apply (y : Vec Ideal S256x4096 .f32) (r : Fin 256) (l : Fin 4096) : k0_pay16 y (ix3 0 r l) = y (ix2 r l) := by
  pointwise [k0_pay16]

/-- The quantised right chunk as the slot holds it. -/
theorem pay19_apply (y : Vec Ideal S256x4096 .f32) (r : Fin 256) (l : Fin 4096) : k0_pay19 y (ix3 0 r l) = y (ix2 r l) := by
  pointwise [k0_pay19]

/-- A left chunk that arrived, back at its scale. -/
theorem pay1_apply (s : EReal) (q : Vec Ideal S1x256x4096 .fp8e4m3) (r : Fin 256) (l : Fin 4096) :
    k0_pay1 (F := Ideal) s q (ix2 r l) = q (ix3 0 r l) * s := by
  pointwise [k0_pay1]

/-- A right chunk that arrived, back at its scale. -/
theorem pay2_apply (s : EReal) (q : Vec Ideal S1x256x4096 .fp8e4m3) (r : Fin 256) (l : Fin 4096) :
    k0_pay2 (F := Ideal) s q (ix2 r l) = q (ix3 0 r l) * s := by
  pointwise [k0_pay2]

/-- The own left chunk, back at its scale. -/
theorem pay17_apply (a : EReal) (y : Vec Ideal S256x4096 .f32) (i : S256x4096.Idx) :
    k0_pay17 (F := Ideal) a y i = y i * k0_pay13 (F := Ideal) a := by
  pointwise [k0_pay17]

/-- The own right chunk, back at its scale. -/
theorem pay20_apply (s : EReal) (y : Vec Ideal S256x4096 .f32) (i : S256x4096.Idx) : k0_pay20 (F := Ideal) s y i = y i * s := by
  pointwise [k0_pay20]

/-- The maximum of a device's two chunks. -/
theorem pay11_le (a b : Vec Ideal S256x4096 .f32) (i : S1x128.Idx) (t : EReal) :
    k0_pay11 a b i ≤ t ↔ (∀ j, a j ≤ t) ∧ ∀ j, b j ≤ t := by
  pointwise [k0_pay11]
  rw [ninf, max_le_iff, Finset.fold_max_le, Finset.fold_max_le]
  constructor
  · rintro ⟨⟨-, ha⟩, -, hb⟩
    exact ⟨fun j => by rw [eq_ix2 j]; exact ha (j 0, j 1) (Finset.mem_univ _), fun j => by rw [eq_ix2 j]; exact hb (j 0, j 1) (Finset.mem_univ _)⟩
  · rintro ⟨ha, hb⟩
    exact ⟨⟨bot_le, fun x _ => ha _⟩, bot_le, fun x _ => hb _⟩

/-- The maximum of all devices. -/
theorem pay12_le (v : Vec Ideal S16x128 .f32) (t : EReal) :
    k0_pay12 (F := Ideal) v ≤ t ↔ (∀ j, v j ≤ t) ∧ 0 ≤ t := by
  pointwise [k0_pay12]
  rw [ninf, max_le_iff, Finset.fold_max_le]
  constructor
  · rintro ⟨⟨-, ha⟩, h0⟩
    exact ⟨fun j => by rw [eq_ix2 j]; exact ha (j 0, j 1) (Finset.mem_univ _), h0⟩
  · rintro ⟨ha, h0⟩
    exact ⟨⟨bot_le, fun x _ => ha _⟩, h0⟩

end Cert.Talk

end
-- ==== Proof.Sums.lean ====
module

public import proofs.«01_k».proof.Proof.Proto
public import proofs.«01_k».proof.Proof.Pays
public import Idealize.ShloMosaic.Lib.Layout

/-!
# The sums

The partial products that a device adds up along the ring are, at the end, one row chunk of the whole product.
-/

@[expose] public section

noncomputable section

namespace Cert.Talk

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg)

/-- A row of a staged left operand is a row of the argument. -/
theorem xat_apply (c r : Dev nD) (a k : Fin 256) :
    xat (xstg m ρ c) ![256 * r.val, 0] (xat_inb r) (ix2 a k)
      = m ((c.tc : Thread nD τ).loc main_arg0) (ix2 (n0 := 4096) (n1 := 256) ⟨256 * r.val + a.val, by have := r.isLt; have := a.isLt; simp only [nD] at *; omega⟩ k) := by
  show m ((c.tc : Thread nD τ).loc main_arg0) _ = _
  refine congrArg _ (funext fun b => Fin.ext ?_)
  match b with
  | ⟨0, _⟩ => show 0 * 4096 + 1 * (256 * r.val + 1 * a.val) = 256 * r.val + a.val; omega
  | ⟨1, _⟩ => show 0 * 256 + 1 * (0 + 1 * k.val) = k.val; omega

/-- A column of a staged right operand's left half is a column of the argument. -/
theorem watP_apply (c : Dev nD) (k : Fin 256) (l : Fin 4096) :
    wat (wstg m ρ c) ![0, 0] wat_inbP (ix2 k l)
      = m ((c.tc : Thread nD τ).loc main_arg1) (ix2 (n0 := 256) (n1 := 8192) k ⟨l.val, by omega⟩) := by
  show m ((c.tc : Thread nD τ).loc main_arg1) _ = _
  refine congrArg _ (funext fun b => Fin.ext ?_)
  match b with
  | ⟨0, _⟩ => show 0 * 256 + 1 * (0 + 1 * k.val) = k.val; omega
  | ⟨1, _⟩ => show 0 * 8192 + 1 * (0 + 1 * l.val) = l.val; omega

/-- A column of a staged right operand's right half is a column of the argument. -/
theorem watN_apply (c : Dev nD) (k : Fin 256) (l : Fin 4096) :
    wat (wstg m ρ c) ![0, 4096] wat_inbN (ix2 k l)
      = m ((c.tc : Thread nD τ).loc main_arg1) (ix2 (n0 := 256) (n1 := 8192) k ⟨4096 + l.val, by omega⟩) := by
  show m ((c.tc : Thread nD τ).loc main_arg1) _ = _
  refine congrArg _ (funext fun b => Fin.ext ?_)
  match b with
  | ⟨0, _⟩ => show 0 * 256 + 1 * (0 + 1 * k.val) = k.val; omega
  | ⟨1, _⟩ => show 0 * 8192 + 1 * (4096 + 1 * l.val) = 4096 + l.val; omega

/-- What a device has accumulated on the left half is the sum over the devices its chunk has visited. -/
theorem accP_sum (k : ℕ) (c : Dev nD) (i : S256x4096.Idx) :
    accP m ρ k c i = ∑ t ∈ Finset.range (k + 1), gP m ρ (dv c (15 * t)) (dv c (15 * k)) i := by
  induction k generalizing c with
  | zero => rw [Finset.sum_range_one, Nat.mul_zero, dv_zero c (by omega)]; rfl
  | succ k ih =>
    rw [Finset.sum_range_succ', accP, pay5_apply, ih]
    simp only [dv_dv, Nat.mul_zero, dv_zero c (by omega : 0 % 16 = 0)]
    simp only [show ∀ t, 15 + 15 * t = 15 * (t + 1) from fun t => by omega]

/-- What a device has accumulated on the right half is the sum over the devices its chunk has visited. -/
theorem accN_sum (k : ℕ) (c : Dev nD) (i : S256x4096.Idx) :
    accN m ρ k c i = ∑ t ∈ Finset.range (k + 1), gN m ρ (dv c t) (dv c k) i := by
  induction k generalizing c with
  | zero => rw [Finset.sum_range_one, dv_zero c (by omega)]; rfl
  | succ k ih =>
    rw [Finset.sum_range_succ', accN, pay10_apply, ih]
    simp only [dv_dv, dv_zero c (by omega : 0 % 16 = 0)]
    simp only [show ∀ t, 1 + t = t + 1 from fun t => by omega]

/-- A sum over all steps to the right is the sum over all devices. -/
theorem sum_dv (c : Dev nD) (f : Dev nD → EReal) : ∑ t ∈ Finset.range 16, f (dv c t) = ∑ d : Dev nD, f d := by
  rw [← Fin.sum_univ_eq_sum_range (fun t => f (dv c t)) 16]
  refine Fintype.sum_bijective (fun t : Fin 16 => dv c t.val) ?_ _ _ fun _ => rfl
  refine (Finite.injective_iff_bijective).mp fun s t h => ?_
  have := congrArg Fin.val h
  have hs := s.isLt; have ht := t.isLt
  simp only [dv_val] at this
  exact Fin.ext (by omega)

/-- A sum over all steps to the left is the sum over all devices. -/
theorem sum_dv' (c : Dev nD) (f : Dev nD → EReal) : ∑ t ∈ Finset.range 16, f (dv c (15 * t)) = ∑ d : Dev nD, f d := by
  rw [← Fin.sum_univ_eq_sum_range (fun t => f (dv c (15 * t))) 16]
  refine Fintype.sum_bijective (fun t : Fin 16 => dv c (15 * t.val)) ?_ _ _ fun _ => rfl
  refine (Finite.injective_iff_bijective).mp fun s t h => ?_
  have := congrArg Fin.val h
  have hs := s.isLt; have ht := t.isLt
  simp only [dv_val] at this
  exact Fin.ext (by omega)

variable (X : (⟨2, ![4096, 4096]⟩ : Shape).Idx → EReal) (W : (⟨2, ![4096, 8192]⟩ : Shape).Idx → EReal)

/-- The devices hold the column blocks of `X` and the row blocks of `W`. -/
def Holds : Prop := ∀ c : Dev nD,
  m ((c.tc : Thread nD τ).loc main_arg0) = Layout.block ⟨2, ![4096, 256]⟩ ⟨2, ![4096, 4096]⟩ 1 16 c X
  ∧ m ((c.tc : Thread nD τ).loc main_arg1) = Layout.block ⟨2, ![256, 8192]⟩ ⟨2, ![4096, 8192]⟩ 0 16 c W

/-- The whole product. -/
def prod (i : Fin 4096) (j : Fin 8192) : EReal := ∑ k : Fin 4096, X (ix2 i k) * W (ix2 k j)

/-- A sum over all columns of `X`, block by block. -/
theorem sum_blocks (f : Fin 4096 → EReal) :
    ∑ k : Fin 4096, f k = ∑ d : Dev nD, ∑ k : Fin 256, f ⟨256 * d.val + k.val, by have := d.isLt; simp only [nD] at *; omega⟩ := by
  have e := Fintype.sum_prod_type' (α₁ := Fin 16) (α₂ := Fin 256) (fun d k => f ⟨256 * d.val + k.val, by omega⟩)
  refine Eq.trans ?_ e
  refine (Fintype.sum_equiv (finProdFinEquiv (m := 16) (n := 256)) _ _ fun p => ?_).symm
  refine congrArg f (Fin.ext ?_)
  show 256 * p.1.val + p.2.val = p.2.val + 256 * p.1.val
  omega

/-- A block of the left operand by its coordinates. -/
theorem blockX (c : Dev nD) (a : Fin 4096) (k : Fin 256) :
    Layout.block ⟨2, ![4096, 256]⟩ ⟨2, ![4096, 4096]⟩ 1 16 c X (by decide) (ix2 a k)
      = X (ix2 a ⟨256 * c.val + k.val, by have := c.isLt; simp only [nD] at *; omega⟩) := by
  rw [Layout.block_apply]
  refine congrArg X (funext fun b => Fin.ext ?_)
  match b with
  | ⟨0, _⟩ => rfl
  | ⟨1, _⟩ => show c.val * 256 + k.val = 256 * c.val + k.val; omega

/-- A block of the right operand by its coordinates. -/
theorem blockW (c : Dev nD) (k : Fin 256) (j : Fin 8192) :
    Layout.block ⟨2, ![256, 8192]⟩ ⟨2, ![4096, 8192]⟩ 0 16 c W (by decide) (ix2 k j)
      = W (ix2 ⟨256 * c.val + k.val, by have := c.isLt; simp only [nD] at *; omega⟩ j) := by
  rw [Layout.block_apply]
  refine congrArg W (funext fun b => Fin.ext ?_)
  match b with
  | ⟨0, _⟩ => show c.val * 256 + k.val = 256 * c.val + k.val; omega
  | ⟨1, _⟩ => rfl

/-- The finished left half of a device is the product's chunk to its right. -/
theorem accP_prod (h : Holds m X W) (c : Dev nD) (a : Fin 256) (l : Fin 4096) :
    accP m ρ 15 c (ix2 a l) = prod X W ⟨256 * (dv c 1).val + a.val, by have := (dv c 1).isLt; simp only [nD] at *; omega⟩ ⟨l.val, by omega⟩ := by
  rw [accP_sum, show dv c (15 * 15) = dv c 1 from Fin.ext (by simp only [dv_val]; omega),
    sum_dv' c (fun d => gP m ρ d (dv c 1) (ix2 a l)), prod, sum_blocks]
  refine Finset.sum_congr rfl fun d _ => ?_
  rw [gP, pay3_apply]
  refine Finset.sum_congr rfl fun k _ => ?_
  rw [xat_apply, watP_apply, (h d).1, (h d).2, blockX, blockW]

/-- The finished right half of a device is the product's chunk to its left. -/
theorem accN_prod (h : Holds m X W) (c : Dev nD) (a : Fin 256) (l : Fin 4096) :
    accN m ρ 15 c (ix2 a l) = prod X W ⟨256 * (dv c 15).val + a.val, by have := (dv c 15).isLt; simp only [nD] at *; omega⟩ ⟨4096 + l.val, by omega⟩ := by
  rw [accN_sum, sum_dv c (fun d => gN m ρ d (dv c 15) (ix2 a l)), prod, sum_blocks]
  refine Finset.sum_congr rfl fun d _ => ?_
  rw [gN, pay4_apply]
  refine Finset.sum_congr rfl fun k _ => ?_
  rw [xat_apply, watN_apply, (h d).1, (h d).2, blockX, blockW]

end Cert.Talk

end
-- ==== Proof.Quant.lean ====
module

public import proofs.«01_k».proof.Proof.Pays

/-!
# The quantiser on one entry

The kernel multiplies by the inverse scale, the reference divides by the scale and takes the sign apart. On an entry that
is at most the greatest one they agree, whatever the greatest one is: nought, a real number or infinite.
-/

@[expose] public section

noncomputable section

namespace Cert.Talk

open Idealize.ShloMosaic

/-- One entry quantised by the greatest one, `A`, and brought back to its scale, as the kernel does it. -/
def quant (A y : EReal) : EReal := min (max y 0 * (if 0 < A then Ideal.div top8 A else 0)) top8 * Ideal.div A top8

/-- A value snapped with its sign taken apart, brought back to the scale `s`, as the reference does it. -/
def snap (v s : EReal) : EReal := (if 0 < v then 1 else if v < 0 then Ideal.ofBits .f32 3212836864#32 else 0) * min (max v (-v)) top8 * s

/-- The same entry as the reference does it. -/
def quantR (A y : EReal) : EReal := snap (Ideal.div (max y 0) (Ideal.div A top8)) (Ideal.div A top8)

/-- A quotient of reals. -/
theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- Dividing by the top value is multiplying by a positive real. -/
theorem div_top8 (x : EReal) : Ideal.div x top8 = x * (((448 : ℝ)⁻¹ : ℝ) : EReal) := by
  rw [top8_eq, Ideal.div, if_neg (by norm_num), EReal.coe_inv]

/-- Dividing by infinity gives nought. -/
theorem div_inf (x : EReal) : Ideal.div x ⊤ = 0 := by
  rw [Ideal.div, if_neg (by simp), EReal.inv_top, mul_zero]

/-- The two quantisers agree on an entry that is at most the greatest one. -/
theorem quant_eq (A y : EReal) (h : max y 0 ≤ A) : quant A y = quantR A y := by
  unfold quant quantR snap
  generalize hr : max y 0 = r at h ⊢
  have hr0 : 0 ≤ r := hr ▸ le_max_right _ _
  have hA0 : 0 ≤ A := hr0.trans h
  by_cases hz : A = 0
  · subst hz
    rw [div_top8, zero_mul, mul_zero, mul_zero]
  by_cases ht : A = ⊤
  · subst ht
    have hs : Ideal.div ⊤ top8 = ⊤ := by
      rw [div_top8, EReal.top_mul_coe_of_pos (by norm_num)]
    rw [hs, div_inf, div_inf, if_pos (by simp), mul_zero, top8_eq, min_eq_left (by exact_mod_cast (by norm_num : (0:ℝ) ≤ 448))]
    simp
  · have hb : r ≠ ⊤ := fun e => ht (top_le_iff.mp (e ▸ h))
    have hAb : A ≠ ⊥ := fun e => by rw [e] at hA0; exact absurd hA0 (by simp)
    have hrb : r ≠ ⊥ := fun e => by rw [e] at hr0; exact absurd hr0 (by simp)
    lift A to ℝ using ⟨ht, hAb⟩
    lift r to ℝ using ⟨hb, hrb⟩
    have hA : A ≠ 0 := fun e => hz (by rw [e]; rfl)
    have hA0' : 0 ≤ A := by exact_mod_cast hA0
    have hAp : 0 < A := lt_of_le_of_ne hA0' (Ne.symm hA)
    have hr0' : 0 ≤ r := by exact_mod_cast hr0
    rw [if_pos (by exact_mod_cast hAp), top8_eq, div_coe _ _ hA, div_coe _ _ (by norm_num), div_coe _ _ (by positivity), ← EReal.coe_mul]
    have e : r * (448 / A) = r / (A / 448) := by field_simp
    rw [e]
    generalize hv : r / (A / 448) = v
    have hv0 : 0 ≤ v := hv ▸ by positivity
    have hm : max (v : EReal) (-(v : EReal)) = v := max_eq_left (by
      rw [← EReal.coe_neg]; exact_mod_cast (by linarith : -v ≤ v))
    rw [hm]
    by_cases hp : 0 < v
    · rw [if_pos (by exact_mod_cast hp), one_mul]
    · have : v = 0 := le_antisymm (not_lt.mp hp) hv0
      subst this
      rw [if_neg (by simp), if_neg (by simp), zero_mul, min_eq_left (by exact_mod_cast (by norm_num : (0:ℝ) ≤ 448))]
      rfl

end Cert.Talk

end
-- ==== Proof.Out.lean ====
module

public import proofs.«01_k».proof.Proof.Sums
public import proofs.«01_k».proof.Proof.Quant

/-!
# The kernel's result

Every entry of every device's result is the product's entry, cut off below at nought, quantised with the greatest entry's
scale and brought back to it.
-/

@[expose] public section

noncomputable section

namespace Cert.Talk

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg)
variable (X : (⟨2, ![4096, 4096]⟩ : Shape).Idx → EReal) (W : (⟨2, ![4096, 8192]⟩ : Shape).Idx → EReal)

/-- The left half of chunk `d` is what the device before it has. -/
theorem accP_before (h : Holds m X W) (d : Dev nD) (a : Fin 256) (l : Fin 4096) :
    accP m ρ 15 (dv d 15) (ix2 a l) = prod X W ⟨256 * d.val + a.val, by have := d.isLt; simp only [nD] at *; omega⟩ ⟨l.val, by omega⟩ := by
  rw [accP_prod m ρ X W h]
  have e : dv (dv d 15) 1 = d := by rw [dv_dv, dv_zero d (by omega)]
  simp only [e]

/-- The right half of chunk `d` is what the device after it has. -/
theorem accN_after (h : Holds m X W) (d : Dev nD) (a : Fin 256) (l : Fin 4096) :
    accN m ρ 15 (dv d 1) (ix2 a l) = prod X W ⟨256 * d.val + a.val, by have := d.isLt; simp only [nD] at *; omega⟩ ⟨4096 + l.val, by omega⟩ := by
  rw [accN_prod m ρ X W h]
  have e : dv (dv d 1) 15 = d := by rw [dv_dv, dv_zero d (by omega)]
  simp only [e]

/-- A bound of a device's maximum is a bound of its two halves. -/
theorem MB_le (i : S16x128.Idx) (t : EReal) :
    (show EReal from MB m ρ i) ≤ t ↔ (∀ j, accP m ρ 15 (i 0) j ≤ t) ∧ ∀ j, accN m ρ 15 (i 0) j ≤ t :=
  pay11_le (accP m ρ 15 (i 0)) (accN m ρ 15 (i 0)) (inRow i) t

/-- The maximum that every device works with is the least bound of the product's entries and nought. -/
theorem amx_le (h : Holds m X W) (t : EReal) :
    amx m ρ ≤ t ↔ (∀ i j, prod X W i j ≤ t) ∧ 0 ≤ t := by
  rw [amx, pay12_le]
  refine and_congr_left fun _ => ?_
  constructor
  · intro hv i j
    let d : Dev nD := ⟨i.val / 256, by show _ < 16; omega⟩
    by_cases hj : j.val < 4096
    · have := hv (ix2 (n0 := 16) (n1 := 128) (dv d 15) 0)
      have := ((MB_le m ρ (ix2 (n0 := 16) (n1 := 128) (dv d 15) 0) t).mp this).1 (ix2 (n0 := 256) (n1 := 4096) ⟨i.val % 256, by omega⟩ ⟨j.val, hj⟩)
      have e := accP_before m ρ X W h d ⟨i.val % 256, by omega⟩ ⟨j.val, hj⟩
      rw [show prod X W i j = _ from (e.trans (congrArg₂ (prod X W) (Fin.ext (by show 256 * (i.val / 256) + i.val % 256 = i.val; omega)) (Fin.ext rfl))).symm]
      exact this
    · have := hv (ix2 (n0 := 16) (n1 := 128) (dv d 1) 0)
      have := ((MB_le m ρ (ix2 (n0 := 16) (n1 := 128) (dv d 1) 0) t).mp this).2 (ix2 (n0 := 256) (n1 := 4096) ⟨i.val % 256, by omega⟩ ⟨j.val - 4096, by omega⟩)
      have e := accN_after m ρ X W h d ⟨i.val % 256, by omega⟩ ⟨j.val - 4096, by omega⟩
      rw [show prod X W i j = _ from (e.trans (congrArg₂ (prod X W) (Fin.ext (by show 256 * (i.val / 256) + i.val % 256 = i.val; omega)) (Fin.ext (by show 4096 + (j.val - 4096) = j.val; omega)))).symm]
      exact this
  · intro hp j
    refine (MB_le m ρ _ _).mpr ⟨fun i => ?_, fun i => ?_⟩
    · rw [eq_ix2 i]; refine (accP_prod m ρ X W h (j 0) (i 0) (i 1)).trans_le (hp _ _)
    · rw [eq_ix2 i]; refine (accN_prod m ρ X W h (j 0) (i 0) (i 1)).trans_le (hp _ _)

/-- An entry of a left chunk of a device's result. -/
theorem blkP_apply (h : Holds m X W) (c d : Dev nD) (a : Fin 256) (l : Fin 4096) :
    blkP m ρ c d (ix2 a l) = quant (amx m ρ) (prod X W ⟨256 * d.val + a.val, by have := d.isLt; simp only [nD] at *; omega⟩ ⟨l.val, by omega⟩) := by
  rw [← accP_before m ρ X W h d a l, quant, ← pay13_eq, ← pay14_eq, ← pay15_apply]
  unfold blkP
  by_cases hd : d = dv c 1
  · have e : dv d 15 = c := by rw [hd, dv_dv, dv_zero c (by omega)]
    rw [if_pos hd, pay17_apply, e]; rfl
  · rw [if_neg hd, pay1_apply]
    show k0_pay16 (F := Ideal) (qsP m ρ (dv d 15)) (ix3 0 a l) * _ = _
    rw [pay16_apply]; rfl

/-- An entry of a right chunk of a device's result. -/
theorem blkN_apply (h : Holds m X W) (c d : Dev nD) (a : Fin 256) (l : Fin 4096) :
    blkN m ρ c d (ix2 a l) = quant (amx m ρ) (prod X W ⟨256 * d.val + a.val, by have := d.isLt; simp only [nD] at *; omega⟩ ⟨4096 + l.val, by omega⟩) := by
  rw [← accN_after m ρ X W h d a l, quant, ← pay13_eq, ← pay14_eq, ← pay18_apply]
  unfold blkN
  by_cases hd : d = dv c 15
  · have e : dv d 1 = c := by rw [hd, dv_dv, dv_zero c (by omega)]
    rw [if_pos hd, pay20_apply, e]; rfl
  · rw [if_neg hd, pay2_apply]
    show k0_pay19 (F := Ideal) (qsN m ρ (dv d 1)) (ix3 0 a l) * _ = _
    rw [pay19_apply]; rfl

/-- An entry of a device's result. -/
theorem outF_apply (h : Holds m X W) (c : Dev nD) (i : Fin 4096) (j : Fin 8192) :
    outF m ρ c (ix2 (n0 := 4096) (n1 := 8192) i j) = quant (amx m ρ) (prod X W i j) := by
  have hi : 256 * (i.val / 256) + i.val % 256 = i.val := by omega
  have hj := j.isLt
  show (if j.val < 4096 then blkP m ρ c (chunkOf (ix2 i j)) (inBlk (ix2 i j)) else blkN m ρ c (chunkOf (ix2 i j)) (inBlk (ix2 i j))) = _
  by_cases hl : j.val < 4096
  · rw [if_pos hl, eq_ix2 (inBlk (ix2 i j))]
    refine (blkP_apply m ρ X W h c _ _ _).trans (congrArg _ (congrArg₂ (prod X W) (Fin.ext hi) (Fin.ext ?_)))
    show j.val % 4096 = j.val; omega
  · rw [if_neg hl, eq_ix2 (inBlk (ix2 i j))]
    refine (blkN_apply m ρ X W h c _ _ _).trans (congrArg _ (congrArg₂ (prod X W) (Fin.ext hi) (Fin.ext ?_)))
    show 4096 + j.val % 4096 = j.val; omega

end Cert.Talk

end
-- ==== Proof.RefV.lean ====
module

public import proofs.«01_k».proof.Proof.Gen.ReferenceIdeal.Frame
public import proofs.«01_k».proof.Proof.Sums
public import proofs.«01_k».proof.Proof.Quant
public import Idealize.ShloMosaic.Lib.Pointwise
public import Idealize.ShloMosaic.Lib.StableHlo.ReadAt
public import Idealize.ShloMosaic.Lib.Pipeline.ValueKit.Geometry

/-!
# The reference's result

What the reference leaves in its result, entry by entry.
-/

@[expose] public section

set_option maxRecDepth 16384

noncomputable section

namespace Cert.RefV

open Cert.ReferenceIdeal Cert.ReferenceIdeal.Gen Idealize.ShloMosaic Idealize.ShloMosaic.TcCoe
open Idealize.SL.Sem

variable (m : (ℓ : Loc nD τ sig) → Buf (Elt Ideal) ℓ) (ρ : Dev nD → PrngReg)

/-- The left operand. -/
abbrev argX : (⟨2, ![4096, 4096]⟩ : Shape).Idx → EReal := m (((0 : Dev nD).tc : Thread nD τ).loc main_arg0)
/-- The right operand. -/
abbrev argW : (⟨2, ![4096, 8192]⟩ : Shape).Idx → EReal := m (((0 : Dev nD).tc : Thread nD τ).loc main_arg1)

/-- The greatest absolute value of the entries cut off below at nought. -/
def amax (X : (⟨2, ![4096, 4096]⟩ : Shape).Idx → EReal) (W : (⟨2, ![4096, 8192]⟩ : Shape).Idx → EReal) : EReal :=
  Finset.univ.fold max (Ideal.ofBits .f32 4286578688#32) fun x : Fin 4096 × Fin 8192 =>
    max (max (Cert.Talk.prod X W x.1 x.2) 0) (-(max (Cert.Talk.prod X W x.1 x.2) 0))

/-- That value is the least bound of the entries and nought. -/
theorem amax_le (X : (⟨2, ![4096, 4096]⟩ : Shape).Idx → EReal) (W : (⟨2, ![4096, 8192]⟩ : Shape).Idx → EReal) (t : EReal) :
    amax X W ≤ t ↔ (∀ i j, Cert.Talk.prod X W i j ≤ t) ∧ 0 ≤ t := by
  rw [amax, Cert.Talk.ninf, Finset.fold_max_le]
  constructor
  · rintro ⟨-, h⟩
    simp only [Finset.mem_univ, forall_const] at h
    have h' : ∀ (i : Fin 4096) (j : Fin 8192), max (Cert.Talk.prod X W i j) 0 ≤ t := fun i j =>
      le_trans (le_max_left _ _) (h (i, j))
    have z0 : Fin 4096 := ⟨0, by omega⟩
    have z1 : Fin 8192 := ⟨0, by omega⟩
    exact ⟨fun i j => (le_max_left _ _).trans (h' i j), (le_max_right _ _).trans (h' z0 z1)⟩
  · rintro ⟨h, h0⟩
    refine ⟨bot_le, fun x _ => max_le (max_le (h _ _) h0) ?_⟩
    refine le_trans ?_ h0
    have := EReal.neg_le_neg_iff.mpr (le_max_right (Cert.Talk.prod X W x.1 x.2) 0)
    rwa [neg_zero] at this

/-- The scale that the reference hands to its last step. -/
theorem scale_read : (V m 0 main_v7 : S1x1.Idx → EReal) (ix2 (n0 := 1) (n1 := 1) 0 0) = Ideal.div (amax (argX m) (argW m)) Cert.Talk.top8 := by
  unfold V
  after_reads_at
  rfl

/-- The scaled entries that the reference hands to its last step. -/
theorem scaled_read (i : Fin 4096) (j : Fin 8192) : (V m 0 main_v9 : S4096x8192.Idx → EReal) (ix2 (n0 := 4096) (n1 := 8192) i j)
    = Ideal.div (max (Cert.Talk.prod (argX m) (argW m) i j) 0) (Ideal.div (amax (argX m) (argW m)) Cert.Talk.top8) := by
  unfold V
  after_reads_at
  rfl

/-- The last step at an entry. -/
theorem last_apply (v : Vec Ideal S4096x8192 .f32) (s : Vec Ideal S1x1 .f32) (i : Fin 4096) (j : Fin 8192) :
    k0_pay1 (F := Ideal) v s (ix2 i j) = Cert.Talk.snap (v (ix2 i j)) (s (ix2 0 0)) := by
  pointwise [k0_pay1]
  rfl

/-- The one grid point. -/
def t0 : Fin cfg0.N := ⟨0, by show 0 < 1; decide⟩

/-- The region has one grid point, so no two points' blocks meet. -/
theorem one_point : ∀ t t' : Fin cfg0.N, (cfg0.win 2).flush t = true → (cfg0.win 2).flush t' = true → t ≠ t' →
    Disjoint ((cfg0.win 2).blk t).view.set ((cfg0.win 2).blk t').view.set :=
  fun t t' _ _ hne => absurd (show t = t' from Fin.ext (by
    have h : ∀ t : Fin cfg0.N, t.val = 0 := (by decide +kernel : ∀ t : Fin grid0.N, t.val = 0)
    rw [h t, h t'])) hne

/-- The one store covers the whole block. -/
theorem block_out (x0 : Vec Ideal S4096x8192 .f32) (x1 : Vec Ideal S1x1 .f32) (y : S4096x8192.Idx) :
    out0_2 x0 x1 y = k0_pay1 (View.ld x0 r0_0) (View.ld x1 r0_1) y := by
  unfold out0_2
  refine View.canon_apply_of_pieces (Val := Elt Ideal) (k0_pay1 (F := Ideal) (View.ld x0 r0_0) (View.ld x1 r0_1)) _ ?_ y (cover0_2 _ y)
  intro pc hpc
  rcases List.mem_cons.mp hpc with rfl | hpc
  · intro x
    refine congrArg (k0_pay1 (F := Ideal) (View.ld x0 r0_0) (View.ld x1 r0_1)) (funext fun b => Fin.ext ?_)
    match b with
    | ⟨0, _⟩ => show (x 0).val = 0 + 1 * (x 0).val; omega
    | ⟨1, _⟩ => show (x 1).val = 0 + 1 * (x 1).val; omega
  nomatch hpc

/-- The staged entries are the array's. -/
theorem staged_scaled (i : Fin 4096) (j : Fin 8192) :
    View.ld (iblk m 0 0 t0 : Vec Ideal S4096x8192 .f32) r0_0 (ix2 i j) = (V m 0 main_v9 : S4096x8192.Idx → EReal) (ix2 i j) := by
  show (V m 0 main_v9 : S4096x8192.Idx → EReal) _ = _
  refine congrArg _ (funext fun b => Fin.ext ?_)
  match b with
  | ⟨0, _⟩ => show 0 * 4096 + 1 * (0 + 1 * i.val) = i.val; omega
  | ⟨1, _⟩ => show 0 * 8192 + 1 * (0 + 1 * j.val) = j.val; omega

/-- The staged scale is the array's. -/
theorem staged_scale :
    View.ld (iblk m 0 1 t0 : Vec Ideal S1x1 .f32) r0_1 (ix2 0 0) = (V m 0 main_v7 : S1x1.Idx → EReal) (ix2 0 0) := by
  show (V m 0 main_v7 : S1x1.Idx → EReal) _ = _
  refine congrArg _ (funext fun b => Fin.ext ?_)
  match b with
  | ⟨0, _⟩ => rfl
  | ⟨1, _⟩ => rfl

/-- The array that the region leaves. -/
def res : Buf (Elt Ideal) (((0 : Dev nD).tc : Thread nD τ).loc main_v10) := (dats m 0 0).arrAt 2 cfg0.N

/-- The array that the region leaves, entry by entry. -/
theorem array_read (i : Fin 4096) (j : Fin 8192) :
    (res m : S4096x8192.Idx → EReal) (ix2 (n0 := 4096) (n1 := 8192) i j)
      = Cert.Talk.quantR (amax (argX m) (argW m)) (Cert.Talk.prod (argX m) (argW m) i j) := by
  have h := (dats m 0 0).read_blk_arrAt_eq_flushed 2 one_point cfg0.N t0 t0.isLt rfl
  have h' := congrFun h (ix2 (n0 := 4096) (n1 := 8192) i j)
  have hl : ((cfg0.win 2).blk t0).view.read (Elt Ideal) ((dats m 0 0).arrAt 2 cfg0.N) (ix2 (n0 := 4096) (n1 := 8192) i j)
      = ((dats m 0 0).arrAt 2 cfg0.N : S4096x8192.Idx → EReal) (ix2 (n0 := 4096) (n1 := 8192) i j) := by
    show ((dats m 0 0).arrAt 2 cfg0.N : S4096x8192.Idx → EReal) _ = _
    refine congrArg _ (funext fun b => Fin.ext ?_)
    match b with
    | ⟨0, _⟩ => show 0 * 4096 + 1 * i.val = i.val; omega
    | ⟨1, _⟩ => show 0 * 8192 + 1 * j.val = j.val; omega
  have hr : (dats m 0 0).flushed 2 t0 (ix2 (n0 := 4096) (n1 := 8192) i j)
      = out0_2 (iblk m 0 0 t0) (iblk m 0 1 t0) (ix2 (n0 := 4096) (n1 := 8192) i j) := by
    show (cfg0.win 2).cut (grid0.coords t0) ((dats m 0 0).after 2 t0) (ix2 (n0 := 4096) (n1 := 8192) i j) = _
    rw [after0_2]
    generalize out0_2 (iblk m 0 0 t0) (iblk m 0 1 t0) = Z
    refine (Pipeline.Window.cut_apply (cfg0.win 2) _ Z _).trans ?_
    refine congrArg Z (funext fun b => Fin.ext ?_)
    match b with
    | ⟨0, _⟩ => rfl
    | ⟨1, _⟩ => rfl
  refine hl.symm.trans (h'.trans (hr.trans ?_))
  rw [block_out, last_apply, staged_scaled, staged_scale, scale_read, scaled_read, Cert.Talk.quantR]

/-- The run of the reference: its result by entries, its arguments unchanged. -/
theorem run : θ_run defs (onTc (τ := τ) (main (F := Ideal))) ⟨m, fun _ => 0, ρ⟩ fun r =>
    r.2.mem (((0 : Dev nD).tc : Thread nD τ).loc main_v10) = res m
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1) :=
  (θ_run defs _ _).mono (fun r h => ⟨(h 0).1 2,
    ((h 0).2 main_arg0 (Pipeline.mem_restRefs_of main_arg0 (by decide) (by decide))).trans (V_main_arg0 m 0),
    ((h 0).2 main_arg1 (Pipeline.mem_restRefs_of main_arg1 (by decide) (by decide))).trans (V_main_arg1 m 0)⟩) (run_main m ρ)

end Cert.RefV

end
-- ==== Proof.Algebraic.lean ====
module

public import proofs.«01_k».proof.Defs
public import proofs.«01_k».proof.Proof.FrameK
public import proofs.«01_k».proof.Proof.Out
public import proofs.«01_k».proof.Proof.RefV

/-!
# The kernel computes what the reference computes

Both results, over the extended reals, are the quantised product, entry by entry.
-/

@[expose] public section

set_option maxRecDepth 16384

noncomputable section

namespace Cert.Talk

open Idealize.ShloMosaic Idealize.ShloMosaic.TcCoe Idealize.SL.Sem

/-- Both programs find the same greatest entry. -/
theorem amx_eq (m : (ℓ : Loc KernelIdeal.nD KernelIdeal.τ KernelIdeal.sig) → Buf (Elt Ideal) ℓ) (ρ : Dev KernelIdeal.nD → PrngReg)
    (X : (⟨2, ![4096, 4096]⟩ : Shape).Idx → EReal) (W : (⟨2, ![4096, 8192]⟩ : Shape).Idx → EReal) (h : Holds m X W) :
    amx m ρ = RefV.amax X W :=
  eq_of_forall_ge_iff fun t => (amx_le m ρ X W h t).trans (RefV.amax_le X W t).symm

/-- Every device's result is the reference's. -/
theorem outF_eq (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (h : Holds m (RefV.argX m') (RefV.argW m'))
    (c : Dev KernelIdeal.nD) :
    (outF m ρ c : (⟨2, ![4096, 8192]⟩ : Shape).Idx → EReal) = RefV.res m' := by
  refine funext fun i => ?_
  rw [eq_ix2 i]
  refine (outF_apply m ρ _ _ h c (i 0) (i 1)).trans (Eq.trans ?_ (RefV.array_read m' (i 0) (i 1)).symm)
  rw [amx_eq m ρ _ _ h]
  refine quant_eq _ _ ?_
  have hb := (RefV.amax_le (RefV.argX m') (RefV.argW m') _).mp le_rfl
  exact max_le (hb.1 _ _) hb.2

/-- The value claim. -/
theorem algebraic : Cert.algebraic_KernelIdeal_ReferenceIdeal := by
  intro m g m' g' _ h
  refine ⟨RefV.res m', ?_, RefV.run m' g'⟩
  refine (θ_run KernelIdeal.defs _ _).mono (fun r hr c => ?_) (run_main m g)
  obtain ⟨h0, h1, h2⟩ := hr.1 c
  exact ⟨h2.trans (outF_eq m g m' h c), h0, h1⟩

end Cert.Talk

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FrameK
public import proofs.«01_k».proof.Proof.Algebraic

@[expose] public section

noncomputable section

namespace Cert.Proof

open Idealize.ShloMosaic Idealize.SL.Sem

/-- The claims. -/
theorem claim : Cert.Claim := ⟨Cert.Kernel.Gen.facts, Cert.KernelIdeal.Gen.facts, Cert.ReferenceIdeal.Gen.facts,
  Cert.Talk.frame_kernel, Cert.Talk.frame_ideal, fun m ρ _ => Cert.ReferenceIdeal.Gen.frame m ρ, trivial, Cert.Talk.algebraic⟩

end Cert.Proof

end
